-- ==== Defs.lean ====
def Pre_Up [hPre_pre1 : Cert.Pre_pre1.Facts] (m : (ℓ : Loc Cert.Up.nD Cert.Up.τ Cert.Up.sig) → Buf (Elt Bits) ℓ) : Prop :=
  ∀ c : Dev Cert.Up.nD,
    (Cert.Pre_pre1.fn (F := Bits) (m ((c.tc : Thread Cert.Up.nD Cert.Up.τ).loc Cert.Up.main_arg0)) (m ((c.tc : Thread Cert.Up.nD Cert.Up.τ).loc Cert.Up.main_arg1)) (m ((c.tc : Thread Cert.Up.nD Cert.Up.τ).loc Cert.Up.main_arg2)) (m ((c.tc : Thread Cert.Up.nD Cert.Up.τ).loc Cert.Up.main_arg3)) (m ((c.tc : Thread Cert.Up.nD Cert.Up.τ).loc Cert.Up.main_arg4)) (m ((c.tc : Thread Cert.Up.nD Cert.Up.τ).loc Cert.Up.main_arg5)) (m ((c.tc : Thread Cert.Up.nD Cert.Up.τ).loc Cert.Up.main_arg6)) (m ((c.tc : Thread Cert.Up.nD Cert.Up.τ).loc Cert.Up.main_arg7))) = (fun _ => 1#1)

def Pre_UpIdeal [hPre_pre1 : Cert.Pre_pre1.Facts] (m : (ℓ : Loc Cert.UpIdeal.nD Cert.UpIdeal.τ Cert.UpIdeal.sig) → Buf (Elt Ideal) ℓ) : Prop :=
  ∀ c : Dev Cert.UpIdeal.nD,
    (Cert.Pre_pre1.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))) = (fun _ => 1#1)

def Pre_UpRefIdeal (m : (ℓ : Loc Cert.UpRefIdeal.nD Cert.UpRefIdeal.τ Cert.UpRefIdeal.sig) → Buf (Elt Ideal) ℓ) : Prop :=
  True

def Pre_UpRefIdeal_pre1 [hPre_pre1 : Cert.Pre_pre1.Facts] (m : (ℓ : Loc Cert.UpRefIdeal.nD Cert.UpRefIdeal.τ Cert.UpRefIdeal.sig) → Buf (Elt Ideal) ℓ) : Prop :=
  ∀ c : Dev Cert.UpRefIdeal.nD,
    (Cert.Pre_pre1.fn (F := Ideal) (m ((c.tc : Thread Cert.UpRefIdeal.nD Cert.UpRefIdeal.τ).loc Cert.UpRefIdeal.main_arg0)) (m ((c.tc : Thread Cert.UpRefIdeal.nD Cert.UpRefIdeal.τ).loc Cert.UpRefIdeal.main_arg1)) (m ((c.tc : Thread Cert.UpRefIdeal.nD Cert.UpRefIdeal.τ).loc Cert.UpRefIdeal.main_arg2)) (m ((c.tc : Thread Cert.UpRefIdeal.nD Cert.UpRefIdeal.τ).loc Cert.UpRefIdeal.main_arg3)) (m ((c.tc : Thread Cert.UpRefIdeal.nD Cert.UpRefIdeal.τ).loc Cert.UpRefIdeal.main_arg4)) (m ((c.tc : Thread Cert.UpRefIdeal.nD Cert.UpRefIdeal.τ).loc Cert.UpRefIdeal.main_arg5)) (m ((c.tc : Thread Cert.UpRefIdeal.nD Cert.UpRefIdeal.τ).loc Cert.UpRefIdeal.main_arg6)) (m ((c.tc : Thread Cert.UpRefIdeal.nD Cert.UpRefIdeal.τ).loc Cert.UpRefIdeal.main_arg7))) = (fun _ => 1#1)

def Pre_Down [hPre_pre2 : Cert.Pre_pre2.Facts] (m : (ℓ : Loc Cert.Down.nD Cert.Down.τ Cert.Down.sig) → Buf (Elt Bits) ℓ) : Prop :=
  ∀ c : Dev Cert.Down.nD,
    (Cert.Pre_pre2.fn (F := Bits) (m ((c.tc : Thread Cert.Down.nD Cert.Down.τ).loc Cert.Down.main_arg0)) (m ((c.tc : Thread Cert.Down.nD Cert.Down.τ).loc Cert.Down.main_arg1)) (m ((c.tc : Thread Cert.Down.nD Cert.Down.τ).loc Cert.Down.main_arg2)) (m ((c.tc : Thread Cert.Down.nD Cert.Down.τ).loc Cert.Down.main_arg3)) (m ((c.tc : Thread Cert.Down.nD Cert.Down.τ).loc Cert.Down.main_arg4)) (m ((c.tc : Thread Cert.Down.nD Cert.Down.τ).loc Cert.Down.main_arg5))) = (fun _ => 1#1)

def Pre_DownIdeal [hPre_pre2 : Cert.Pre_pre2.Facts] (m : (ℓ : Loc Cert.DownIdeal.nD Cert.DownIdeal.τ Cert.DownIdeal.sig) → Buf (Elt Ideal) ℓ) : Prop :=
  ∀ c : Dev Cert.DownIdeal.nD,
    (Cert.Pre_pre2.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) = (fun _ => 1#1)

def Pre_DownRefIdeal (m : (ℓ : Loc Cert.DownRefIdeal.nD Cert.DownRefIdeal.τ Cert.DownRefIdeal.sig) → Buf (Elt Ideal) ℓ) : Prop :=
  True

def Pre_DownRefIdeal_pre2 [hPre_pre2 : Cert.Pre_pre2.Facts] (m : (ℓ : Loc Cert.DownRefIdeal.nD Cert.DownRefIdeal.τ Cert.DownRefIdeal.sig) → Buf (Elt Ideal) ℓ) : Prop :=
  ∀ c : Dev Cert.DownRefIdeal.nD,
    (Cert.Pre_pre2.fn (F := Ideal) (m ((c.tc : Thread Cert.DownRefIdeal.nD Cert.DownRefIdeal.τ).loc Cert.DownRefIdeal.main_arg0)) (m ((c.tc : Thread Cert.DownRefIdeal.nD Cert.DownRefIdeal.τ).loc Cert.DownRefIdeal.main_arg1)) (m ((c.tc : Thread Cert.DownRefIdeal.nD Cert.DownRefIdeal.τ).loc Cert.DownRefIdeal.main_arg2)) (m ((c.tc : Thread Cert.DownRefIdeal.nD Cert.DownRefIdeal.τ).loc Cert.DownRefIdeal.main_arg3)) (m ((c.tc : Thread Cert.DownRefIdeal.nD Cert.DownRefIdeal.τ).loc Cert.DownRefIdeal.main_arg4)) (m ((c.tc : Thread Cert.DownRefIdeal.nD Cert.DownRefIdeal.τ).loc Cert.DownRefIdeal.main_arg5))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvRefIdeal (m : (ℓ : Loc Cert.QkvRefIdeal.nD Cert.QkvRefIdeal.τ Cert.QkvRefIdeal.sig) → Buf (Elt Ideal) ℓ) : Prop :=
  True

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Gated (m : (ℓ : Loc Cert.Gated.nD Cert.Gated.τ Cert.Gated.sig) → Buf (Elt Bits) ℓ) : Prop :=
  True

def Pre_GatedIdeal (m : (ℓ : Loc Cert.GatedIdeal.nD Cert.GatedIdeal.τ Cert.GatedIdeal.sig) → Buf (Elt Ideal) ℓ) : Prop :=
  True

def Pre_GatedRefIdeal (m : (ℓ : Loc Cert.GatedRefIdeal.nD Cert.GatedRefIdeal.τ Cert.GatedRefIdeal.sig) → Buf (Elt Ideal) ℓ) : Prop :=
  True

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def quiescent_Up [hUp : Cert.Up.Facts] [hPre_pre1 : Cert.Pre_pre1.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1)
      ∧ r.2.mem ((c.tc : Thread Cert.Up.nD Cert.Up.τ).loc Cert.Up.main_arg2) = m ((c.tc : Thread Cert.Up.nD Cert.Up.τ).loc Cert.Up.main_arg2)
      ∧ r.2.mem ((c.tc : Thread Cert.Up.nD Cert.Up.τ).loc Cert.Up.main_arg3) = m ((c.tc : Thread Cert.Up.nD Cert.Up.τ).loc Cert.Up.main_arg3)
      ∧ r.2.mem ((c.tc : Thread Cert.Up.nD Cert.Up.τ).loc Cert.Up.main_arg4) = m ((c.tc : Thread Cert.Up.nD Cert.Up.τ).loc Cert.Up.main_arg4)
      ∧ r.2.mem ((c.tc : Thread Cert.Up.nD Cert.Up.τ).loc Cert.Up.main_arg5) = m ((c.tc : Thread Cert.Up.nD Cert.Up.τ).loc Cert.Up.main_arg5)
      ∧ r.2.mem ((c.tc : Thread Cert.Up.nD Cert.Up.τ).loc Cert.Up.main_arg6) = m ((c.tc : Thread Cert.Up.nD Cert.Up.τ).loc Cert.Up.main_arg6)
      ∧ r.2.mem ((c.tc : Thread Cert.Up.nD Cert.Up.τ).loc Cert.Up.main_arg7) = m ((c.tc : Thread Cert.Up.nD Cert.Up.τ).loc Cert.Up.main_arg7))
      ∧ r.2.sem = fun _ => 0)

def quiescent_UpIdeal [hUpIdeal : Cert.UpIdeal.Facts] [hPre_pre1 : Cert.Pre_pre1.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
      ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
      ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
      ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
      ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
      ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
      ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7))
      ∧ r.2.sem = fun _ => 0)

def quiescent_UpRefIdeal_pre_pre1 [hUpRefIdeal : Cert.UpRefIdeal.Facts] [hPre_pre1 : Cert.Pre_pre1.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal_pre1 m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1)
      ∧ r.2.mem ((c.tc : Thread Cert.UpRefIdeal.nD Cert.UpRefIdeal.τ).loc Cert.UpRefIdeal.main_arg2) = m ((c.tc : Thread Cert.UpRefIdeal.nD Cert.UpRefIdeal.τ).loc Cert.UpRefIdeal.main_arg2)
      ∧ r.2.mem ((c.tc : Thread Cert.UpRefIdeal.nD Cert.UpRefIdeal.τ).loc Cert.UpRefIdeal.main_arg3) = m ((c.tc : Thread Cert.UpRefIdeal.nD Cert.UpRefIdeal.τ).loc Cert.UpRefIdeal.main_arg3)
      ∧ r.2.mem ((c.tc : Thread Cert.UpRefIdeal.nD Cert.UpRefIdeal.τ).loc Cert.UpRefIdeal.main_arg4) = m ((c.tc : Thread Cert.UpRefIdeal.nD Cert.UpRefIdeal.τ).loc Cert.UpRefIdeal.main_arg4)
      ∧ r.2.mem ((c.tc : Thread Cert.UpRefIdeal.nD Cert.UpRefIdeal.τ).loc Cert.UpRefIdeal.main_arg5) = m ((c.tc : Thread Cert.UpRefIdeal.nD Cert.UpRefIdeal.τ).loc Cert.UpRefIdeal.main_arg5)
      ∧ r.2.mem ((c.tc : Thread Cert.UpRefIdeal.nD Cert.UpRefIdeal.τ).loc Cert.UpRefIdeal.main_arg6) = m ((c.tc : Thread Cert.UpRefIdeal.nD Cert.UpRefIdeal.τ).loc Cert.UpRefIdeal.main_arg6)
      ∧ r.2.mem ((c.tc : Thread Cert.UpRefIdeal.nD Cert.UpRefIdeal.τ).loc Cert.UpRefIdeal.main_arg7) = m ((c.tc : Thread Cert.UpRefIdeal.nD Cert.UpRefIdeal.τ).loc Cert.UpRefIdeal.main_arg7))
      ∧ r.2.sem = fun _ => 0)

def quiescent_Down [hDown : Cert.Down.Facts] [hPre_pre2 : Cert.Pre_pre2.Facts] : Prop :=
  ∀ (m : (ℓ : Loc Cert.Down.nD Cert.Down.τ Cert.Down.sig) → Buf (Elt Bits) ℓ) (g : Dev Cert.Down.nD → PrngReg), Pre_Down m →
    θ_run (Cert.Down.defs (F := Bits)) (onTc (τ := Cert.Down.τ) (Cert.Down.main (F := Bits))) ⟨m, fun _ => 0, g⟩ (fun r => (∀ c : Dev Cert.Down.nD,
      r.2.mem ((c.tc : Thread Cert.Down.nD Cert.Down.τ).loc Cert.Down.main_arg0) = m ((c.tc : Thread Cert.Down.nD Cert.Down.τ).loc Cert.Down.main_arg0)
      ∧ r.2.mem ((c.tc : Thread Cert.Down.nD Cert.Down.τ).loc Cert.Down.main_arg1) = m ((c.tc : Thread Cert.Down.nD Cert.Down.τ).loc Cert.Down.main_arg1)
      ∧ r.2.mem ((c.tc : Thread Cert.Down.nD Cert.Down.τ).loc Cert.Down.main_arg2) = m ((c.tc : Thread Cert.Down.nD Cert.Down.τ).loc Cert.Down.main_arg2)
      ∧ r.2.mem ((c.tc : Thread Cert.Down.nD Cert.Down.τ).loc Cert.Down.main_arg3) = m ((c.tc : Thread Cert.Down.nD Cert.Down.τ).loc Cert.Down.main_arg3)
      ∧ r.2.mem ((c.tc : Thread Cert.Down.nD Cert.Down.τ).loc Cert.Down.main_arg4) = m ((c.tc : Thread Cert.Down.nD Cert.Down.τ).loc Cert.Down.main_arg4)
      ∧ r.2.mem ((c.tc : Thread Cert.Down.nD Cert.Down.τ).loc Cert.Down.main_arg5) = m ((c.tc : Thread Cert.Down.nD Cert.Down.τ).loc Cert.Down.main_arg5))
      ∧ r.2.sem = fun _ => 0)

def quiescent_DownIdeal [hDownIdeal : Cert.DownIdeal.Facts] [hPre_pre2 : Cert.Pre_pre2.Facts] : Prop :=
  ∀ (m : (ℓ : Loc Cert.DownIdeal.nD Cert.DownIdeal.τ Cert.DownIdeal.sig) → Buf (Elt Ideal) ℓ) (g : Dev Cert.DownIdeal.nD → PrngReg), Pre_DownIdeal m →
    θ_run (Cert.DownIdeal.defs (F := Ideal)) (onTc (τ := Cert.DownIdeal.τ) (Cert.DownIdeal.main (F := Ideal))) ⟨m, fun _ => 0, g⟩ (fun r => (∀ c : Dev Cert.DownIdeal.nD,
      r.2.mem ((c.tc : Thread Cert.DownIdeal.nD Cert.DownIdeal.τ).loc Cert.DownIdeal.main_arg0) = m ((c.tc : Thread Cert.DownIdeal.nD Cert.DownIdeal.τ).loc Cert.DownIdeal.main_arg0)
      ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
      ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
      ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
      ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
      ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ r.2.sem = fun _ => 0)

def quiescent_DownRefIdeal [hDownRefIdeal : Cert.DownRefIdeal.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_DownRefIdeal_pre_pre2 [hDownRefIdeal : Cert.DownRefIdeal.Facts] [hPre_pre2 : Cert.Pre_pre2.Facts] : Prop :=
  ∀ (m : (ℓ : Loc Cert.DownRefIdeal.nD Cert.DownRefIdeal.τ Cert.DownRefIdeal.sig) → Buf (Elt Ideal) ℓ) (g : Dev Cert.DownRefIdeal.nD → PrngReg), Pre_DownRefIdeal_pre2 m →
    θ_run (Cert.DownRefIdeal.defs (F := Ideal)) (onTc (τ := Cert.DownRefIdeal.τ) (Cert.DownRefIdeal.main (F := Ideal))) ⟨m, fun _ => 0, g⟩ (fun r => (∀ c : Dev Cert.DownRefIdeal.nD,
      r.2.mem ((c.tc : Thread Cert.DownRefIdeal.nD Cert.DownRefIdeal.τ).loc Cert.DownRefIdeal.main_arg0) = m ((c.tc : Thread Cert.DownRefIdeal.nD Cert.DownRefIdeal.τ).loc Cert.DownRefIdeal.main_arg0)
      ∧ r.2.mem ((c.tc : Thread Cert.DownRefIdeal.nD Cert.DownRefIdeal.τ).loc Cert.DownRefIdeal.main_arg1) = m ((c.tc : Thread Cert.DownRefIdeal.nD Cert.DownRefIdeal.τ).loc Cert.DownRefIdeal.main_arg1)
      ∧ r.2.mem ((c.tc : Thread Cert.DownRefIdeal.nD Cert.DownRefIdeal.τ).loc Cert.DownRefIdeal.main_arg2) = m ((c.tc : Thread Cert.DownRefIdeal.nD Cert.DownRefIdeal.τ).loc Cert.DownRefIdeal.main_arg2)
      ∧ r.2.mem ((c.tc : Thread Cert.DownRefIdeal.nD Cert.DownRefIdeal.τ).loc Cert.DownRefIdeal.main_arg3) = m ((c.tc : Thread Cert.DownRefIdeal.nD Cert.DownRefIdeal.τ).loc Cert.DownRefIdeal.main_arg3)
      ∧ r.2.mem ((c.tc : Thread Cert.DownRefIdeal.nD Cert.DownRefIdeal.τ).loc Cert.DownRefIdeal.main_arg4) = m ((c.tc : Thread Cert.DownRefIdeal.nD Cert.DownRefIdeal.τ).loc Cert.DownRefIdeal.main_arg4)
      ∧ r.2.mem ((c.tc : Thread Cert.DownRefIdeal.nD Cert.DownRefIdeal.τ).loc Cert.DownRefIdeal.main_arg5) = m ((c.tc : Thread Cert.DownRefIdeal.nD Cert.DownRefIdeal.τ).loc Cert.DownRefIdeal.main_arg5))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1)
      ∧ r.2.mem ((c.tc : Thread Cert.Qkv.nD Cert.Qkv.τ).loc Cert.Qkv.main_arg2) = m ((c.tc : Thread Cert.Qkv.nD Cert.Qkv.τ).loc Cert.Qkv.main_arg2)
      ∧ r.2.mem ((c.tc : Thread Cert.Qkv.nD Cert.Qkv.τ).loc Cert.Qkv.main_arg3) = m ((c.tc : Thread Cert.Qkv.nD Cert.Qkv.τ).loc Cert.Qkv.main_arg3))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
      ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
      ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ r.2.sem = fun _ => 0)

def quiescent_QkvRefIdeal [hQkvRefIdeal : Cert.QkvRefIdeal.Facts] : Prop :=
  ∀ (m : (ℓ : Loc Cert.QkvRefIdeal.nD Cert.QkvRefIdeal.τ Cert.QkvRefIdeal.sig) → Buf (Elt Ideal) ℓ) (g : Dev Cert.QkvRefIdeal.nD → PrngReg), Pre_QkvRefIdeal m →
    θ_run (Cert.QkvRefIdeal.defs (F := Ideal)) (onTc (τ := Cert.QkvRefIdeal.τ) (Cert.QkvRefIdeal.main (F := Ideal))) ⟨m, fun _ => 0, g⟩ (fun r => (∀ c : Dev Cert.QkvRefIdeal.nD,
      r.2.mem ((c.tc : Thread Cert.QkvRefIdeal.nD Cert.QkvRefIdeal.τ).loc Cert.QkvRefIdeal.main_arg0) = m ((c.tc : Thread Cert.QkvRefIdeal.nD Cert.QkvRefIdeal.τ).loc Cert.QkvRefIdeal.main_arg0)
      ∧ r.2.mem ((c.tc : Thread Cert.QkvRefIdeal.nD Cert.QkvRefIdeal.τ).loc Cert.QkvRefIdeal.main_arg1) = m ((c.tc : Thread Cert.QkvRefIdeal.nD Cert.QkvRefIdeal.τ).loc Cert.QkvRefIdeal.main_arg1)
      ∧ r.2.mem ((c.tc : Thread Cert.QkvRefIdeal.nD Cert.QkvRefIdeal.τ).loc Cert.QkvRefIdeal.main_arg2) = m ((c.tc : Thread Cert.QkvRefIdeal.nD Cert.QkvRefIdeal.τ).loc Cert.QkvRefIdeal.main_arg2)
      ∧ r.2.mem ((c.tc : Thread Cert.QkvRefIdeal.nD Cert.QkvRefIdeal.τ).loc Cert.QkvRefIdeal.main_arg3) = m ((c.tc : Thread Cert.QkvRefIdeal.nD Cert.QkvRefIdeal.τ).loc Cert.QkvRefIdeal.main_arg3))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5)
      ∧ r.2.mem ((c.tc : Thread Cert.Out.nD Cert.Out.τ).loc Cert.Out.main_arg6) = m ((c.tc : Thread Cert.Out.nD Cert.Out.τ).loc Cert.Out.main_arg6))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
      ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4)
      ∧ r.2.mem ((c.tc : Thread Cert.OutRefIdeal.nD Cert.OutRefIdeal.τ).loc Cert.OutRefIdeal.main_arg5) = m ((c.tc : Thread Cert.OutRefIdeal.nD Cert.OutRefIdeal.τ).loc Cert.OutRefIdeal.main_arg5)
      ∧ r.2.mem ((c.tc : Thread Cert.OutRefIdeal.nD Cert.OutRefIdeal.τ).loc Cert.OutRefIdeal.main_arg6) = m ((c.tc : Thread Cert.OutRefIdeal.nD Cert.OutRefIdeal.τ).loc Cert.OutRefIdeal.main_arg6))
      ∧ r.2.sem = fun _ => 0)

def quiescent_Gated [hGated : Cert.Gated.Facts] : Prop :=
  ∀ (m : (ℓ : Loc Cert.Gated.nD Cert.Gated.τ Cert.Gated.sig) → Buf (Elt Bits) ℓ) (g : Dev Cert.Gated.nD → PrngReg), Pre_Gated m →
    θ_run (Cert.Gated.defs (F := Bits)) (onTc (τ := Cert.Gated.τ) (Cert.Gated.main (F := Bits))) ⟨m, fun _ => 0, g⟩ (fun r => (∀ c : Dev Cert.Gated.nD,
      r.2.mem ((c.tc : Thread Cert.Gated.nD Cert.Gated.τ).loc Cert.Gated.main_arg0) = m ((c.tc : Thread Cert.Gated.nD Cert.Gated.τ).loc Cert.Gated.main_arg0)
      ∧ r.2.mem ((c.tc : Thread Cert.Gated.nD Cert.Gated.τ).loc Cert.Gated.main_arg1) = m ((c.tc : Thread Cert.Gated.nD Cert.Gated.τ).loc Cert.Gated.main_arg1)
      ∧ r.2.mem ((c.tc : Thread Cert.Gated.nD Cert.Gated.τ).loc Cert.Gated.main_arg2) = m ((c.tc : Thread Cert.Gated.nD Cert.Gated.τ).loc Cert.Gated.main_arg2))
      ∧ r.2.sem = fun _ => 0)

def quiescent_GatedIdeal [hGatedIdeal : Cert.GatedIdeal.Facts] : Prop :=
  ∀ (m : (ℓ : Loc Cert.GatedIdeal.nD Cert.GatedIdeal.τ Cert.GatedIdeal.sig) → Buf (Elt Ideal) ℓ) (g : Dev Cert.GatedIdeal.nD → PrngReg), Pre_GatedIdeal m →
    θ_run (Cert.GatedIdeal.defs (F := Ideal)) (onTc (τ := Cert.GatedIdeal.τ) (Cert.GatedIdeal.main (F := Ideal))) ⟨m, fun _ => 0, g⟩ (fun r => (∀ c : Dev Cert.GatedIdeal.nD,
      r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
      ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
      ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ r.2.sem = fun _ => 0)

def quiescent_GatedRefIdeal [hGatedRefIdeal : Cert.GatedRefIdeal.Facts] : Prop :=
  ∀ (m : (ℓ : Loc Cert.GatedRefIdeal.nD Cert.GatedRefIdeal.τ Cert.GatedRefIdeal.sig) → Buf (Elt Ideal) ℓ) (g : Dev Cert.GatedRefIdeal.nD → PrngReg), Pre_GatedRefIdeal m →
    θ_run (Cert.GatedRefIdeal.defs (F := Ideal)) (onTc (τ := Cert.GatedRefIdeal.τ) (Cert.GatedRefIdeal.main (F := Ideal))) ⟨m, fun _ => 0, g⟩ (fun r => (∀ c : Dev Cert.GatedRefIdeal.nD,
      r.2.mem ((c.tc : Thread Cert.GatedRefIdeal.nD Cert.GatedRefIdeal.τ).loc Cert.GatedRefIdeal.main_arg0) = m ((c.tc : Thread Cert.GatedRefIdeal.nD Cert.GatedRefIdeal.τ).loc Cert.GatedRefIdeal.main_arg0)
      ∧ r.2.mem ((c.tc : Thread Cert.GatedRefIdeal.nD Cert.GatedRefIdeal.τ).loc Cert.GatedRefIdeal.main_arg1) = m ((c.tc : Thread Cert.GatedRefIdeal.nD Cert.GatedRefIdeal.τ).loc Cert.GatedRefIdeal.main_arg1)
      ∧ r.2.mem ((c.tc : Thread Cert.GatedRefIdeal.nD Cert.GatedRefIdeal.τ).loc Cert.GatedRefIdeal.main_arg2) = m ((c.tc : Thread Cert.GatedRefIdeal.nD Cert.GatedRefIdeal.τ).loc Cert.GatedRefIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2))
      ∧ r.2.sem = fun _ => 0)

def preserves_Up_UpIdeal : Prop :=
  True

def algebraic_UpIdeal_UpRefIdeal_on_on1 [hUpIdeal : Cert.UpIdeal.Facts] [hUpRefIdeal : Cert.UpRefIdeal.Facts] [hPre_pre1 : Cert.Pre_pre1.Facts] [hOn_on1 : Cert.On_on1.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)
      ∧ m' ((c.tc : Thread Cert.UpRefIdeal.nD Cert.UpRefIdeal.τ).loc Cert.UpRefIdeal.main_arg2) = m ((c.tc : Thread Cert.UpIdeal.nD Cert.UpIdeal.τ).loc Cert.UpIdeal.main_arg2)
      ∧ m' ((c.tc : Thread Cert.UpRefIdeal.nD Cert.UpRefIdeal.τ).loc Cert.UpRefIdeal.main_arg3) = m ((c.tc : Thread Cert.UpIdeal.nD Cert.UpIdeal.τ).loc Cert.UpIdeal.main_arg3)
      ∧ m' ((c.tc : Thread Cert.UpRefIdeal.nD Cert.UpRefIdeal.τ).loc Cert.UpRefIdeal.main_arg4) = m ((c.tc : Thread Cert.UpIdeal.nD Cert.UpIdeal.τ).loc Cert.UpIdeal.main_arg4)
      ∧ m' ((c.tc : Thread Cert.UpRefIdeal.nD Cert.UpRefIdeal.τ).loc Cert.UpRefIdeal.main_arg5) = m ((c.tc : Thread Cert.UpIdeal.nD Cert.UpIdeal.τ).loc Cert.UpIdeal.main_arg5)
      ∧ m' ((c.tc : Thread Cert.UpRefIdeal.nD Cert.UpRefIdeal.τ).loc Cert.UpRefIdeal.main_arg6) = m ((c.tc : Thread Cert.UpIdeal.nD Cert.UpIdeal.τ).loc Cert.UpIdeal.main_arg6)
      ∧ m' ((c.tc : Thread Cert.UpRefIdeal.nD Cert.UpRefIdeal.τ).loc Cert.UpRefIdeal.main_arg7) = m ((c.tc : Thread Cert.UpIdeal.nD Cert.UpIdeal.τ).loc Cert.UpIdeal.main_arg7)) →
    ∃ (v0 : (c : Dev Cert.UpIdeal.nD) → Buf (Elt Ideal) ((c.tc : Thread Cert.UpIdeal.nD Cert.UpIdeal.τ).loc Cert.UpIdeal.main_v0_0)) (v1 : (c : Dev Cert.UpIdeal.nD) → Buf (Elt Ideal) ((c.tc : Thread Cert.UpIdeal.nD Cert.UpIdeal.τ).loc Cert.UpIdeal.main_v0_1)),
      θ_run (Cert.UpIdeal.defs (F := Ideal)) (onTc (τ := Cert.UpIdeal.τ) (Cert.UpIdeal.main (F := Ideal))) ⟨m, fun _ => 0, g⟩ (fun r => ∀ c : Dev Cert.UpIdeal.nD,
          (∀ i : (⟨2, ![5120, 9216]⟩ : Shape).Idx, (Cert.On_on1.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).1 i = 1#1 → r.2.mem ((c.tc : Thread Cert.UpIdeal.nD Cert.UpIdeal.τ).loc Cert.UpIdeal.main_v0_0) i = v0 c i)
          ∧ (∀ i : (⟨2, ![5120, 128]⟩ : Shape).Idx, (Cert.On_on1.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2 i = 1#1 → r.2.mem ((c.tc : Thread Cert.UpIdeal.nD Cert.UpIdeal.τ).loc Cert.UpIdeal.main_v0_1) i = v1 c i)
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1)
          ∧ r.2.mem ((c.tc : Thread Cert.UpIdeal.nD Cert.UpIdeal.τ).loc Cert.UpIdeal.main_arg2) = m ((c.tc : Thread Cert.UpIdeal.nD Cert.UpIdeal.τ).loc Cert.UpIdeal.main_arg2)
          ∧ r.2.mem ((c.tc : Thread Cert.UpIdeal.nD Cert.UpIdeal.τ).loc Cert.UpIdeal.main_arg3) = m ((c.tc : Thread Cert.UpIdeal.nD Cert.UpIdeal.τ).loc Cert.UpIdeal.main_arg3)
          ∧ r.2.mem ((c.tc : Thread Cert.UpIdeal.nD Cert.UpIdeal.τ).loc Cert.UpIdeal.main_arg4) = m ((c.tc : Thread Cert.UpIdeal.nD Cert.UpIdeal.τ).loc Cert.UpIdeal.main_arg4)
          ∧ r.2.mem ((c.tc : Thread Cert.UpIdeal.nD Cert.UpIdeal.τ).loc Cert.UpIdeal.main_arg5) = m ((c.tc : Thread Cert.UpIdeal.nD Cert.UpIdeal.τ).loc Cert.UpIdeal.main_arg5)
          ∧ r.2.mem ((c.tc : Thread Cert.UpIdeal.nD Cert.UpIdeal.τ).loc Cert.UpIdeal.main_arg6) = m ((c.tc : Thread Cert.UpIdeal.nD Cert.UpIdeal.τ).loc Cert.UpIdeal.main_arg6)
          ∧ r.2.mem ((c.tc : Thread Cert.UpIdeal.nD Cert.UpIdeal.τ).loc Cert.UpIdeal.main_arg7) = m ((c.tc : Thread Cert.UpIdeal.nD Cert.UpIdeal.τ).loc Cert.UpIdeal.main_arg7))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          (∀ i : (⟨2, ![5120, 9216]⟩ : Shape).Idx, (Cert.On_on1.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).1 i = 1#1 → r.2.mem ((c.tc : Thread Cert.UpRefIdeal.nD Cert.UpRefIdeal.τ).loc Cert.UpRefIdeal.main_v224) i = v0 c i)
          ∧ (∀ i : (⟨2, ![5120, 128]⟩ : Shape).Idx, (Cert.On_on1.fn (F := Ideal) (m ((c.tc : Thread Cert.UpIdeal.nD Cert.UpIdeal.τ).loc Cert.UpIdeal.main_arg0)) (m ((c.tc : Thread Cert.UpIdeal.nD Cert.UpIdeal.τ).loc Cert.UpIdeal.main_arg1)) (m ((c.tc : Thread Cert.UpIdeal.nD Cert.UpIdeal.τ).loc Cert.UpIdeal.main_arg2)) (m ((c.tc : Thread Cert.UpIdeal.nD Cert.UpIdeal.τ).loc Cert.UpIdeal.main_arg3)) (m ((c.tc : Thread Cert.UpIdeal.nD Cert.UpIdeal.τ).loc Cert.UpIdeal.main_arg4)) (m ((c.tc : Thread Cert.UpIdeal.nD Cert.UpIdeal.τ).loc Cert.UpIdeal.main_arg5)) (m ((c.tc : Thread Cert.UpIdeal.nD Cert.UpIdeal.τ).loc Cert.UpIdeal.main_arg6)) (m ((c.tc : Thread Cert.UpIdeal.nD Cert.UpIdeal.τ).loc Cert.UpIdeal.main_arg7))).2 i = 1#1 → r.2.mem ((c.tc : Thread Cert.UpRefIdeal.nD Cert.UpRefIdeal.τ).loc Cert.UpRefIdeal.main_v227) i = v1 c i)
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1)
          ∧ r.2.mem ((c.tc : Thread Cert.UpRefIdeal.nD Cert.UpRefIdeal.τ).loc Cert.UpRefIdeal.main_arg2) = m' ((c.tc : Thread Cert.UpRefIdeal.nD Cert.UpRefIdeal.τ).loc Cert.UpRefIdeal.main_arg2)
          ∧ r.2.mem ((c.tc : Thread Cert.UpRefIdeal.nD Cert.UpRefIdeal.τ).loc Cert.UpRefIdeal.main_arg3) = m' ((c.tc : Thread Cert.UpRefIdeal.nD Cert.UpRefIdeal.τ).loc Cert.UpRefIdeal.main_arg3)
          ∧ r.2.mem ((c.tc : Thread Cert.UpRefIdeal.nD Cert.UpRefIdeal.τ).loc Cert.UpRefIdeal.main_arg4) = m' ((c.tc : Thread Cert.UpRefIdeal.nD Cert.UpRefIdeal.τ).loc Cert.UpRefIdeal.main_arg4)
          ∧ r.2.mem ((c.tc : Thread Cert.UpRefIdeal.nD Cert.UpRefIdeal.τ).loc Cert.UpRefIdeal.main_arg5) = m' ((c.tc : Thread Cert.UpRefIdeal.nD Cert.UpRefIdeal.τ).loc Cert.UpRefIdeal.main_arg5)
          ∧ r.2.mem ((c.tc : Thread Cert.UpRefIdeal.nD Cert.UpRefIdeal.τ).loc Cert.UpRefIdeal.main_arg6) = m' ((c.tc : Thread Cert.UpRefIdeal.nD Cert.UpRefIdeal.τ).loc Cert.UpRefIdeal.main_arg6)
          ∧ r.2.mem ((c.tc : Thread Cert.UpRefIdeal.nD Cert.UpRefIdeal.τ).loc Cert.UpRefIdeal.main_arg7) = m' ((c.tc : Thread Cert.UpRefIdeal.nD Cert.UpRefIdeal.τ).loc Cert.UpRefIdeal.main_arg7))

def preserves_Down_DownIdeal : Prop :=
  True

def algebraic_DownIdeal_DownRefIdeal_on_on2 [hDownIdeal : Cert.DownIdeal.Facts] [hDownRefIdeal : Cert.DownRefIdeal.Facts] [hPre_pre2 : Cert.Pre_pre2.Facts] [hOn_on2 : Cert.On_on2.Facts] : Prop :=
  ∀ (m : (ℓ : Loc Cert.DownIdeal.nD Cert.DownIdeal.τ Cert.DownIdeal.sig) → Buf (Elt Ideal) ℓ) (g : Dev Cert.DownIdeal.nD → PrngReg)
    (m' : (ℓ : Loc Cert.DownRefIdeal.nD Cert.DownRefIdeal.τ Cert.DownRefIdeal.sig) → Buf (Elt Ideal) ℓ) (g' : Dev Cert.DownRefIdeal.nD → PrngReg), Pre_DownIdeal m →
    (∀ c : Dev Cert.DownIdeal.nD,
      m' ((c.tc : Thread Cert.DownRefIdeal.nD Cert.DownRefIdeal.τ).loc Cert.DownRefIdeal.main_arg0) = m ((c.tc : Thread Cert.DownIdeal.nD Cert.DownIdeal.τ).loc Cert.DownIdeal.main_arg0)
      ∧ m' ((c.tc : Thread Cert.DownRefIdeal.nD Cert.DownRefIdeal.τ).loc Cert.DownRefIdeal.main_arg1) = m ((c.tc : Thread Cert.DownIdeal.nD Cert.DownIdeal.τ).loc Cert.DownIdeal.main_arg1)
      ∧ m' ((c.tc : Thread Cert.DownRefIdeal.nD Cert.DownRefIdeal.τ).loc Cert.DownRefIdeal.main_arg2) = m ((c.tc : Thread Cert.DownIdeal.nD Cert.DownIdeal.τ).loc Cert.DownIdeal.main_arg2)
      ∧ m' ((c.tc : Thread Cert.DownRefIdeal.nD Cert.DownRefIdeal.τ).loc Cert.DownRefIdeal.main_arg3) = m ((c.tc : Thread Cert.DownIdeal.nD Cert.DownIdeal.τ).loc Cert.DownIdeal.main_arg3)
      ∧ m' ((c.tc : Thread Cert.DownRefIdeal.nD Cert.DownRefIdeal.τ).loc Cert.DownRefIdeal.main_arg4) = m ((c.tc : Thread Cert.DownIdeal.nD Cert.DownIdeal.τ).loc Cert.DownIdeal.main_arg4)
      ∧ m' ((c.tc : Thread Cert.DownRefIdeal.nD Cert.DownRefIdeal.τ).loc Cert.DownRefIdeal.main_arg5) = m ((c.tc : Thread Cert.DownIdeal.nD Cert.DownIdeal.τ).loc Cert.DownIdeal.main_arg5)) →
    ∃ (v0 : (c : Dev Cert.DownIdeal.nD) → Buf (Elt Ideal) ((c.tc : Thread Cert.DownIdeal.nD Cert.DownIdeal.τ).loc Cert.DownIdeal.main_v0)),
      θ_run (Cert.DownIdeal.defs (F := Ideal)) (onTc (τ := Cert.DownIdeal.τ) (Cert.DownIdeal.main (F := Ideal))) ⟨m, fun _ => 0, g⟩ (fun r => ∀ c : Dev Cert.DownIdeal.nD,
          (∀ i : (⟨2, ![5120, 6144]⟩ : Shape).Idx, (Cert.On_on2.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) i = 1#1 → r.2.mem ((c.tc : Thread Cert.DownIdeal.nD Cert.DownIdeal.τ).loc Cert.DownIdeal.main_v0) i = v0 c i)
          ∧ r.2.mem ((c.tc : Thread Cert.DownIdeal.nD Cert.DownIdeal.τ).loc Cert.DownIdeal.main_arg0) = m ((c.tc : Thread Cert.DownIdeal.nD Cert.DownIdeal.τ).loc Cert.DownIdeal.main_arg0)
          ∧ r.2.mem ((c.tc : Thread Cert.DownIdeal.nD Cert.DownIdeal.τ).loc Cert.DownIdeal.main_arg1) = m ((c.tc : Thread Cert.DownIdeal.nD Cert.DownIdeal.τ).loc Cert.DownIdeal.main_arg1)
          ∧ r.2.mem ((c.tc : Thread Cert.DownIdeal.nD Cert.DownIdeal.τ).loc Cert.DownIdeal.main_arg2) = m ((c.tc : Thread Cert.DownIdeal.nD Cert.DownIdeal.τ).loc Cert.DownIdeal.main_arg2)
          ∧ r.2.mem ((c.tc : Thread Cert.DownIdeal.nD Cert.DownIdeal.τ).loc Cert.DownIdeal.main_arg3) = m ((c.tc : Thread Cert.DownIdeal.nD Cert.DownIdeal.τ).loc Cert.DownIdeal.main_arg3)
          ∧ r.2.mem ((c.tc : Thread Cert.DownIdeal.nD Cert.DownIdeal.τ).loc Cert.DownIdeal.main_arg4) = m ((c.tc : Thread Cert.DownIdeal.nD Cert.DownIdeal.τ).loc Cert.DownIdeal.main_arg4)
          ∧ r.2.mem ((c.tc : Thread Cert.DownIdeal.nD Cert.DownIdeal.τ).loc Cert.DownIdeal.main_arg5) = m ((c.tc : Thread Cert.DownIdeal.nD Cert.DownIdeal.τ).loc Cert.DownIdeal.main_arg5))
      ∧ θ_run (Cert.DownRefIdeal.defs (F := Ideal)) (onTc (τ := Cert.DownRefIdeal.τ) (Cert.DownRefIdeal.main (F := Ideal))) ⟨m', fun _ => 0, g'⟩ (fun r => ∀ c : Dev Cert.DownRefIdeal.nD,
          (∀ i : (⟨2, ![5120, 6144]⟩ : Shape).Idx, (Cert.On_on2.fn (F := Ideal) (m ((c.tc : Thread Cert.DownIdeal.nD Cert.DownIdeal.τ).loc Cert.DownIdeal.main_arg0)) (m ((c.tc : Thread Cert.DownIdeal.nD Cert.DownIdeal.τ).loc Cert.DownIdeal.main_arg1)) (m ((c.tc : Thread Cert.DownIdeal.nD Cert.DownIdeal.τ).loc Cert.DownIdeal.main_arg2)) (m ((c.tc : Thread Cert.DownIdeal.nD Cert.DownIdeal.τ).loc Cert.DownIdeal.main_arg3)) (m ((c.tc : Thread Cert.DownIdeal.nD Cert.DownIdeal.τ).loc Cert.DownIdeal.main_arg4)) (m ((c.tc : Thread Cert.DownIdeal.nD Cert.DownIdeal.τ).loc Cert.DownIdeal.main_arg5))) i = 1#1 → r.2.mem ((c.tc : Thread Cert.DownRefIdeal.nD Cert.DownRefIdeal.τ).loc Cert.DownRefIdeal.main_v120) i = v0 c i)
          ∧ r.2.mem ((c.tc : Thread Cert.DownRefIdeal.nD Cert.DownRefIdeal.τ).loc Cert.DownRefIdeal.main_arg0) = m' ((c.tc : Thread Cert.DownRefIdeal.nD Cert.DownRefIdeal.τ).loc Cert.DownRefIdeal.main_arg0)
          ∧ r.2.mem ((c.tc : Thread Cert.DownRefIdeal.nD Cert.DownRefIdeal.τ).loc Cert.DownRefIdeal.main_arg1) = m' ((c.tc : Thread Cert.DownRefIdeal.nD Cert.DownRefIdeal.τ).loc Cert.DownRefIdeal.main_arg1)
          ∧ r.2.mem ((c.tc : Thread Cert.DownRefIdeal.nD Cert.DownRefIdeal.τ).loc Cert.DownRefIdeal.main_arg2) = m' ((c.tc : Thread Cert.DownRefIdeal.nD Cert.DownRefIdeal.τ).loc Cert.DownRefIdeal.main_arg2)
          ∧ r.2.mem ((c.tc : Thread Cert.DownRefIdeal.nD Cert.DownRefIdeal.τ).loc Cert.DownRefIdeal.main_arg3) = m' ((c.tc : Thread Cert.DownRefIdeal.nD Cert.DownRefIdeal.τ).loc Cert.DownRefIdeal.main_arg3)
          ∧ r.2.mem ((c.tc : Thread Cert.DownRefIdeal.nD Cert.DownRefIdeal.τ).loc Cert.DownRefIdeal.main_arg4) = m' ((c.tc : Thread Cert.DownRefIdeal.nD Cert.DownRefIdeal.τ).loc Cert.DownRefIdeal.main_arg4)
          ∧ r.2.mem ((c.tc : Thread Cert.DownRefIdeal.nD Cert.DownRefIdeal.τ).loc Cert.DownRefIdeal.main_arg5) = m' ((c.tc : Thread Cert.DownRefIdeal.nD Cert.DownRefIdeal.τ).loc Cert.DownRefIdeal.main_arg5))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)) (v3 : (c : Dev Cert.NormIdeal.nD) → Buf (Elt Ideal) ((c.tc : Thread Cert.NormIdeal.nD Cert.NormIdeal.τ).loc Cert.NormIdeal.main_v0_3)) (v4 : (c : Dev Cert.NormIdeal.nD) → Buf (Elt Ideal) ((c.tc : Thread Cert.NormIdeal.nD Cert.NormIdeal.τ).loc Cert.NormIdeal.main_v0_4)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_v0_3) = v3 c
          ∧ r.2.mem ((c.tc : Thread Cert.NormIdeal.nD Cert.NormIdeal.τ).loc Cert.NormIdeal.main_v0_4) = v4 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v26) = v0 c
          ∧ r.2.mem ((c.tc : Thread Cert.NormRefIdeal.nD Cert.NormRefIdeal.τ).loc Cert.NormRefIdeal.main_v27) = v1 c
          ∧ r.2.mem ((c.tc : Thread Cert.NormRefIdeal.nD Cert.NormRefIdeal.τ).loc Cert.NormRefIdeal.main_v20) = v2 c
          ∧ r.2.mem ((c.tc : Thread Cert.NormRefIdeal.nD Cert.NormRefIdeal.τ).loc Cert.NormRefIdeal.main_v28) = v3 c
          ∧ r.2.mem ((c.tc : Thread Cert.NormRefIdeal.nD Cert.NormRefIdeal.τ).loc Cert.NormRefIdeal.main_v36) = v4 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1))

def preserves_Qkv_QkvIdeal : Prop :=
  True

def algebraic_QkvIdeal_QkvRefIdeal [hQkvIdeal : Cert.QkvIdeal.Facts] [hQkvRefIdeal : Cert.QkvRefIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvRefIdeal.nD Cert.QkvRefIdeal.τ Cert.QkvRefIdeal.sig) → Buf (Elt Ideal) ℓ) (g' : Dev Cert.QkvRefIdeal.nD → PrngReg), Pre_QkvIdeal m →
    (∀ c : Dev Cert.QkvIdeal.nD,
      m' ((c.tc : Thread Cert.QkvRefIdeal.nD Cert.QkvRefIdeal.τ).loc Cert.QkvRefIdeal.main_arg0) = m ((c.tc : Thread Cert.QkvIdeal.nD Cert.QkvIdeal.τ).loc Cert.QkvIdeal.main_arg0)
      ∧ m' ((c.tc : Thread Cert.QkvRefIdeal.nD Cert.QkvRefIdeal.τ).loc Cert.QkvRefIdeal.main_arg1) = m ((c.tc : Thread Cert.QkvIdeal.nD Cert.QkvIdeal.τ).loc Cert.QkvIdeal.main_arg1)
      ∧ m' ((c.tc : Thread Cert.QkvRefIdeal.nD Cert.QkvRefIdeal.τ).loc Cert.QkvRefIdeal.main_arg2) = m ((c.tc : Thread Cert.QkvIdeal.nD Cert.QkvIdeal.τ).loc Cert.QkvIdeal.main_arg2)
      ∧ m' ((c.tc : Thread Cert.QkvRefIdeal.nD Cert.QkvRefIdeal.τ).loc Cert.QkvRefIdeal.main_arg3) = m ((c.tc : Thread Cert.QkvIdeal.nD Cert.QkvIdeal.τ).loc Cert.QkvIdeal.main_arg3)) →
    ∃ (v0 : (c : Dev Cert.QkvIdeal.nD) → Buf (Elt Ideal) ((c.tc : Thread Cert.QkvIdeal.nD Cert.QkvIdeal.τ).loc Cert.QkvIdeal.main_v4)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v4) = v0 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1)
          ∧ r.2.mem ((c.tc : Thread Cert.QkvIdeal.nD Cert.QkvIdeal.τ).loc Cert.QkvIdeal.main_arg2) = m ((c.tc : Thread Cert.QkvIdeal.nD Cert.QkvIdeal.τ).loc Cert.QkvIdeal.main_arg2)
          ∧ r.2.mem ((c.tc : Thread Cert.QkvIdeal.nD Cert.QkvIdeal.τ).loc Cert.QkvIdeal.main_arg3) = m ((c.tc : Thread Cert.QkvIdeal.nD Cert.QkvIdeal.τ).loc Cert.QkvIdeal.main_arg3))
      ∧ θ_run (Cert.QkvRefIdeal.defs (F := Ideal)) (onTc (τ := Cert.QkvRefIdeal.τ) (Cert.QkvRefIdeal.main (F := Ideal))) ⟨m', fun _ => 0, g'⟩ (fun r => ∀ c : Dev Cert.QkvRefIdeal.nD,
          r.2.mem ((c.tc : Thread Cert.QkvRefIdeal.nD Cert.QkvRefIdeal.τ).loc Cert.QkvRefIdeal.main_v48) = v0 c
          ∧ r.2.mem ((c.tc : Thread Cert.QkvRefIdeal.nD Cert.QkvRefIdeal.τ).loc Cert.QkvRefIdeal.main_arg0) = m' ((c.tc : Thread Cert.QkvRefIdeal.nD Cert.QkvRefIdeal.τ).loc Cert.QkvRefIdeal.main_arg0)
          ∧ r.2.mem ((c.tc : Thread Cert.QkvRefIdeal.nD Cert.QkvRefIdeal.τ).loc Cert.QkvRefIdeal.main_arg1) = m' ((c.tc : Thread Cert.QkvRefIdeal.nD Cert.QkvRefIdeal.τ).loc Cert.QkvRefIdeal.main_arg1)
          ∧ r.2.mem ((c.tc : Thread Cert.QkvRefIdeal.nD Cert.QkvRefIdeal.τ).loc Cert.QkvRefIdeal.main_arg2) = m' ((c.tc : Thread Cert.QkvRefIdeal.nD Cert.QkvRefIdeal.τ).loc Cert.QkvRefIdeal.main_arg2)
          ∧ r.2.mem ((c.tc : Thread Cert.QkvRefIdeal.nD Cert.QkvRefIdeal.τ).loc Cert.QkvRefIdeal.main_arg3) = m' ((c.tc : Thread Cert.QkvRefIdeal.nD Cert.QkvRefIdeal.τ).loc Cert.QkvRefIdeal.main_arg3))

def preserves_Gate_GateIdeal : Prop :=
  True

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v1) = v0 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v7) = v0 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)
      ∧ m' ((c.tc : Thread Cert.OutRefIdeal.nD Cert.OutRefIdeal.τ).loc Cert.OutRefIdeal.main_arg5) = m ((c.tc : Thread Cert.OutIdeal.nD Cert.OutIdeal.τ).loc Cert.OutIdeal.main_arg5)
      ∧ m' ((c.tc : Thread Cert.OutRefIdeal.nD Cert.OutRefIdeal.τ).loc Cert.OutRefIdeal.main_arg6) = m ((c.tc : Thread Cert.OutIdeal.nD Cert.OutIdeal.τ).loc Cert.OutIdeal.main_arg6)) →
    ∃ (v0 : (c : Dev Cert.OutIdeal.nD) → Buf (Elt Ideal) ((c.tc : Thread Cert.OutIdeal.nD Cert.OutIdeal.τ).loc Cert.OutIdeal.main_v1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v1) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5)
          ∧ r.2.mem ((c.tc : Thread Cert.OutIdeal.nD Cert.OutIdeal.τ).loc Cert.OutIdeal.main_arg6) = m ((c.tc : Thread Cert.OutIdeal.nD Cert.OutIdeal.τ).loc Cert.OutIdeal.main_arg6))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v17) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4)
          ∧ r.2.mem ((c.tc : Thread Cert.OutRefIdeal.nD Cert.OutRefIdeal.τ).loc Cert.OutRefIdeal.main_arg5) = m' ((c.tc : Thread Cert.OutRefIdeal.nD Cert.OutRefIdeal.τ).loc Cert.OutRefIdeal.main_arg5)
          ∧ r.2.mem ((c.tc : Thread Cert.OutRefIdeal.nD Cert.OutRefIdeal.τ).loc Cert.OutRefIdeal.main_arg6) = m' ((c.tc : Thread Cert.OutRefIdeal.nD Cert.OutRefIdeal.τ).loc Cert.OutRefIdeal.main_arg6))

def preserves_Gated_GatedIdeal : Prop :=
  True

def algebraic_GatedIdeal_GatedRefIdeal [hGatedIdeal : Cert.GatedIdeal.Facts] [hGatedRefIdeal : Cert.GatedRefIdeal.Facts] : Prop :=
  ∀ (m : (ℓ : Loc Cert.GatedIdeal.nD Cert.GatedIdeal.τ Cert.GatedIdeal.sig) → Buf (Elt Ideal) ℓ) (g : Dev Cert.GatedIdeal.nD → PrngReg)
    (m' : (ℓ : Loc Cert.GatedRefIdeal.nD Cert.GatedRefIdeal.τ Cert.GatedRefIdeal.sig) → Buf (Elt Ideal) ℓ) (g' : Dev Cert.GatedRefIdeal.nD → PrngReg), Pre_GatedIdeal m →
    (∀ c : Dev Cert.GatedIdeal.nD,
      m' ((c.tc : Thread Cert.GatedRefIdeal.nD Cert.GatedRefIdeal.τ).loc Cert.GatedRefIdeal.main_arg0) = m ((c.tc : Thread Cert.GatedIdeal.nD Cert.GatedIdeal.τ).loc Cert.GatedIdeal.main_arg0)
      ∧ m' ((c.tc : Thread Cert.GatedRefIdeal.nD Cert.GatedRefIdeal.τ).loc Cert.GatedRefIdeal.main_arg1) = m ((c.tc : Thread Cert.GatedIdeal.nD Cert.GatedIdeal.τ).loc Cert.GatedIdeal.main_arg1)
      ∧ m' ((c.tc : Thread Cert.GatedRefIdeal.nD Cert.GatedRefIdeal.τ).loc Cert.GatedRefIdeal.main_arg2) = m ((c.tc : Thread Cert.GatedIdeal.nD Cert.GatedIdeal.τ).loc Cert.GatedIdeal.main_arg2)) →
    ∃ (v0 : (c : Dev Cert.GatedIdeal.nD) → Buf (Elt Ideal) ((c.tc : Thread Cert.GatedIdeal.nD Cert.GatedIdeal.τ).loc Cert.GatedIdeal.main_v0_0)) (v1 : (c : Dev Cert.GatedIdeal.nD) → Buf (Elt Ideal) ((c.tc : Thread Cert.GatedIdeal.nD Cert.GatedIdeal.τ).loc Cert.GatedIdeal.main_v0_1)) (v2 : (c : Dev Cert.GatedIdeal.nD) → Buf (Elt Ideal) ((c.tc : Thread Cert.GatedIdeal.nD Cert.GatedIdeal.τ).loc Cert.GatedIdeal.main_v0_2)) (v3 : (c : Dev Cert.GatedIdeal.nD) → Buf (Elt Ideal) ((c.tc : Thread Cert.GatedIdeal.nD Cert.GatedIdeal.τ).loc Cert.GatedIdeal.main_v0_3)),
      θ_run (Cert.GatedIdeal.defs (F := Ideal)) (onTc (τ := Cert.GatedIdeal.τ) (Cert.GatedIdeal.main (F := Ideal))) ⟨m, fun _ => 0, g⟩ (fun r => ∀ c : Dev Cert.GatedIdeal.nD,
          r.2.mem ((c.tc : Thread Cert.GatedIdeal.nD Cert.GatedIdeal.τ).loc Cert.GatedIdeal.main_v0_0) = v0 c
          ∧ r.2.mem ((c.tc : Thread Cert.GatedIdeal.nD Cert.GatedIdeal.τ).loc Cert.GatedIdeal.main_v0_1) = v1 c
          ∧ r.2.mem ((c.tc : Thread Cert.GatedIdeal.nD Cert.GatedIdeal.τ).loc Cert.GatedIdeal.main_v0_2) = v2 c
          ∧ r.2.mem ((c.tc : Thread Cert.GatedIdeal.nD Cert.GatedIdeal.τ).loc Cert.GatedIdeal.main_v0_3) = v3 c
          ∧ r.2.mem ((c.tc : Thread Cert.GatedIdeal.nD Cert.GatedIdeal.τ).loc Cert.GatedIdeal.main_arg0) = m ((c.tc : Thread Cert.GatedIdeal.nD Cert.GatedIdeal.τ).loc Cert.GatedIdeal.main_arg0)
          ∧ r.2.mem ((c.tc : Thread Cert.GatedIdeal.nD Cert.GatedIdeal.τ).loc Cert.GatedIdeal.main_arg1) = m ((c.tc : Thread Cert.GatedIdeal.nD Cert.GatedIdeal.τ).loc Cert.GatedIdeal.main_arg1)
          ∧ r.2.mem ((c.tc : Thread Cert.GatedIdeal.nD Cert.GatedIdeal.τ).loc Cert.GatedIdeal.main_arg2) = m ((c.tc : Thread Cert.GatedIdeal.nD Cert.GatedIdeal.τ).loc Cert.GatedIdeal.main_arg2))
      ∧ θ_run (Cert.GatedRefIdeal.defs (F := Ideal)) (onTc (τ := Cert.GatedRefIdeal.τ) (Cert.GatedRefIdeal.main (F := Ideal))) ⟨m', fun _ => 0, g'⟩ (fun r => ∀ c : Dev Cert.GatedRefIdeal.nD,
          r.2.mem ((c.tc : Thread Cert.GatedRefIdeal.nD Cert.GatedRefIdeal.τ).loc Cert.GatedRefIdeal.main_v32) = v0 c
          ∧ r.2.mem ((c.tc : Thread Cert.GatedRefIdeal.nD Cert.GatedRefIdeal.τ).loc Cert.GatedRefIdeal.main_v33) = v1 c
          ∧ r.2.mem ((c.tc : Thread Cert.GatedRefIdeal.nD Cert.GatedRefIdeal.τ).loc Cert.GatedRefIdeal.main_v26) = v2 c
          ∧ r.2.mem ((c.tc : Thread Cert.GatedRefIdeal.nD Cert.GatedRefIdeal.τ).loc Cert.GatedRefIdeal.main_v34) = v3 c
          ∧ r.2.mem ((c.tc : Thread Cert.GatedRefIdeal.nD Cert.GatedRefIdeal.τ).loc Cert.GatedRefIdeal.main_arg0) = m' ((c.tc : Thread Cert.GatedRefIdeal.nD Cert.GatedRefIdeal.τ).loc Cert.GatedRefIdeal.main_arg0)
          ∧ r.2.mem ((c.tc : Thread Cert.GatedRefIdeal.nD Cert.GatedRefIdeal.τ).loc Cert.GatedRefIdeal.main_arg1) = m' ((c.tc : Thread Cert.GatedRefIdeal.nD Cert.GatedRefIdeal.τ).loc Cert.GatedRefIdeal.main_arg1)
          ∧ r.2.mem ((c.tc : Thread Cert.GatedRefIdeal.nD Cert.GatedRefIdeal.τ).loc Cert.GatedRefIdeal.main_arg2) = m' ((c.tc : Thread Cert.GatedRefIdeal.nD Cert.GatedRefIdeal.τ).loc Cert.GatedRefIdeal.main_arg2))

def preserves_Attn_AttnIdeal : Prop :=
  True

def Claim : Prop :=
  ∃ (hUp : Cert.Up.Facts) (hUpIdeal : Cert.UpIdeal.Facts) (hUpRefIdeal : Cert.UpRefIdeal.Facts) (hDown : Cert.Down.Facts) (hDownIdeal : Cert.DownIdeal.Facts) (hDownRefIdeal : Cert.DownRefIdeal.Facts) (hNorm : Cert.Norm.Facts) (hNormIdeal : Cert.NormIdeal.Facts) (hNormRefIdeal : Cert.NormRefIdeal.Facts) (hQkv : Cert.Qkv.Facts) (hQkvIdeal : Cert.QkvIdeal.Facts) (hQkvRefIdeal : Cert.QkvRefIdeal.Facts) (hGate : Cert.Gate.Facts) (hGateIdeal : Cert.GateIdeal.Facts) (hGateRefIdeal : Cert.GateRefIdeal.Facts) (hOut : Cert.Out.Facts) (hOutIdeal : Cert.OutIdeal.Facts) (hOutRefIdeal : Cert.OutRefIdeal.Facts) (hGated : Cert.Gated.Facts) (hGatedIdeal : Cert.GatedIdeal.Facts) (hGatedRefIdeal : Cert.GatedRefIdeal.Facts) (hAttn : Cert.Attn.Facts) (hAttnIdeal : Cert.AttnIdeal.Facts) (hPre_pre1 : Cert.Pre_pre1.Facts) (hPre_pre2 : Cert.Pre_pre2.Facts) (hOn_on1 : Cert.On_on1.Facts) (hOn_on2 : Cert.On_on2.Facts),
    quiescent_Up (hUp := hUp) (hPre_pre1 := hPre_pre1)
    ∧ quiescent_UpIdeal (hUpIdeal := hUpIdeal) (hPre_pre1 := hPre_pre1)
    ∧ quiescent_UpRefIdeal (hUpRefIdeal := hUpRefIdeal)
    ∧ quiescent_UpRefIdeal_pre_pre1 (hUpRefIdeal := hUpRefIdeal) (hPre_pre1 := hPre_pre1)
    ∧ quiescent_Down (hDown := hDown) (hPre_pre2 := hPre_pre2)
    ∧ quiescent_DownIdeal (hDownIdeal := hDownIdeal) (hPre_pre2 := hPre_pre2)
    ∧ quiescent_DownRefIdeal (hDownRefIdeal := hDownRefIdeal)
    ∧ quiescent_DownRefIdeal_pre_pre2 (hDownRefIdeal := hDownRefIdeal) (hPre_pre2 := hPre_pre2)
    ∧ quiescent_Norm (hNorm := hNorm)
    ∧ quiescent_NormIdeal (hNormIdeal := hNormIdeal)
    ∧ quiescent_NormRefIdeal (hNormRefIdeal := hNormRefIdeal)
    ∧ quiescent_Qkv (hQkv := hQkv)
    ∧ quiescent_QkvIdeal (hQkvIdeal := hQkvIdeal)
    ∧ quiescent_QkvRefIdeal (hQkvRefIdeal := hQkvRefIdeal)
    ∧ quiescent_Gate (hGate := hGate)
    ∧ quiescent_GateIdeal (hGateIdeal := hGateIdeal)
    ∧ quiescent_GateRefIdeal (hGateRefIdeal := hGateRefIdeal)
    ∧ quiescent_Out (hOut := hOut)
    ∧ quiescent_OutIdeal (hOutIdeal := hOutIdeal)
    ∧ quiescent_OutRefIdeal (hOutRefIdeal := hOutRefIdeal)
    ∧ quiescent_Gated (hGated := hGated)
    ∧ quiescent_GatedIdeal (hGatedIdeal := hGatedIdeal)
    ∧ quiescent_GatedRefIdeal (hGatedRefIdeal := hGatedRefIdeal)
    ∧ quiescent_Attn (hAttn := hAttn)
    ∧ quiescent_AttnIdeal (hAttnIdeal := hAttnIdeal)
    ∧ preserves_Up_UpIdeal
    ∧ algebraic_UpIdeal_UpRefIdeal_on_on1 (hUpIdeal := hUpIdeal) (hUpRefIdeal := hUpRefIdeal) (hPre_pre1 := hPre_pre1) (hOn_on1 := hOn_on1)
    ∧ preserves_Down_DownIdeal
    ∧ algebraic_DownIdeal_DownRefIdeal_on_on2 (hDownIdeal := hDownIdeal) (hDownRefIdeal := hDownRefIdeal) (hPre_pre2 := hPre_pre2) (hOn_on2 := hOn_on2)
    ∧ preserves_Norm_NormIdeal
    ∧ algebraic_NormIdeal_NormRefIdeal (hNormIdeal := hNormIdeal) (hNormRefIdeal := hNormRefIdeal)
    ∧ preserves_Qkv_QkvIdeal
    ∧ algebraic_QkvIdeal_QkvRefIdeal (hQkvIdeal := hQkvIdeal) (hQkvRefIdeal := hQkvRefIdeal)
    ∧ preserves_Gate_GateIdeal
    ∧ algebraic_GateIdeal_GateRefIdeal (hGateIdeal := hGateIdeal) (hGateRefIdeal := hGateRefIdeal)
    ∧ preserves_Out_OutIdeal
    ∧ algebraic_OutIdeal_OutRefIdeal (hOutIdeal := hOutIdeal) (hOutRefIdeal := hOutRefIdeal)
    ∧ preserves_Gated_GatedIdeal
    ∧ algebraic_GatedIdeal_GatedRefIdeal (hGatedIdeal := hGatedIdeal) (hGatedRefIdeal := hGatedRefIdeal)
    ∧ preserves_Attn_AttnIdeal
-- ==== On_on1.lean ====
abbrev S10 : Shape := ⟨1, ![10]⟩
abbrev S1 : Shape := ⟨1, ![1]⟩
abbrev S5120x6144 : Shape := ⟨2, ![5120, 6144]⟩
abbrev S5120x128 : Shape := ⟨2, ![5120, 128]⟩
abbrev S4x3072x9216 : Shape := ⟨3, ![4, 3072, 9216]⟩
abbrev S4x1x9216 : Shape := ⟨3, ![4, 1, 9216]⟩
abbrev S_ : Shape := ⟨0, ![]⟩
abbrev S10x1 : Shape := ⟨2, ![10, 1]⟩
abbrev S10x512 : Shape := ⟨2, ![10, 512]⟩
abbrev S5120x1 : Shape := ⟨2, ![5120, 1]⟩
abbrev S5120x9216 : Shape := ⟨2, ![5120, 9216]⟩

class Facts : Prop where
  shapeCasts_S1_S_ : S1.ShapeCasts S_
  bcast_S_S10 : S_.BroadcastsInDim S10 (![] : Fin 0 → Fin S10.rank)
  bcast_S10_S10x1_0 : S10.BroadcastsInDim S10x1 (![0] : Fin 1 → Fin S10x1.rank)
  bcast_S10x1_S10x512_0_1 : S10x1.BroadcastsInDim S10x512 (![0, 1] : Fin 2 → Fin S10x512.rank)
  shapeCasts_S10x512_S5120x1 : S10x512.ShapeCasts S5120x1
  bcast_S5120x1_S5120x9216_0_1 : S5120x1.BroadcastsInDim S5120x9216 (![0, 1] : Fin 2 → Fin S5120x9216.rank)
  bcast_S5120x1_S5120x128_0_1 : S5120x1.BroadcastsInDim S5120x128 (![0, 1] : Fin 2 → Fin S5120x128.rank)

variable [Facts]

def fn {F : FTy → Type} [FloatOps F] (main_arg0 : IVec S10 32) (main_arg1 : IVec S1 32) (main_arg2 : FVec F S5120x6144 .bf16) (main_arg3 : FVec F S5120x128 .f32) (main_arg4 : IVec S4x3072x9216 8) (main_arg5 : IVec S4x3072x9216 8) (main_arg6 : FVec F S4x1x9216 .f32) (main_arg7 : FVec F S4x1x9216 .f32) : IVec S5120x9216 1 × IVec S5120x128 1 :=
  let main_v0 : IVec S10 32 := iotaInDim S10 32 0
  let main_v1 : IVec S_ 32 := shapeCast S_ main_arg1 shapeCasts_S1_S_
  let main_v2 : IVec S10 32 := broadcastInDim S10 ![] bcast_S_S10 main_v1
  let main_v3 : IVec S10 1 := cmpi .slt main_v0 main_v2
  let main_v4 : IVec S10x1 1 := broadcastInDim S10x1 ![0] bcast_S10_S10x1_0 main_v3
  let main_v5 : IVec S10x512 1 := broadcastInDim S10x512 ![0, 1] bcast_S10x1_S10x512_0_1 main_v4
  let main_v6 : IVec S5120x1 1 := shapeCast S5120x1 main_v5 shapeCasts_S10x512_S5120x1
  let main_v7 : IVec S5120x9216 1 := broadcastInDim S5120x9216 ![0, 1] bcast_S5120x1_S5120x9216_0_1 main_v6
  let main_v8 : IVec S5120x128 1 := broadcastInDim S5120x128 ![0, 1] bcast_S5120x1_S5120x128_0_1 main_v6
  (main_v7, main_v8)
-- ==== On_on2.lean ====
abbrev S10 : Shape := ⟨1, ![10]⟩
abbrev S1 : Shape := ⟨1, ![1]⟩
abbrev S5120x9216 : Shape := ⟨2, ![5120, 9216]⟩
abbrev S5120x128 : Shape := ⟨2, ![5120, 128]⟩
abbrev S4x4608x6144 : Shape := ⟨3, ![4, 4608, 6144]⟩
abbrev S4x1x6144 : Shape := ⟨3, ![4, 1, 6144]⟩
abbrev S_ : Shape := ⟨0, ![]⟩
abbrev S10x1 : Shape := ⟨2, ![10, 1]⟩
abbrev S10x512 : Shape := ⟨2, ![10, 512]⟩
abbrev S5120x1 : Shape := ⟨2, ![5120, 1]⟩
abbrev S5120x6144 : Shape := ⟨2, ![5120, 6144]⟩

class Facts : Prop where
  shapeCasts_S1_S_ : S1.ShapeCasts S_
  bcast_S_S10 : S_.BroadcastsInDim S10 (![] : Fin 0 → Fin S10.rank)
  bcast_S10_S10x1_0 : S10.BroadcastsInDim S10x1 (![0] : Fin 1 → Fin S10x1.rank)
  bcast_S10x1_S10x512_0_1 : S10x1.BroadcastsInDim S10x512 (![0, 1] : Fin 2 → Fin S10x512.rank)
  shapeCasts_S10x512_S5120x1 : S10x512.ShapeCasts S5120x1
  bcast_S5120x1_S5120x6144_0_1 : S5120x1.BroadcastsInDim S5120x6144 (![0, 1] : Fin 2 → Fin S5120x6144.rank)

variable [Facts]

def fn {F : FTy → Type} [FloatOps F] (main_arg0 : IVec S10 32) (main_arg1 : IVec S1 32) (main_arg2 : FVec F S5120x9216 .bf16) (main_arg3 : FVec F S5120x128 .f32) (main_arg4 : IVec S4x4608x6144 8) (main_arg5 : FVec F S4x1x6144 .f32) : IVec S5120x6144 1 :=
  let main_v0 : IVec S10 32 := iotaInDim S10 32 0
  let main_v1 : IVec S_ 32 := shapeCast S_ main_arg1 shapeCasts_S1_S_
  let main_v2 : IVec S10 32 := broadcastInDim S10 ![] bcast_S_S10 main_v1
  let main_v3 : IVec S10 1 := cmpi .slt main_v0 main_v2
  let main_v4 : IVec S10x1 1 := broadcastInDim S10x1 ![0] bcast_S10_S10x1_0 main_v3
  let main_v5 : IVec S10x512 1 := broadcastInDim S10x512 ![0, 1] bcast_S10x1_S10x512_0_1 main_v4
  let main_v6 : IVec S5120x1 1 := shapeCast S5120x1 main_v5 shapeCasts_S10x512_S5120x1
  let main_v7 : IVec S5120x6144 1 := broadcastInDim S5120x6144 ![0, 1] bcast_S5120x1_S5120x6144_0_1 main_v6
  main_v7
-- ==== Pre_pre1.lean ====
abbrev S10 : Shape := ⟨1, ![10]⟩
abbrev S1 : Shape := ⟨1, ![1]⟩
abbrev S5120x6144 : Shape := ⟨2, ![5120, 6144]⟩
abbrev S5120x128 : Shape := ⟨2, ![5120, 128]⟩
abbrev S4x3072x9216 : Shape := ⟨3, ![4, 3072, 9216]⟩
abbrev S4x1x9216 : Shape := ⟨3, ![4, 1, 9216]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S10 32) (main_arg1 : IVec S1 32) (main_arg2 : FVec F S5120x6144 .bf16) (main_arg3 : FVec F S5120x128 .f32) (main_arg4 : IVec S4x3072x9216 8) (main_arg5 : IVec S4x3072x9216 8) (main_arg6 : FVec F S4x1x9216 .f32) (main_arg7 : FVec F S4x1x9216 .f32) : IVec S_ 1 :=
  let main_c : IVec S_ 32 := constantI S_ 32 0#32
  let main_v0 : IVec S10 32 := broadcastInDim S10 ![] bcast_S_S10 main_c
  let main_v1 : IVec S10 1 := cmpi .sge main_arg0 main_v0
  let main_c_0 : IVec S_ 1 := constantI S_ 1 1#1
  let main_v2 : IVec S_ 1 := (fun x v => Host.reduce IntOp.andi x v reducesTo_S10_S_d0 h_S_) main_v1 main_c_0
  let main_c_1 : IVec S_ 32 := constantI S_ 32 4#32
  let main_v3 : IVec S10 32 := broadcastInDim S10 ![] bcast_S_S10 main_c_1
  let main_v4 : IVec S10 1 := cmpi .slt main_arg0 main_v3
  let main_c_2 : IVec S_ 1 := constantI S_ 1 1#1
  let main_v5 : IVec S_ 1 := (fun x v => Host.reduce IntOp.andi x v reducesTo_S10_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Pre_pre2.lean ====
abbrev S10 : Shape := ⟨1, ![10]⟩
abbrev S1 : Shape := ⟨1, ![1]⟩
abbrev S5120x9216 : Shape := ⟨2, ![5120, 9216]⟩
abbrev S5120x128 : Shape := ⟨2, ![5120, 128]⟩
abbrev S4x4608x6144 : Shape := ⟨3, ![4, 4608, 6144]⟩
abbrev S4x1x6144 : Shape := ⟨3, ![4, 1, 6144]⟩
abbrev S_ : Shape := ⟨0, ![]⟩

class Facts : Prop where
  bcast_S_S10 : S_.BroadcastsInDim S10 (![] : Fin 0 → Fin S10.rank)
  reducesTo_S10_S_d0 : S10.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S10 32) (main_arg1 : IVec S1 32) (main_arg2 : FVec F S5120x9216 .bf16) (main_arg3 : FVec F S5120x128 .f32) (main_arg4 : IVec S4x4608x6144 8) (main_arg5 : FVec F S4x1x6144 .f32) : IVec S_ 1 :=
  let main_c : IVec S_ 32 := constantI S_ 32 0#32
  let main_v0 : IVec S10 32 := broadcastInDim S10 ![] bcast_S_S10 main_c
  let main_v1 : IVec S10 1 := cmpi .sge main_arg0 main_v0
  let main_c_0 : IVec S_ 1 := constantI S_ 1 1#1
  let main_v2 : IVec S_ 1 := (fun x v => Host.reduce IntOp.andi x v reducesTo_S10_S_d0 h_S_) main_v1 main_c_0
  let main_c_1 : IVec S_ 32 := constantI S_ 32 4#32
  let main_v3 : IVec S10 32 := broadcastInDim S10 ![] bcast_S_S10 main_c_1
  let main_v4 : IVec S10 1 := cmpi .slt main_arg0 main_v3
  let main_c_2 : IVec S_ 1 := constantI S_ 1 1#1
  let main_v5 : IVec S_ 1 := (fun x v => Host.reduce IntOp.andi x v reducesTo_S10_S_d0 h_S_) main_v4 main_c_2
  let main_v6 : IVec S_ 1 := andi main_v2 main_v5
  let main_c_3 : IVec S_ 32 := constantI S_ 32 1#32
  let main_v7 : IVec S1 32 := broadcastInDim S1 ![] bcast_S_S1 main_c_3
  let main_v8 : IVec S1 1 := cmpi .sge main_arg1 main_v7
  let main_c_4 : IVec S_ 1 := constantI S_ 1 1#1
  let main_v9 : IVec S_ 1 := (fun x v => Host.reduce IntOp.andi x v reducesTo_S1_S_d0 h_S_) main_v8 main_c_4
  let main_v10 : IVec S_ 1 := andi main_v6 main_v9
  main_v10
-- ==== Up.lean ====
abbrev S10 : Shape := ⟨1, ![10]⟩
abbrev S1 : Shape := ⟨1, ![1]⟩
abbrev S5120x6144 : Shape := ⟨2, ![5120, 6144]⟩
abbrev S5120x128 : Shape := ⟨2, ![5120, 128]⟩
abbrev S4x3072x9216 : Shape := ⟨3, ![4, 3072, 9216]⟩
abbrev S4x1x9216 : Shape := ⟨3, ![4, 1, 9216]⟩
abbrev S5120x9216 : Shape := ⟨2, ![5120, 9216]⟩
abbrev S512x6144 : Shape := ⟨2, ![512, 6144]⟩
abbrev S512x128 : Shape := ⟨2, ![512, 128]⟩
abbrev S1x3072x256 : Shape := ⟨3, ![1, 3072, 256]⟩
abbrev S1x1x256 : Shape := ⟨3, ![1, 1, 256]⟩
abbrev S512x256 : Shape := ⟨2, ![512, 256]⟩
abbrev S512x1 : Shape := ⟨2, ![512, 1]⟩
abbrev S3072x256 : Shape := ⟨2, ![3072, 256]⟩
abbrev S3072x2x256 : Shape := ⟨3, ![3072, 2, 256]⟩
abbrev S3072x1x256 : Shape := ⟨3, ![3072, 1, 256]⟩
abbrev S6144x256 : Shape := ⟨2, ![6144, 256]⟩
abbrev S1x256 : Shape := ⟨2, ![1, 256]⟩

abbrev nBuf : Space → Nat
  | .hbm => 8
  | .vmem => 16
  | .smem => 2
  | _ => 0

abbrev bufTy : (tb : Table) → Fin (tcTables nBuf tb) → BufTy
  | .hbm, ⟨0, _⟩ => ⟨S5120x6144, .bf16⟩
  | .hbm, ⟨1, _⟩ => ⟨S5120x128, .f32⟩
  | .hbm, ⟨2, _⟩ => ⟨S4x3072x9216, .i8⟩
  | .hbm, ⟨3, _⟩ => ⟨S4x3072x9216, .i8⟩
  | .hbm, ⟨4, _⟩ => ⟨S4x1x9216, .f32⟩
  | .hbm, ⟨5, _⟩ => ⟨S4x1x9216, .f32⟩
  | .hbm, ⟨6, _⟩ => ⟨S5120x9216, .f32⟩
  | .hbm, ⟨7, _⟩ => ⟨S5120x128, .f32⟩
  | .local _ .vmem, ⟨0, _⟩ => ⟨S512x6144, .bf16⟩
  | .local _ .vmem, ⟨1, _⟩ => ⟨S512x6144, .bf16⟩
  | .local _ .vmem, ⟨2, _⟩ => ⟨S512x128, .f32⟩
  | .local _ .vmem, ⟨3, _⟩ => ⟨S512x128, .f32⟩
  | .local _ .vmem, ⟨4, _⟩ => ⟨S1x3072x256, .i8⟩
  | .local _ .vmem, ⟨5, _⟩ => ⟨S1x3072x256, .i8⟩
  | .local _ .vmem, ⟨6, _⟩ => ⟨S1x3072x256, .i8⟩
  | .local _ .vmem, ⟨7, _⟩ => ⟨S1x3072x256, .i8⟩
  | .local _ .vmem, ⟨8, _⟩ => ⟨S1x1x256, .f32⟩
  | .local _ .vmem, ⟨9, _⟩ => ⟨S1x1x256, .f32⟩
  | .local _ .vmem, ⟨10, _⟩ => ⟨S1x1x256, .f32⟩
  | .local _ .vmem, ⟨11, _⟩ => ⟨S1x1x256, .f32⟩
  | .local _ .vmem, ⟨12, _⟩ => ⟨S512x256, .f32⟩
  | .local _ .vmem, ⟨13, _⟩ => ⟨S512x256, .f32⟩
  | .local _ .vmem, ⟨14, _⟩ => ⟨S512x128, .f32⟩
  | .local _ .vmem, ⟨15, _⟩ => ⟨S512x128, .f32⟩
  | .local _ .smem, ⟨0, _⟩ => ⟨S10, .i32⟩
  | .local _ .smem, ⟨1, _⟩ => ⟨S1, .i32⟩
  | _, _ => ⟨S5120x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_v0_0 : Ref sig .tc := ⟨.hbm, 6, rfl⟩
abbrev main_v0_1 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![10, 36], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c35_i32 : BitVec 32 := 35#32
  let v4 : BitVec 32 := Scalar.select v3 arg1 c35_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c35_i32 : BitVec 32 := 35#32
  let v4 : BitVec 32 := Scalar.select v3 arg1 c35_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c35_i32 : BitVec 32 := 35#32
  let v4 : BitVec 32 := Scalar.select v3 arg1 c35_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c35_i32 : BitVec 32 := 35#32
  let v4 : BitVec 32 := Scalar.select v3 arg1 c35_i32
  let c0_i32 : BitVec 32 := 0#32
  let c0_i32_0 : BitVec 32 := 0#32
  ![v1.toNat, c0_i32.toNat, v4.toNat]

def cc0_transform_6 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_0 : Index := 0#32
  let v3 : BitVec 32 := pf.at 1 (Rect.unit (s := S1) ![0] S1.size inb_S1_S1_0) numel1_S1
  let v4 : BitVec 1 := Scalar.cmpi .slt arg0 v3
  let c35_i32 : BitVec 32 := 35#32
  let v5 : BitVec 32 := Scalar.select v4 arg1 c35_i32
  let c0_i32 : BitVec 32 := 0#32
  ![v2.toNat, v5.toNat]

def cc0_transform_7 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3072x256 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3072x256 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== UpRefIdeal.lean ====
abbrev S10 : Shape := ⟨1, ![10]⟩
abbrev S1 : Shape := ⟨1, ![1]⟩
abbrev S5120x6144 : Shape := ⟨2, ![5120, 6144]⟩
abbrev S5120x128 : Shape := ⟨2, ![5120, 128]⟩
abbrev S4x3072x9216 : Shape := ⟨3, ![4, 3072, 9216]⟩
abbrev S4x1x9216 : Shape := ⟨3, ![4, 1, 9216]⟩
abbrev S_ : Shape := ⟨0, ![]⟩
abbrev S5120x9216 : Shape := ⟨2, ![5120, 9216]⟩
abbrev S1x3072x9216 : Shape := ⟨3, ![1, 3072, 9216]⟩
abbrev S3072x9216 : Shape := ⟨2, ![3072, 9216]⟩
abbrev S3072x1x9216 : Shape := ⟨3, ![3072, 1, 9216]⟩
abbrev S3072x2x9216 : Shape := ⟨3, ![3072, 2, 9216]⟩
abbrev S6144x9216 : Shape := ⟨2, ![6144, 9216]⟩
abbrev S5120x1 : Shape := ⟨2, ![5120, 1]⟩
abbrev S1x1x9216 : Shape := ⟨3, ![1, 1, 9216]⟩
abbrev S1x9216 : Shape := ⟨2, ![1, 9216]⟩
abbrev S10x1 : Shape := ⟨2, ![10, 1]⟩
abbrev S10x512 : Shape := ⟨2, ![10, 512]⟩
abbrev S5120x72x128 : Shape := ⟨3, ![5120, 72, 128]⟩

abbrev nBuf : Space → Nat
  | .hbm => 310
  | .vmem => 0
  | .smem => 0
  | _ => 0

abbrev hbmTy0_0 (i : Nat) : BufTy := match i % 128 with
  | 0 => ⟨S10, .i32⟩
  | 1 => ⟨S1, .i32⟩
  | 2 => ⟨S5120x6144, .bf16⟩
  | 3 => ⟨S5120x128, .f32⟩
  | 4 => ⟨S4x3072x9216, .i8⟩
  | 5 => ⟨S4x3072x9216, .i8⟩
  | 6 => ⟨S4x1x9216, .f32⟩
  | 7 => ⟨S4x1x9216, .f32⟩
  | 8 => ⟨S_, .f32⟩
  | 9 => ⟨S5120x9216, .f32⟩
  | 10 => ⟨S1x3072x9216, .i8⟩
  | 11 => ⟨S3072x9216, .i8⟩
  | 12 => ⟨S3072x9216, .i32⟩
  | 13 => ⟨S_, .i32⟩
  | 14 => ⟨S3072x9216, .i32⟩
  | 15 => ⟨S3072x9216, .i32⟩
  | 16 => ⟨S_, .i32⟩
  | 17 => ⟨S3072x9216, .i32⟩
  | 18 => ⟨S3072x9216, .i32⟩
  | 19 => ⟨S_, .i32⟩
  | 20 => ⟨S3072x9216, .i32⟩
  | 21 => ⟨S3072x9216, .i32⟩
  | 22 => ⟨S_, .i32⟩
  | 23 => ⟨S3072x9216, .i32⟩
  | 24 => ⟨S3072x9216, .i32⟩
  | 25 => ⟨S3072x1x9216, .i32⟩
  | 26 => ⟨S3072x1x9216, .i32⟩
  | 27 => ⟨S3072x2x9216, .i32⟩
  | 28 => ⟨S6144x9216, .i32⟩
  | 29 => ⟨S6144x9216, .bf16⟩
  | 30 => ⟨S5120x9216, .f32⟩
  | 31 => ⟨S5120x1, .f32⟩
  | 32 => ⟨S5120x9216, .f32⟩
  | 33 => ⟨S5120x9216, .f32⟩
  | 34 => ⟨S1x1x9216, .f32⟩
  | 35 => ⟨S1x9216, .f32⟩
  | 36 => ⟨S5120x9216, .f32⟩
  | 37 => ⟨S5120x9216, .f32⟩
  | 38 => ⟨S1x3072x9216, .i8⟩
  | 39 => ⟨S3072x9216, .i8⟩
  | 40 => ⟨S3072x9216, .i32⟩
  | 41 => ⟨S_, .i32⟩
  | 42 => ⟨S3072x9216, .i32⟩
  | 43 => ⟨S3072x9216, .i32⟩
  | 44 => ⟨S_, .i32⟩
  | 45 => ⟨S3072x9216, .i32⟩
  | 46 => ⟨S3072x9216, .i32⟩
  | 47 => ⟨S_, .i32⟩
  | 48 => ⟨S3072x9216, .i32⟩
  | 49 => ⟨S3072x9216, .i32⟩
  | 50 => ⟨S_, .i32⟩
  | 51 => ⟨S3072x9216, .i32⟩
  | 52 => ⟨S3072x9216, .i32⟩
  | 53 => ⟨S3072x1x9216, .i32⟩
  | 54 => ⟨S3072x1x9216, .i32⟩
  | 55 => ⟨S3072x2x9216, .i32⟩
  | 56 => ⟨S6144x9216, .i32⟩
  | 57 => ⟨S6144x9216, .bf16⟩
  | 58 => ⟨S5120x9216, .f32⟩
  | 59 => ⟨S5120x1, .f32⟩
  | 60 => ⟨S5120x9216, .f32⟩
  | 61 => ⟨S5120x9216, .f32⟩
  | 62 => ⟨S1x1x9216, .f32⟩
  | 63 => ⟨S1x9216, .f32⟩
  | 64 => ⟨S5120x9216, .f32⟩
  | 65 => ⟨S5120x9216, .f32⟩
  | 66 => ⟨S10x1, .i32⟩
  | 67 => ⟨S10x512, .i32⟩
  | 68 => ⟨S5120x1, .i32⟩
  | 69 => ⟨S_, .i32⟩
  | 70 => ⟨S5120x1, .i32⟩
  | 71 => ⟨S5120x1, .i1⟩
  | 72 => ⟨S5120x9216, .f32⟩
  | 73 => ⟨S5120x9216, .f32⟩
  | 74 => ⟨S_, .f32⟩
  | 75 => ⟨S5120x9216, .f32⟩
  | 76 => ⟨S5120x9216, .f32⟩
  | 77 => ⟨S_, .f32⟩
  | 78 => ⟨S5120x9216, .f32⟩
  | 79 => ⟨S5120x9216, .f32⟩
  | 80 => ⟨S5120x9216, .f32⟩
  | 81 => ⟨S5120x9216, .f32⟩
  | 82 => ⟨S5120x9216, .i1⟩
  | 83 => ⟨S5120x9216, .f32⟩
  | 84 => ⟨S1x3072x9216, .i8⟩
  | 85 => ⟨S3072x9216, .i8⟩
  | 86 => ⟨S3072x9216, .i32⟩
  | 87 => ⟨S_, .i32⟩
  | 88 => ⟨S3072x9216, .i32⟩
  | 89 => ⟨S3072x9216, .i32⟩
  | 90 => ⟨S_, .i32⟩
  | 91 => ⟨S3072x9216, .i32⟩
  | 92 => ⟨S3072x9216, .i32⟩
  | 93 => ⟨S_, .i32⟩
  | 94 => ⟨S3072x9216, .i32⟩
  | 95 => ⟨S3072x9216, .i32⟩
  | 96 => ⟨S_, .i32⟩
  | 97 => ⟨S3072x9216, .i32⟩
  | 98 => ⟨S3072x9216, .i32⟩
  | 99 => ⟨S3072x1x9216, .i32⟩
  | 100 => ⟨S3072x1x9216, .i32⟩
  | 101 => ⟨S3072x2x9216, .i32⟩
  | 102 => ⟨S6144x9216, .i32⟩
  | 103 => ⟨S6144x9216, .bf16⟩
  | 104 => ⟨S5120x9216, .f32⟩
  | 105 => ⟨S5120x1, .f32⟩
  | 106 => ⟨S5120x9216, .f32⟩
  | 107 => ⟨S5120x9216, .f32⟩
  | 108 => ⟨S1x1x9216, .f32⟩
  | 109 => ⟨S1x9216, .f32⟩
  | 110 => ⟨S5120x9216, .f32⟩
  | 111 => ⟨S5120x9216, .f32⟩
  | 112 => ⟨S1x3072x9216, .i8⟩
  | 113 => ⟨S3072x9216, .i8⟩
  | 114 => ⟨S3072x9216, .i32⟩
  | 115 => ⟨S_, .i32⟩
  | 116 => ⟨S3072x9216, .i32⟩
  | 117 => ⟨S3072x9216, .i32⟩
  | 118 => ⟨S_, .i32⟩
  | 119 => ⟨S3072x9216, .i32⟩
  | 120 => ⟨S3072x9216, .i32⟩
  | 121 => ⟨S_, .i32⟩
  | 122 => ⟨S3072x9216, .i32⟩
  | 123 => ⟨S3072x9216, .i32⟩
  | 124 => ⟨S_, .i32⟩
  | 125 => ⟨S3072x9216, .i32⟩
  | 126 => ⟨S3072x9216, .i32⟩
  | 127 => ⟨S3072x1x9216, .i32⟩
  | _ => ⟨S10, .i32⟩

abbrev hbmTy0_1 (i : Nat) : BufTy := match i % 128 with
  | 0 => ⟨S3072x1x9216, .i32⟩
  | 1 => ⟨S3072x2x9216, .i32⟩
  | 2 => ⟨S6144x9216, .i32⟩
  | 3 => ⟨S6144x9216, .bf16⟩
  | 4 => ⟨S5120x9216, .f32⟩
  | 5 => ⟨S5120x1, .f32⟩
  | 6 => ⟨S5120x9216, .f32⟩
  | 7 => ⟨S5120x9216, .f32⟩
  | 8 => ⟨S1x1x9216, .f32⟩
  | 9 => ⟨S1x9216, .f32⟩
  | 10 => ⟨S5120x9216, .f32⟩
  | 11 => ⟨S5120x9216, .f32⟩
  | 12 => ⟨S10x1, .i32⟩
  | 13 => ⟨S10x512, .i32⟩
  | 14 => ⟨S5120x1, .i32⟩
  | 15 => ⟨S_, .i32⟩
  | 16 => ⟨S5120x1, .i32⟩
  | 17 => ⟨S5120x1, .i1⟩
  | 18 => ⟨S5120x9216, .f32⟩
  | 19 => ⟨S5120x9216, .f32⟩
  | 20 => ⟨S_, .f32⟩
  | 21 => ⟨S5120x9216, .f32⟩
  | 22 => ⟨S5120x9216, .f32⟩
  | 23 => ⟨S_, .f32⟩
  | 24 => ⟨S5120x9216, .f32⟩
  | 25 => ⟨S5120x9216, .f32⟩
  | 26 => ⟨S5120x9216, .f32⟩
  | 27 => ⟨S5120x9216, .f32⟩
  | 28 => ⟨S5120x9216, .i1⟩
  | 29 => ⟨S5120x9216, .f32⟩
  | 30 => ⟨S1x3072x9216, .i8⟩
  | 31 => ⟨S3072x9216, .i8⟩
  | 32 => ⟨S3072x9216, .i32⟩
  | 33 => ⟨S_, .i32⟩
  | 34 => ⟨S3072x9216, .i32⟩
  | 35 => ⟨S3072x9216, .i32⟩
  | 36 => ⟨S_, .i32⟩
  | 37 => ⟨S3072x9216, .i32⟩
  | 38 => ⟨S3072x9216, .i32⟩
  | 39 => ⟨S_, .i32⟩
  | 40 => ⟨S3072x9216, .i32⟩
  | 41 => ⟨S3072x9216, .i32⟩
  | 42 => ⟨S_, .i32⟩
  | 43 => ⟨S3072x9216, .i32⟩
  | 44 => ⟨S3072x9216, .i32⟩
  | 45 => ⟨S3072x1x9216, .i32⟩
  | 46 => ⟨S3072x1x9216, .i32⟩
  | 47 => ⟨S3072x2x9216, .i32⟩
  | 48 => ⟨S6144x9216, .i32⟩
  | 49 => ⟨S6144x9216, .bf16⟩
  | 50 => ⟨S5120x9216, .f32⟩
  | 51 => ⟨S5120x1, .f32⟩
  | 52 => ⟨S5120x9216, .f32⟩
  | 53 => ⟨S5120x9216, .f32⟩
  | 54 => ⟨S1x1x9216, .f32⟩
  | 55 => ⟨S1x9216, .f32⟩
  | 56 => ⟨S5120x9216, .f32⟩
  | 57 => ⟨S5120x9216, .f32⟩
  | 58 => ⟨S1x3072x9216, .i8⟩
  | 59 => ⟨S3072x9216, .i8⟩
  | 60 => ⟨S3072x9216, .i32⟩
  | 61 => ⟨S_, .i32⟩
  | 62 => ⟨S3072x9216, .i32⟩
  | 63 => ⟨S3072x9216, .i32⟩
  | 64 => ⟨S_, .i32⟩
  | 65 => ⟨S3072x9216, .i32⟩
  | 66 => ⟨S3072x9216, .i32⟩
  | 67 => ⟨S_, .i32⟩
  | 68 => ⟨S3072x9216, .i32⟩
  | 69 => ⟨S3072x9216, .i32⟩
  | 70 => ⟨S_, .i32⟩
  | 71 => ⟨S3072x9216, .i32⟩
  | 72 => ⟨S3072x9216, .i32⟩
  | 73 => ⟨S3072x1x9216, .i32⟩
  | 74 => ⟨S3072x1x9216, .i32⟩
  | 75 => ⟨S3072x2x9216, .i32⟩
  | 76 => ⟨S6144x9216, .i32⟩
  | 77 => ⟨S6144x9216, .bf16⟩
  | 78 => ⟨S5120x9216, .f32⟩
  | 79 => ⟨S5120x1, .f32⟩
  | 80 => ⟨S5120x9216, .f32⟩
  | 81 => ⟨S5120x9216, .f32⟩
  | 82 => ⟨S1x1x9216, .f32⟩
  | 83 => ⟨S1x9216, .f32⟩
  | 84 => ⟨S5120x9216, .f32⟩
  | 85 => ⟨S5120x9216, .f32⟩
  | 86 => ⟨S10x1, .i32⟩
  | 87 => ⟨S10x512, .i32⟩
  | 88 => ⟨S5120x1, .i32⟩
  | 89 => ⟨S_, .i32⟩
  | 90 => ⟨S5120x1, .i32⟩
  | 91 => ⟨S5120x1, .i1⟩
  | 92 => ⟨S5120x9216, .f32⟩
  | 93 => ⟨S5120x9216, .f32⟩
  | 94 => ⟨S_, .f32⟩
  | 95 => ⟨S5120x9216, .f32⟩
  | 96 => ⟨S5120x9216, .f32⟩
  | 97 => ⟨S_, .f32⟩
  | 98 => ⟨S5120x9216, .f32⟩
  | 99 => ⟨S5120x9216, .f32⟩
  | 100 => ⟨S5120x9216, .f32⟩
  | 101 => ⟨S5120x9216, .f32⟩
  | 102 => ⟨S5120x9216, .i1⟩
  | 103 => ⟨S5120x9216, .f32⟩
  | 104 => ⟨S1x3072x9216, .i8⟩
  | 105 => ⟨S3072x9216, .i8⟩
  | 106 => ⟨S3072x9216, .i32⟩
  | 107 => ⟨S_, .i32⟩
  | 108 => ⟨S3072x9216, .i32⟩
  | 109 => ⟨S3072x9216, .i32⟩
  | 110 => ⟨S_, .i32⟩
  | 111 => ⟨S3072x9216, .i32⟩
  | 112 => ⟨S3072x9216, .i32⟩
  | 113 => ⟨S_, .i32⟩
  | 114 => ⟨S3072x9216, .i32⟩
  | 115 => ⟨S3072x9216, .i32⟩
  | 116 => ⟨S_, .i32⟩
  | 117 => ⟨S3072x9216, .i32⟩
  | 118 => ⟨S3072x9216, .i32⟩
  | 119 => ⟨S3072x1x9216, .i32⟩
  | 120 => ⟨S3072x1x9216, .i32⟩
  | 121 => ⟨S3072x2x9216, .i32⟩
  | 122 => ⟨S6144x9216, .i32⟩
  | 123 => ⟨S6144x9216, .bf16⟩
  | 124 => ⟨S5120x9216, .f32⟩
  | 125 => ⟨S5120x1, .f32⟩
  | 126 => ⟨S5120x9216, .f32⟩
  | 127 => ⟨S5120x9216, .f32⟩
  | _ => ⟨S10, .i32⟩

abbrev hbmTy0_2 (i : Nat) : BufTy := match i % 128 with
  | 0 => ⟨S1x1x9216, .f32⟩
  | 1 => ⟨S1x9216, .f32⟩
  | 2 => ⟨S5120x9216, .f32⟩
  | 3 => ⟨S5120x9216, .f32⟩
  | 4 => ⟨S1x3072x9216, .i8⟩
  | 5 => ⟨S3072x9216, .i8⟩
  | 6 => ⟨S3072x9216, .i32⟩
  | 7 => ⟨S_, .i32⟩
  | 8 => ⟨S3072x9216, .i32⟩
  | 9 => ⟨S3072x9216, .i32⟩
  | 10 => ⟨S_, .i32⟩
  | 11 => ⟨S3072x9216, .i32⟩
  | 12 => ⟨S3072x9216, .i32⟩
  | 13 => ⟨S_, .i32⟩
  | 14 => ⟨S3072x9216, .i32⟩
  | 15 => ⟨S3072x9216, .i32⟩
  | 16 => ⟨S_, .i32⟩
  | 17 => ⟨S3072x9216, .i32⟩
  | 18 => ⟨S3072x9216, .i32⟩
  | 19 => ⟨S3072x1x9216, .i32⟩
  | 20 => ⟨S3072x1x9216, .i32⟩
  | 21 => ⟨S3072x2x9216, .i32⟩
  | 22 => ⟨S6144x9216, .i32⟩
  | 23 => ⟨S6144x9216, .bf16⟩
  | 24 => ⟨S5120x9216, .f32⟩
  | 25 => ⟨S5120x1, .f32⟩
  | 26 => ⟨S5120x9216, .f32⟩
  | 27 => ⟨S5120x9216, .f32⟩
  | 28 => ⟨S1x1x9216, .f32⟩
  | 29 => ⟨S1x9216, .f32⟩
  | 30 => ⟨S5120x9216, .f32⟩
  | 31 => ⟨S5120x9216, .f32⟩
  | 32 => ⟨S10x1, .i32⟩
  | 33 => ⟨S10x512, .i32⟩
  | 34 => ⟨S5120x1, .i32⟩
  | 35 => ⟨S_, .i32⟩
  | 36 => ⟨S5120x1, .i32⟩
  | 37 => ⟨S5120x1, .i1⟩
  | 38 => ⟨S5120x9216, .f32⟩
  | 39 => ⟨S5120x9216, .f32⟩
  | 40 => ⟨S_, .f32⟩
  | 41 => ⟨S5120x9216, .f32⟩
  | 42 => ⟨S5120x9216, .f32⟩
  | 43 => ⟨S_, .f32⟩
  | 44 => ⟨S5120x9216, .f32⟩
  | 45 => ⟨S5120x9216, .f32⟩
  | 46 => ⟨S5120x9216, .f32⟩
  | 47 => ⟨S5120x9216, .f32⟩
  | 48 => ⟨S5120x9216, .i1⟩
  | 49 => ⟨S5120x9216, .f32⟩
  | 50 => ⟨S5120x9216, .f32⟩
  | 51 => ⟨S5120x72x128, .f32⟩
  | 52 => ⟨S_, .f32⟩
  | 53 => ⟨S5120x128, .f32⟩
  | _ => ⟨S10, .i32⟩

abbrev hbmTy (i : Nat) : BufTy := match i / 128 with
  | 0 => hbmTy0_0 i
  | 1 => hbmTy0_1 i
  | 2 => hbmTy0_2 i
  | _ => ⟨S10, .i32⟩

abbrev bufTy : (tb : Table) → Fin (tcTables nBuf tb) → BufTy
  | .hbm, ⟨i, _⟩ => hbmTy i
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_c_2 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_c_3 : Ref sig .tc := ⟨.hbm, 41, rfl⟩
abbrev main_v28 : Ref sig .tc := ⟨.hbm, 42, rfl⟩
abbrev main_v29 : Ref sig .tc := ⟨.hbm, 43, rfl⟩
abbrev main_c_4 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_c_6 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_c_7 : Ref sig .tc := ⟨.hbm, 69, rfl⟩
abbrev main_v52 : Ref sig .tc := ⟨.hbm, 70, rfl⟩
abbrev main_v53 : Ref sig .tc := ⟨.hbm, 71, rfl⟩
abbrev main_call0_v0 : Ref sig .tc := ⟨.hbm, 72, rfl⟩
abbrev main_call0_v1 : Ref sig .tc := ⟨.hbm, 73, rfl⟩
abbrev main_call0_cst : Ref sig .tc := ⟨.hbm, 74, rfl⟩
abbrev main_call0_v2 : Ref sig .tc := ⟨.hbm, 75, rfl⟩
abbrev main_call0_v3 : Ref sig .tc := ⟨.hbm, 76, rfl⟩
abbrev main_call0_cst_0 : Ref sig .tc := ⟨.hbm, 77, rfl⟩
abbrev main_call0_v4 : Ref sig .tc := ⟨.hbm, 78, rfl⟩
abbrev main_call0_v5 : Ref sig .tc := ⟨.hbm, 79, rfl⟩
abbrev main_v54 : Ref sig .tc := ⟨.hbm, 80, rfl⟩
abbrev main_v55 : Ref sig .tc := ⟨.hbm, 81, rfl⟩
abbrev main_call1_v0 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_c_8 : Ref sig .tc := ⟨.hbm, 87, rfl⟩
abbrev main_v60 : Ref sig .tc := ⟨.hbm, 88, rfl⟩
abbrev main_v61 : Ref sig .tc := ⟨.hbm, 89, rfl⟩
abbrev main_c_9 : Ref sig .tc := ⟨.hbm, 90, rfl⟩
abbrev main_v62 : Ref sig .tc := ⟨.hbm, 91, rfl⟩
abbrev main_v63 : Ref sig .tc := ⟨.hbm, 92, rfl⟩
abbrev main_c_10 : Ref sig .tc := ⟨.hbm, 93, rfl⟩
abbrev main_v64 : Ref sig .tc := ⟨.hbm, 94, rfl⟩
abbrev main_v65 : Ref sig .tc := ⟨.hbm, 95, rfl⟩
abbrev main_c_11 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_c_12 : Ref sig .tc := ⟨.hbm, 115, rfl⟩
abbrev main_v84 : Ref sig .tc := ⟨.hbm, 116, rfl⟩
abbrev main_v85 : Ref sig .tc := ⟨.hbm, 117, rfl⟩
abbrev main_c_13 : Ref sig .tc := ⟨.hbm, 118, rfl⟩
abbrev main_v86 : Ref sig .tc := ⟨.hbm, 119, rfl⟩
abbrev main_v87 : Ref sig .tc := ⟨.hbm, 120, rfl⟩
abbrev main_c_14 : Ref sig .tc := ⟨.hbm, 121, rfl⟩
abbrev main_v88 : Ref sig .tc := ⟨.hbm, 122, rfl⟩
abbrev main_v89 : Ref sig .tc := ⟨.hbm, 123, rfl⟩
abbrev main_c_15 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_v99 : Ref sig .tc := ⟨.hbm, 134, rfl⟩
abbrev main_v100 : Ref sig .tc := ⟨.hbm, 135, rfl⟩
abbrev main_v101 : Ref sig .tc := ⟨.hbm, 136, rfl⟩
abbrev main_v102 : Ref sig .tc := ⟨.hbm, 137, rfl⟩
abbrev main_v103 : Ref sig .tc := ⟨.hbm, 138, rfl⟩
abbrev main_v104 : Ref sig .tc := ⟨.hbm, 139, rfl⟩
abbrev main_v105 : Ref sig .tc := ⟨.hbm, 140, rfl⟩
abbrev main_v106 : Ref sig .tc := ⟨.hbm, 141, rfl⟩
abbrev main_v107 : Ref sig .tc := ⟨.hbm, 142, rfl⟩
abbrev main_c_16 : Ref sig .tc := ⟨.hbm, 143, rfl⟩
abbrev main_v108 : Ref sig .tc := ⟨.hbm, 144, rfl⟩
abbrev main_v109 : Ref sig .tc := ⟨.hbm, 145, rfl⟩
abbrev main_call2_v0 : Ref sig .tc := ⟨.hbm, 146, rfl⟩
abbrev main_call2_v1 : Ref sig .tc := ⟨.hbm, 147, rfl⟩
abbrev main_call2_cst : Ref sig .tc := ⟨.hbm, 148, rfl⟩
abbrev main_call2_v2 : Ref sig .tc := ⟨.hbm, 149, rfl⟩
abbrev main_call2_v3 : Ref sig .tc := ⟨.hbm, 150, rfl⟩
abbrev main_call2_cst_0 : Ref sig .tc := ⟨.hbm, 151, rfl⟩
abbrev main_call2_v4 : Ref sig .tc := ⟨.hbm, 152, rfl⟩
abbrev main_call2_v5 : Ref sig .tc := ⟨.hbm, 153, rfl⟩
abbrev main_v110 : Ref sig .tc := ⟨.hbm, 154, rfl⟩
abbrev main_v111 : Ref sig .tc := ⟨.hbm, 155, rfl⟩
abbrev main_call3_v0 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_c_17 : Ref sig .tc := ⟨.hbm, 161, rfl⟩
abbrev main_v116 : Ref sig .tc := ⟨.hbm, 162, rfl⟩
abbrev main_v117 : Ref sig .tc := ⟨.hbm, 163, rfl⟩
abbrev main_c_18 : Ref sig .tc := ⟨.hbm, 164, rfl⟩
abbrev main_v118 : Ref sig .tc := ⟨.hbm, 165, rfl⟩
abbrev main_v119 : Ref sig .tc := ⟨.hbm, 166, rfl⟩
abbrev main_c_19 : Ref sig .tc := ⟨.hbm, 167, rfl⟩
abbrev main_v120 : Ref sig .tc := ⟨.hbm, 168, rfl⟩
abbrev main_v121 : Ref sig .tc := ⟨.hbm, 169, rfl⟩
abbrev main_c_20 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_v131 : Ref sig .tc := ⟨.hbm, 180, rfl⟩
abbrev main_v132 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_c_21 : Ref sig .tc := ⟨.hbm, 189, rfl⟩
abbrev main_v140 : Ref sig .tc := ⟨.hbm, 190, rfl⟩
abbrev main_v141 : Ref sig .tc := ⟨.hbm, 191, rfl⟩
abbrev main_c_22 : Ref sig .tc := ⟨.hbm, 192, rfl⟩
abbrev main_v142 : Ref sig .tc := ⟨.hbm, 193, rfl⟩
abbrev main_v143 : Ref sig .tc := ⟨.hbm, 194, rfl⟩
abbrev main_c_23 : Ref sig .tc := ⟨.hbm, 195, rfl⟩
abbrev main_v144 : Ref sig .tc := ⟨.hbm, 196, rfl⟩
abbrev main_v145 : Ref sig .tc := ⟨.hbm, 197, rfl⟩
abbrev main_c_24 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_v149 : Ref sig .tc := ⟨.hbm, 202, rfl⟩
abbrev main_v150 : Ref sig .tc := ⟨.hbm, 203, rfl⟩
abbrev main_v151 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_v157 : Ref sig .tc := ⟨.hbm, 210, rfl⟩
abbrev main_v158 : Ref sig .tc := ⟨.hbm, 211, rfl⟩
abbrev main_v159 : Ref sig .tc := ⟨.hbm, 212, rfl⟩
abbrev main_v160 : Ref sig .tc := ⟨.hbm, 213, rfl⟩
abbrev main_v161 : Ref sig .tc := ⟨.hbm, 214, rfl⟩
abbrev main_v162 : Ref sig .tc := ⟨.hbm, 215, rfl⟩
abbrev main_v163 : Ref sig .tc := ⟨.hbm, 216, rfl⟩
abbrev main_c_25 : Ref sig .tc := ⟨.hbm, 217, rfl⟩
abbrev main_v164 : Ref sig .tc := ⟨.hbm, 218, rfl⟩
abbrev main_v165 : Ref sig .tc := ⟨.hbm, 219, rfl⟩
abbrev main_call4_v0 : Ref sig .tc := ⟨.hbm, 220, rfl⟩
abbrev main_call4_v1 : Ref sig .tc := ⟨.hbm, 221, rfl⟩
abbrev main_call4_cst : Ref sig .tc := ⟨.hbm, 222, rfl⟩
abbrev main_call4_v2 : Ref sig .tc := ⟨.hbm, 223, rfl⟩
abbrev main_call4_v3 : Ref sig .tc := ⟨.hbm, 224, rfl⟩
abbrev main_call4_cst_0 : Ref sig .tc := ⟨.hbm, 225, rfl⟩
abbrev main_call4_v4 : Ref sig .tc := ⟨.hbm, 226, rfl⟩
abbrev main_call4_v5 : Ref sig .tc := ⟨.hbm, 227, rfl⟩
abbrev main_v166 : Ref sig .tc := ⟨.hbm, 228, rfl⟩
abbrev main_v167 : Ref sig .tc := ⟨.hbm, 229, rfl⟩
abbrev main_call5_v0 : Ref sig .tc := ⟨.hbm, 230, rfl⟩
abbrev main_v168 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_c_26 : Ref sig .tc := ⟨.hbm, 235, rfl⟩
abbrev main_v172 : Ref sig .tc := ⟨.hbm, 236, rfl⟩
abbrev main_v173 : Ref sig .tc := ⟨.hbm, 237, rfl⟩
abbrev main_c_27 : Ref sig .tc := ⟨.hbm, 238, rfl⟩
abbrev main_v174 : Ref sig .tc := ⟨.hbm, 239, rfl⟩
abbrev main_v175 : Ref sig .tc := ⟨.hbm, 240, rfl⟩
abbrev main_c_28 : Ref sig .tc := ⟨.hbm, 241, rfl⟩
abbrev main_v176 : Ref sig .tc := ⟨.hbm, 242, rfl⟩
abbrev main_v177 : Ref sig .tc := ⟨.hbm, 243, rfl⟩
abbrev main_c_29 : Ref sig .tc := ⟨.hbm, 244, rfl⟩
abbrev main_v178 : Ref sig .tc := ⟨.hbm, 245, rfl⟩
abbrev main_v179 : Ref sig .tc := ⟨.hbm, 246, rfl⟩
abbrev main_v180 : Ref sig .tc := ⟨.hbm, 247, rfl⟩
abbrev main_v181 : Ref sig .tc := ⟨.hbm, 248, rfl⟩
abbrev main_v182 : Ref sig .tc := ⟨.hbm, 249, rfl⟩
abbrev main_v183 : Ref sig .tc := ⟨.hbm, 250, rfl⟩
abbrev main_v184 : Ref sig .tc := ⟨.hbm, 251, rfl⟩
abbrev main_v185 : Ref sig .tc := ⟨.hbm, 252, rfl⟩
abbrev main_v186 : Ref sig .tc := ⟨.hbm, 253, rfl⟩
abbrev main_v187 : Ref sig .tc := ⟨.hbm, 254, rfl⟩
abbrev main_v188 : Ref sig .tc := ⟨.hbm, 255, rfl⟩
abbrev main_v189 : Ref sig .tc := ⟨.hbm, 256, rfl⟩
abbrev main_v190 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_v194 : Ref sig .tc := ⟨.hbm, 261, rfl⟩
abbrev main_v195 : Ref sig .tc := ⟨.hbm, 262, rfl⟩
abbrev main_c_30 : Ref sig .tc := ⟨.hbm, 263, rfl⟩
abbrev main_v196 : Ref sig .tc := ⟨.hbm, 264, rfl⟩
abbrev main_v197 : Ref sig .tc := ⟨.hbm, 265, rfl⟩
abbrev main_c_31 : Ref sig .tc := ⟨.hbm, 266, rfl⟩
abbrev main_v198 : Ref sig .tc := ⟨.hbm, 267, rfl⟩
abbrev main_v199 : Ref sig .tc := ⟨.hbm, 268, rfl⟩
abbrev main_c_32 : Ref sig .tc := ⟨.hbm, 269, rfl⟩
abbrev main_v200 : Ref sig .tc := ⟨.hbm, 270, rfl⟩
abbrev main_v201 : Ref sig .tc := ⟨.hbm, 271, rfl⟩
abbrev main_c_33 : Ref sig .tc := ⟨.hbm, 272, rfl⟩
abbrev main_v202 : Ref sig .tc := ⟨.hbm, 273, rfl⟩
abbrev main_v203 : Ref sig .tc := ⟨.hbm, 274, rfl⟩
abbrev main_v204 : Ref sig .tc := ⟨.hbm, 275, rfl⟩
abbrev main_v205 : Ref sig .tc := ⟨.hbm, 276, rfl⟩
abbrev main_v206 : Ref sig .tc := ⟨.hbm, 277, rfl⟩
abbrev main_v207 : Ref sig .tc := ⟨.hbm, 278, rfl⟩
abbrev main_v208 : Ref sig .tc := ⟨.hbm, 279, rfl⟩
abbrev main_v209 : Ref sig .tc := ⟨.hbm, 280, rfl⟩
abbrev main_v210 : Ref sig .tc := ⟨.hbm, 281, rfl⟩
abbrev main_v211 : Ref sig .tc := ⟨.hbm, 282, rfl⟩
abbrev main_v212 : Ref sig .tc := ⟨.hbm, 283, rfl⟩
abbrev main_v213 : Ref sig .tc := ⟨.hbm, 284, rfl⟩
abbrev main_v214 : Ref sig .tc := ⟨.hbm, 285, rfl⟩
abbrev main_v215 : Ref sig .tc := ⟨.hbm, 286, rfl⟩
abbrev main_v216 : Ref sig .tc := ⟨.hbm, 287, rfl⟩
abbrev main_v217 : Ref sig .tc := ⟨.hbm, 288, rfl⟩
abbrev main_v218 : Ref sig .tc := ⟨.hbm, 289, rfl⟩
abbrev main_v219 : Ref sig .tc := ⟨.hbm, 290, rfl⟩
abbrev main_c_34 : Ref sig .tc := ⟨.hbm, 291, rfl⟩
abbrev main_v220 : Ref sig .tc := ⟨.hbm, 292, rfl⟩
abbrev main_v221 : Ref sig .tc := ⟨.hbm, 293, rfl⟩
abbrev main_call6_v0 : Ref sig .tc := ⟨.hbm, 294, rfl⟩
abbrev main_call6_v1 : Ref sig .tc := ⟨.hbm, 295, rfl⟩
abbrev main_call6_cst : Ref sig .tc := ⟨.hbm, 296, rfl⟩
abbrev main_call6_v2 : Ref sig .tc := ⟨.hbm, 297, rfl⟩
abbrev main_call6_v3 : Ref sig .tc := ⟨.hbm, 298, rfl⟩
abbrev main_call6_cst_0 : Ref sig .tc := ⟨.hbm, 299, rfl⟩
abbrev main_call6_v4 : Ref sig .tc := ⟨.hbm, 300, rfl⟩
abbrev main_call6_v5 : Ref sig .tc := ⟨.hbm, 301, rfl⟩
abbrev main_v222 : Ref sig .tc := ⟨.hbm, 302, rfl⟩
abbrev main_v223 : Ref sig .tc := ⟨.hbm, 303, rfl⟩
abbrev main_call7_v0 : Ref sig .tc := ⟨.hbm, 304, rfl⟩
abbrev main_v224 : Ref sig .tc := ⟨.hbm, 305, rfl⟩
abbrev main_v225 : Ref sig .tc := ⟨.hbm, 306, rfl⟩
abbrev main_v226 : Ref sig .tc := ⟨.hbm, 307, rfl⟩
abbrev main_cst_35 : Ref sig .tc := ⟨.hbm, 308, rfl⟩
abbrev main_v227 : Ref sig .tc := ⟨.hbm, 309, rfl⟩

abbrev nD : Nat := 1
abbrev τ : Topo := Topo.v7x

variable {F : FTy → Type} [FloatOps F]
-- ==== Down.lean ====
abbrev S10 : Shape := ⟨1, ![10]⟩
abbrev S1 : Shape := ⟨1, ![1]⟩
abbrev S5120x9216 : Shape := ⟨2, ![5120, 9216]⟩
abbrev S5120x128 : Shape := ⟨2, ![5120, 128]⟩
abbrev S4x4608x6144 : Shape := ⟨3, ![4, 4608, 6144]⟩
abbrev S4x1x6144 : Shape := ⟨3, ![4, 1, 6144]⟩
abbrev S5120x6144 : Shape := ⟨2, ![5120, 6144]⟩
abbrev S512x9216 : Shape := ⟨2, ![512, 9216]⟩
abbrev S512x128 : Shape := ⟨2, ![512, 128]⟩
abbrev S1x4608x512 : Shape := ⟨3, ![1, 4608, 512]⟩
abbrev S1x1x512 : Shape := ⟨3, ![1, 1, 512]⟩
abbrev S512x512 : Shape := ⟨2, ![512, 512]⟩
abbrev S4608x512 : Shape := ⟨2, ![4608, 512]⟩
abbrev S4608x2x512 : Shape := ⟨3, ![4608, 2, 512]⟩
abbrev S4608x1x512 : Shape := ⟨3, ![4608, 1, 512]⟩
abbrev S9216x512 : Shape := ⟨2, ![9216, 512]⟩
abbrev S512x1 : Shape := ⟨2, ![512, 1]⟩
abbrev S1x512 : Shape := ⟨2, ![1, 512]⟩

abbrev nBuf : Space → Nat
  | .hbm => 5
  | .vmem => 10
  | .smem => 2
  | _ => 0

abbrev bufTy : (tb : Table) → Fin (tcTables nBuf tb) → BufTy
  | .hbm, ⟨0, _⟩ => ⟨S5120x9216, .bf16⟩
  | .hbm, ⟨1, _⟩ => ⟨S5120x128, .f32⟩
  | .hbm, ⟨2, _⟩ => ⟨S4x4608x6144, .i8⟩
  | .hbm, ⟨3, _⟩ => ⟨S4x1x6144, .f32⟩
  | .hbm, ⟨4, _⟩ => ⟨S5120x6144, .f32⟩
  | .local _ .vmem, ⟨0, _⟩ => ⟨S512x9216, .bf16⟩
  | .local _ .vmem, ⟨1, _⟩ => ⟨S512x9216, .bf16⟩
  | .local _ .vmem, ⟨2, _⟩ => ⟨S512x128, .f32⟩
  | .local _ .vmem, ⟨3, _⟩ => ⟨S512x128, .f32⟩
  | .local _ .vmem, ⟨4, _⟩ => ⟨S1x4608x512, .i8⟩
  | .local _ .vmem, ⟨5, _⟩ => ⟨S1x4608x512, .i8⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .smem, ⟨0, _⟩ => ⟨S10, .i32⟩
  | .local _ .smem, ⟨1, _⟩ => ⟨S1, .i32⟩
  | _, _ => ⟨S5120x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![10, 12], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_2 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c11_i32 : BitVec 32 := 11#32
  let v4 : BitVec 32 := Scalar.select v3 arg1 c11_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S10.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S10) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c11_i32 : BitVec 32 := 11#32
  let v4 : BitVec 32 := Scalar.select v3 arg1 c11_i32
  let c0_i32 : BitVec 32 := 0#32
  let c0_i32_0 : BitVec 32 := 0#32
  ![v1.toNat, c0_i32.toNat, v4.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_0 : Index := 0#32
  let v3 : BitVec 32 := pf.at 1 (Rect.unit (s := S1) ![0] S1.size inb_S1_S1_0) numel1_S1
  let v4 : BitVec 1 := Scalar.cmpi .slt arg0 v3
  let c11_i32 : BitVec 32 := 11#32
  let v5 : BitVec 32 := Scalar.select v4 arg1 c11_i32
  let c0_i32 : BitVec 32 := 0#32
  ![v2.toNat, v5.toNat]

abbrev stage0_0 : Fin 2 → Memref sig .tc .vmem S512x9216 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x4608x512 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== DownRefIdeal.lean ====
abbrev S10 : Shape := ⟨1, ![10]⟩
abbrev S1 : Shape := ⟨1, ![1]⟩
abbrev S5120x9216 : Shape := ⟨2, ![5120, 9216]⟩
abbrev S5120x128 : Shape := ⟨2, ![5120, 128]⟩
abbrev S4x4608x6144 : Shape := ⟨3, ![4, 4608, 6144]⟩
abbrev S4x1x6144 : Shape := ⟨3, ![4, 1, 6144]⟩
abbrev S_ : Shape := ⟨0, ![]⟩
abbrev S5120x6144 : Shape := ⟨2, ![5120, 6144]⟩
abbrev S1x4608x6144 : Shape := ⟨3, ![1, 4608, 6144]⟩
abbrev S4608x6144 : Shape := ⟨2, ![4608, 6144]⟩
abbrev S4608x1x6144 : Shape := ⟨3, ![4608, 1, 6144]⟩
abbrev S4608x2x6144 : Shape := ⟨3, ![4608, 2, 6144]⟩
abbrev S9216x6144 : Shape := ⟨2, ![9216, 6144]⟩
abbrev S5120x1 : Shape := ⟨2, ![5120, 1]⟩
abbrev S1x1x6144 : Shape := ⟨3, ![1, 1, 6144]⟩
abbrev S1x6144 : Shape := ⟨2, ![1, 6144]⟩
abbrev S10x1 : Shape := ⟨2, ![10, 1]⟩
abbrev S10x512 : Shape := ⟨2, ![10, 512]⟩

abbrev nBuf : Space → Nat
  | .hbm => 152
  | .vmem => 0
  | .smem => 0
  | _ => 0

abbrev hbmTy0_0 (i : Nat) : BufTy := match i % 128 with
  | 0 => ⟨S10, .i32⟩
  | 1 => ⟨S1, .i32⟩
  | 2 => ⟨S5120x9216, .bf16⟩
  | 3 => ⟨S5120x128, .f32⟩
  | 4 => ⟨S4x4608x6144, .i8⟩
  | 5 => ⟨S4x1x6144, .f32⟩
  | 6 => ⟨S_, .f32⟩
  | 7 => ⟨S5120x6144, .f32⟩
  | 8 => ⟨S1x4608x6144, .i8⟩
  | 9 => ⟨S4608x6144, .i8⟩
  | 10 => ⟨S4608x6144, .i32⟩
  | 11 => ⟨S_, .i32⟩
  | 12 => ⟨S4608x6144, .i32⟩
  | 13 => ⟨S4608x6144, .i32⟩
  | 14 => ⟨S_, .i32⟩
  | 15 => ⟨S4608x6144, .i32⟩
  | 16 => ⟨S4608x6144, .i32⟩
  | 17 => ⟨S_, .i32⟩
  | 18 => ⟨S4608x6144, .i32⟩
  | 19 => ⟨S4608x6144, .i32⟩
  | 20 => ⟨S_, .i32⟩
  | 21 => ⟨S4608x6144, .i32⟩
  | 22 => ⟨S4608x6144, .i32⟩
  | 23 => ⟨S4608x1x6144, .i32⟩
  | 24 => ⟨S4608x1x6144, .i32⟩
  | 25 => ⟨S4608x2x6144, .i32⟩
  | 26 => ⟨S9216x6144, .i32⟩
  | 27 => ⟨S9216x6144, .bf16⟩
  | 28 => ⟨S5120x6144, .f32⟩
  | 29 => ⟨S5120x1, .f32⟩
  | 30 => ⟨S5120x6144, .f32⟩
  | 31 => ⟨S5120x6144, .f32⟩
  | 32 => ⟨S1x1x6144, .f32⟩
  | 33 => ⟨S1x6144, .f32⟩
  | 34 => ⟨S5120x6144, .f32⟩
  | 35 => ⟨S5120x6144, .f32⟩
  | 36 => ⟨S10x1, .i32⟩
  | 37 => ⟨S10x512, .i32⟩
  | 38 => ⟨S5120x1, .i32⟩
  | 39 => ⟨S_, .i32⟩
  | 40 => ⟨S5120x1, .i32⟩
  | 41 => ⟨S5120x1, .i1⟩
  | 42 => ⟨S5120x6144, .i1⟩
  | 43 => ⟨S5120x6144, .f32⟩
  | 44 => ⟨S1x4608x6144, .i8⟩
  | 45 => ⟨S4608x6144, .i8⟩
  | 46 => ⟨S4608x6144, .i32⟩
  | 47 => ⟨S_, .i32⟩
  | 48 => ⟨S4608x6144, .i32⟩
  | 49 => ⟨S4608x6144, .i32⟩
  | 50 => ⟨S_, .i32⟩
  | 51 => ⟨S4608x6144, .i32⟩
  | 52 => ⟨S4608x6144, .i32⟩
  | 53 => ⟨S_, .i32⟩
  | 54 => ⟨S4608x6144, .i32⟩
  | 55 => ⟨S4608x6144, .i32⟩
  | 56 => ⟨S_, .i32⟩
  | 57 => ⟨S4608x6144, .i32⟩
  | 58 => ⟨S4608x6144, .i32⟩
  | 59 => ⟨S4608x1x6144, .i32⟩
  | 60 => ⟨S4608x1x6144, .i32⟩
  | 61 => ⟨S4608x2x6144, .i32⟩
  | 62 => ⟨S9216x6144, .i32⟩
  | 63 => ⟨S9216x6144, .bf16⟩
  | 64 => ⟨S5120x6144, .f32⟩
  | 65 => ⟨S5120x1, .f32⟩
  | 66 => ⟨S5120x6144, .f32⟩
  | 67 => ⟨S5120x6144, .f32⟩
  | 68 => ⟨S1x1x6144, .f32⟩
  | 69 => ⟨S1x6144, .f32⟩
  | 70 => ⟨S5120x6144, .f32⟩
  | 71 => ⟨S5120x6144, .f32⟩
  | 72 => ⟨S10x1, .i32⟩
  | 73 => ⟨S10x512, .i32⟩
  | 74 => ⟨S5120x1, .i32⟩
  | 75 => ⟨S_, .i32⟩
  | 76 => ⟨S5120x1, .i32⟩
  | 77 => ⟨S5120x1, .i1⟩
  | 78 => ⟨S5120x6144, .i1⟩
  | 79 => ⟨S5120x6144, .f32⟩
  | 80 => ⟨S1x4608x6144, .i8⟩
  | 81 => ⟨S4608x6144, .i8⟩
  | 82 => ⟨S4608x6144, .i32⟩
  | 83 => ⟨S_, .i32⟩
  | 84 => ⟨S4608x6144, .i32⟩
  | 85 => ⟨S4608x6144, .i32⟩
  | 86 => ⟨S_, .i32⟩
  | 87 => ⟨S4608x6144, .i32⟩
  | 88 => ⟨S4608x6144, .i32⟩
  | 89 => ⟨S_, .i32⟩
  | 90 => ⟨S4608x6144, .i32⟩
  | 91 => ⟨S4608x6144, .i32⟩
  | 92 => ⟨S_, .i32⟩
  | 93 => ⟨S4608x6144, .i32⟩
  | 94 => ⟨S4608x6144, .i32⟩
  | 95 => ⟨S4608x1x6144, .i32⟩
  | 96 => ⟨S4608x1x6144, .i32⟩
  | 97 => ⟨S4608x2x6144, .i32⟩
  | 98 => ⟨S9216x6144, .i32⟩
  | 99 => ⟨S9216x6144, .bf16⟩
  | 100 => ⟨S5120x6144, .f32⟩
  | 101 => ⟨S5120x1, .f32⟩
  | 102 => ⟨S5120x6144, .f32⟩
  | 103 => ⟨S5120x6144, .f32⟩
  | 104 => ⟨S1x1x6144, .f32⟩
  | 105 => ⟨S1x6144, .f32⟩
  | 106 => ⟨S5120x6144, .f32⟩
  | 107 => ⟨S5120x6144, .f32⟩
  | 108 => ⟨S10x1, .i32⟩
  | 109 => ⟨S10x512, .i32⟩
  | 110 => ⟨S5120x1, .i32⟩
  | 111 => ⟨S_, .i32⟩
  | 112 => ⟨S5120x1, .i32⟩
  | 113 => ⟨S5120x1, .i1⟩
  | 114 => ⟨S5120x6144, .i1⟩
  | 115 => ⟨S5120x6144, .f32⟩
  | 116 => ⟨S1x4608x6144, .i8⟩
  | 117 => ⟨S4608x6144, .i8⟩
  | 118 => ⟨S4608x6144, .i32⟩
  | 119 => ⟨S_, .i32⟩
  | 120 => ⟨S4608x6144, .i32⟩
  | 121 => ⟨S4608x6144, .i32⟩
  | 122 => ⟨S_, .i32⟩
  | 123 => ⟨S4608x6144, .i32⟩
  | 124 => ⟨S4608x6144, .i32⟩
  | 125 => ⟨S_, .i32⟩
  | 126 => ⟨S4608x6144, .i32⟩
  | 127 => ⟨S4608x6144, .i32⟩
  | _ => ⟨S10, .i32⟩

abbrev hbmTy0_1 (i : Nat) : BufTy := match i % 128 with
  | 0 => ⟨S_, .i32⟩
  | 1 => ⟨S4608x6144, .i32⟩
  | 2 => ⟨S4608x6144, .i32⟩
  | 3 => ⟨S4608x1x6144, .i32⟩
  | 4 => ⟨S4608x1x6144, .i32⟩
  | 5 => ⟨S4608x2x6144, .i32⟩
  | 6 => ⟨S9216x6144, .i32⟩
  | 7 => ⟨S9216x6144, .bf16⟩
  | 8 => ⟨S5120x6144, .f32⟩
  | 9 => ⟨S5120x1, .f32⟩
  | 10 => ⟨S5120x6144, .f32⟩
  | 11 => ⟨S5120x6144, .f32⟩
  | 12 => ⟨S1x1x6144, .f32⟩
  | 13 => ⟨S1x6144, .f32⟩
  | 14 => ⟨S5120x6144, .f32⟩
  | 15 => ⟨S5120x6144, .f32⟩
  | 16 => ⟨S10x1, .i32⟩
  | 17 => ⟨S10x512, .i32⟩
  | 18 => ⟨S5120x1, .i32⟩
  | 19 => ⟨S_, .i32⟩
  | 20 => ⟨S5120x1, .i32⟩
  | 21 => ⟨S5120x1, .i1⟩
  | 22 => ⟨S5120x6144, .i1⟩
  | 23 => ⟨S5120x6144, .f32⟩
  | _ => ⟨S10, .i32⟩

abbrev hbmTy (i : Nat) : BufTy := match i / 128 with
  | 0 => hbmTy0_0 i
  | 1 => hbmTy0_1 i
  | _ => ⟨S10, .i32⟩

abbrev bufTy : (tb : Table) → Fin (tcTables nBuf tb) → BufTy
  | .hbm, ⟨i, _⟩ => hbmTy i
  | _, _ => ⟨S10, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_c_1 : Ref sig .tc := ⟨.hbm, 17, rfl⟩
abbrev main_v8 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_c_3 : Ref sig .tc := ⟨.hbm, 39, rfl⟩
abbrev main_v28 : Ref sig .tc := ⟨.hbm, 40, rfl⟩
abbrev main_v29 : Ref sig .tc := ⟨.hbm, 41, rfl⟩
abbrev main_call0_v0 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_c_4 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_c_7 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_c_8 : Ref sig .tc := ⟨.hbm, 75, rfl⟩
abbrev main_v58 : Ref sig .tc := ⟨.hbm, 76, rfl⟩
abbrev main_v59 : Ref sig .tc := ⟨.hbm, 77, rfl⟩
abbrev main_call1_v0 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_c_9 : Ref sig .tc := ⟨.hbm, 83, rfl⟩
abbrev main_v64 : Ref sig .tc := ⟨.hbm, 84, rfl⟩
abbrev main_v65 : Ref sig .tc := ⟨.hbm, 85, rfl⟩
abbrev main_c_10 : Ref sig .tc := ⟨.hbm, 86, rfl⟩
abbrev main_v66 : Ref sig .tc := ⟨.hbm, 87, rfl⟩
abbrev main_v67 : Ref sig .tc := ⟨.hbm, 88, rfl⟩
abbrev main_c_11 : Ref sig .tc := ⟨.hbm, 89, rfl⟩
abbrev main_v68 : Ref sig .tc := ⟨.hbm, 90, rfl⟩
abbrev main_v69 : Ref sig .tc := ⟨.hbm, 91, rfl⟩
abbrev main_c_12 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_c_13 : Ref sig .tc := ⟨.hbm, 111, rfl⟩
abbrev main_v88 : Ref sig .tc := ⟨.hbm, 112, rfl⟩
abbrev main_v89 : Ref sig .tc := ⟨.hbm, 113, rfl⟩
abbrev main_call2_v0 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_c_14 : Ref sig .tc := ⟨.hbm, 119, rfl⟩
abbrev main_v94 : Ref sig .tc := ⟨.hbm, 120, rfl⟩
abbrev main_v95 : Ref sig .tc := ⟨.hbm, 121, rfl⟩
abbrev main_c_15 : Ref sig .tc := ⟨.hbm, 122, rfl⟩
abbrev main_v96 : Ref sig .tc := ⟨.hbm, 123, rfl⟩
abbrev main_v97 : Ref sig .tc := ⟨.hbm, 124, rfl⟩
abbrev main_c_16 : Ref sig .tc := ⟨.hbm, 125, rfl⟩
abbrev main_v98 : Ref sig .tc := ⟨.hbm, 126, rfl⟩
abbrev main_v99 : Ref sig .tc := ⟨.hbm, 127, rfl⟩
abbrev main_c_17 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_c_18 : Ref sig .tc := ⟨.hbm, 147, rfl⟩
abbrev main_v118 : Ref sig .tc := ⟨.hbm, 148, rfl⟩
abbrev main_v119 : Ref sig .tc := ⟨.hbm, 149, rfl⟩
abbrev main_call3_v0 : Ref sig .tc := ⟨.hbm, 150, rfl⟩
abbrev main_v120 : Ref sig .tc := ⟨.hbm, 151, rfl⟩

abbrev nD : Nat := 1
abbrev τ : Topo := Topo.v7x

variable {F : FTy → Type} [FloatOps F]
-- ==== Norm.lean ====
abbrev S1792x6144 : Shape := ⟨2, ![1792, 6144]⟩
abbrev S1x6144 : Shape := ⟨2, ![1, 6144]⟩
abbrev S1792x1 : Shape := ⟨2, ![1792, 1]⟩
abbrev S14x1x128 : Shape := ⟨3, ![14, 1, 128]⟩
abbrev S128x6144 : Shape := ⟨2, ![128, 6144]⟩
abbrev S128x1 : Shape := ⟨2, ![128, 1]⟩
abbrev S1x1x128 : Shape := ⟨3, ![1, 1, 128]⟩
abbrev S128 : Shape := ⟨1, ![128]⟩
abbrev S128x128 : Shape := ⟨2, ![128, 128]⟩
abbrev S1x128 : Shape := ⟨2, ![1, 128]⟩

abbrev nBuf : Space → Nat
  | .hbm => 7
  | .vmem => 13
  | .smem => 0
  | _ => 0

abbrev bufTy : (tb : Table) → Fin (tcTables nBuf tb) → BufTy
  | .hbm, ⟨0, _⟩ => ⟨S1792x6144, .bf16⟩
  | .hbm, ⟨1, _⟩ => ⟨S1x6144, .f32⟩
  | .hbm, ⟨2, _⟩ => ⟨S1792x6144, .i8⟩
  | .hbm, ⟨3, _⟩ => ⟨S1792x6144, .bf16⟩
  | .hbm, ⟨4, _⟩ => ⟨S1792x1, .f32⟩
  | .hbm, ⟨5, _⟩ => ⟨S14x1x128, .f32⟩
  | .hbm, ⟨6, _⟩ => ⟨S1792x1, .f32⟩
  | .local _ .vmem, ⟨0, _⟩ => ⟨S128x6144, .bf16⟩
  | .local _ .vmem, ⟨1, _⟩ => ⟨S128x6144, .bf16⟩
  | .local _ .vmem, ⟨2, _⟩ => ⟨S1x6144, .f32⟩
  | .local _ .vmem, ⟨3, _⟩ => ⟨S128x6144, .i8⟩
  | .local _ .vmem, ⟨4, _⟩ => ⟨S128x6144, .i8⟩
  | .local _ .vmem, ⟨5, _⟩ => ⟨S128x6144, .bf16⟩
  | .local _ .vmem, ⟨6, _⟩ => ⟨S128x6144, .bf16⟩
  | .local _ .vmem, ⟨7, _⟩ => ⟨S128x1, .f32⟩
  | .local _ .vmem, ⟨8, _⟩ => ⟨S128x1, .f32⟩
  | .local _ .vmem, ⟨9, _⟩ => ⟨S1x1x128, .f32⟩
  | .local _ .vmem, ⟨10, _⟩ => ⟨S1x1x128, .f32⟩
  | .local _ .vmem, ⟨11, _⟩ => ⟨S128x1, .f32⟩
  | .local _ .vmem, ⟨12, _⟩ => ⟨S128x1, .f32⟩
  | _, _ => ⟨S1792x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev main_v0_3 : Ref sig .tc := ⟨.hbm, 5, rfl⟩
abbrev main_v0_4 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x6144 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x6144 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== NormRefIdeal.lean ====
abbrev S1792x6144 : Shape := ⟨2, ![1792, 6144]⟩
abbrev S1x6144 : Shape := ⟨2, ![1, 6144]⟩
abbrev S_ : Shape := ⟨0, ![]⟩
abbrev S1792 : Shape := ⟨1, ![1792]⟩
abbrev S1792x1 : Shape := ⟨2, ![1792, 1]⟩
abbrev S14x1x128 : Shape := ⟨3, ![14, 1, 128]⟩

abbrev nBuf : Space → Nat
  | .hbm => 58
  | .vmem => 0
  | .smem => 0
  | _ => 0

abbrev bufTy : (tb : Table) → Fin (tcTables nBuf tb) → BufTy
  | .hbm, ⟨0, _⟩ => ⟨S1792x6144, .bf16⟩
  | .hbm, ⟨1, _⟩ => ⟨S1x6144, .f32⟩
  | .hbm, ⟨2, _⟩ => ⟨S1792x6144, .f32⟩
  | .hbm, ⟨3, _⟩ => ⟨S1792x6144, .f32⟩
  | .hbm, ⟨4, _⟩ => ⟨S_, .f32⟩
  | .hbm, ⟨5, _⟩ => ⟨S1792, .f32⟩
  | .hbm, ⟨6, _⟩ => ⟨S1792x1, .f32⟩
  | .hbm, ⟨7, _⟩ => ⟨S_, .f32⟩
  | .hbm, ⟨8, _⟩ => ⟨S1792x1, .f32⟩
  | .hbm, ⟨9, _⟩ => ⟨S1792x1, .f32⟩
  | .hbm, ⟨10, _⟩ => ⟨S_, .f32⟩
  | .hbm, ⟨11, _⟩ => ⟨S1792x1, .f32⟩
  | .hbm, ⟨12, _⟩ => ⟨S1792x1, .f32⟩
  | .hbm, ⟨13, _⟩ => ⟨S1792x1, .f32⟩
  | .hbm, ⟨14, _⟩ => ⟨S1792x6144, .f32⟩
  | .hbm, ⟨15, _⟩ => ⟨S1792x6144, .f32⟩
  | .hbm, ⟨16, _⟩ => ⟨S1792x6144, .f32⟩
  | .hbm, ⟨17, _⟩ => ⟨S1792x6144, .f32⟩
  | .hbm, ⟨18, _⟩ => ⟨S1792x6144, .f32⟩
  | .hbm, ⟨19, _⟩ => ⟨S_, .f32⟩
  | .hbm, ⟨20, _⟩ => ⟨S1792, .f32⟩
  | .hbm, ⟨21, _⟩ => ⟨S1792x1, .f32⟩
  | .hbm, ⟨22, _⟩ => ⟨S_, .f32⟩
  | .hbm, ⟨23, _⟩ => ⟨S1792x1, .f32⟩
  | .hbm, ⟨24, _⟩ => ⟨S1792x1, .i1⟩
  | .hbm, ⟨25, _⟩ => ⟨S_, .f32⟩
  | .hbm, ⟨26, _⟩ => ⟨S1792x1, .f32⟩
  | .hbm, ⟨27, _⟩ => ⟨S1792x1, .f32⟩
  | .hbm, ⟨28, _⟩ => ⟨S_, .f32⟩
  | .hbm, ⟨29, _⟩ => ⟨S_, .f32⟩
  | .hbm, ⟨30, _⟩ => ⟨S1792x1, .f32⟩
  | .hbm, ⟨31, _⟩ => ⟨S1792x1, .f32⟩
  | .hbm, ⟨32, _⟩ => ⟨S1792x6144, .f32⟩
  | .hbm, ⟨33, _⟩ => ⟨S1792x6144, .f32⟩
  | .hbm, ⟨34, _⟩ => ⟨S1792x6144, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S1792x6144, .f32⟩
  | .hbm, ⟨39, _⟩ => ⟨S1792x6144, .f32⟩
  | .hbm, ⟨40, _⟩ => ⟨S_, .f32⟩
  | .hbm, ⟨41, _⟩ => ⟨S1792x6144, .f32⟩
  | .hbm, ⟨42, _⟩ => ⟨S1792x6144, .f32⟩
  | .hbm, ⟨43, _⟩ => ⟨S1792x6144, .i32⟩
  | .hbm, ⟨44, _⟩ => ⟨S1792x6144, .i8⟩
  | .hbm, ⟨45, _⟩ => ⟨S1792x6144, .bf16⟩
  | .hbm, ⟨46, _⟩ => ⟨S14x1x128, .f32⟩
  | .hbm, ⟨47, _⟩ => ⟨S1792x6144, .f32⟩
  | .hbm, ⟨48, _⟩ => ⟨S_, .f32⟩
  | .hbm, ⟨49, _⟩ => ⟨S1792, .f32⟩
  | .hbm, ⟨50, _⟩ => ⟨S1792x1, .f32⟩
  | .hbm, ⟨51, _⟩ => ⟨S_, .f32⟩
  | .hbm, ⟨52, _⟩ => ⟨S1792x1, .f32⟩
  | .hbm, ⟨53, _⟩ => ⟨S1792x1, .f32⟩
  | .hbm, ⟨54, _⟩ => ⟨S_, .f32⟩
  | .hbm, ⟨55, _⟩ => ⟨S1792x1, .f32⟩
  | .hbm, ⟨56, _⟩ => ⟨S1792x1, .f32⟩
  | .hbm, ⟨57, _⟩ => ⟨S1792x1, .f32⟩
  | _, _ => ⟨S1792x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_cst_5 : Ref sig .tc := ⟨.hbm, 28, rfl⟩
abbrev main_call0_v0 : Ref sig .tc := ⟨.hbm, 29, rfl⟩
abbrev main_call0_v1 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_cst_7 : Ref sig .tc := ⟨.hbm, 36, rfl⟩
abbrev main_call2_v0 : Ref sig .tc := ⟨.hbm, 37, rfl⟩
abbrev main_call2_v1 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_8 : Ref sig .tc := ⟨.hbm, 48, rfl⟩
abbrev main_v30 : Ref sig .tc := ⟨.hbm, 49, rfl⟩
abbrev main_v31 : Ref sig .tc := ⟨.hbm, 50, rfl⟩
abbrev main_cst_9 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩

abbrev nD : Nat := 1
abbrev τ : Topo := Topo.v7x

variable {F : FTy → Type} [FloatOps F]
-- ==== Qkv.lean ====
abbrev S1792x6144 : Shape := ⟨2, ![1792, 6144]⟩
abbrev S6144x32x3x128 : Shape := ⟨4, ![6144, 32, 3, 128]⟩
abbrev S1792x1 : Shape := ⟨2, ![1792, 1]⟩
abbrev S32x3x128 : Shape := ⟨3, ![32, 3, 128]⟩
abbrev S6144x3x32x128 : Shape := ⟨4, ![6144, 3, 32, 128]⟩
abbrev S6144x12288 : Shape := ⟨2, ![6144, 12288]⟩
abbrev S3x32x128 : Shape := ⟨3, ![3, 32, 128]⟩
abbrev S1x12288 : Shape := ⟨2, ![1, 12288]⟩
abbrev S1792x12288 : Shape := ⟨2, ![1792, 12288]⟩
abbrev S6144x512 : Shape := ⟨2, ![6144, 512]⟩
abbrev S1x512 : Shape := ⟨2, ![1, 512]⟩
abbrev S1792x512 : Shape := ⟨2, ![1792, 512]⟩

abbrev nBuf : Space → Nat
  | .hbm => 9
  | .vmem => 8
  | .smem => 0
  | _ => 0

abbrev bufTy : (tb : Table) → Fin (tcTables nBuf tb) → BufTy
  | .hbm, ⟨0, _⟩ => ⟨S1792x6144, .bf16⟩
  | .hbm, ⟨1, _⟩ => ⟨S6144x32x3x128, .i8⟩
  | .hbm, ⟨2, _⟩ => ⟨S1792x1, .f32⟩
  | .hbm, ⟨3, _⟩ => ⟨S32x3x128, .f32⟩
  | .hbm, ⟨4, _⟩ => ⟨S6144x3x32x128, .i8⟩
  | .hbm, ⟨5, _⟩ => ⟨S6144x12288, .i8⟩
  | .hbm, ⟨6, _⟩ => ⟨S3x32x128, .f32⟩
  | .hbm, ⟨7, _⟩ => ⟨S1x12288, .f32⟩
  | .hbm, ⟨8, _⟩ => ⟨S1792x12288, .bf16⟩
  | .local _ .vmem, ⟨0, _⟩ => ⟨S1792x6144, .bf16⟩
  | .local _ .vmem, ⟨1, _⟩ => ⟨S6144x512, .i8⟩
  | .local _ .vmem, ⟨2, _⟩ => ⟨S6144x512, .i8⟩
  | .local _ .vmem, ⟨3, _⟩ => ⟨S1792x1, .f32⟩
  | .local _ .vmem, ⟨4, _⟩ => ⟨S1x512, .f32⟩
  | .local _ .vmem, ⟨5, _⟩ => ⟨S1x512, .f32⟩
  | .local _ .vmem, ⟨6, _⟩ => ⟨S1792x512, .bf16⟩
  | .local _ .vmem, ⟨7, _⟩ => ⟨S1792x512, .bf16⟩
  | _, _ => ⟨S1792x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== QkvRefIdeal.lean ====
abbrev S1792x6144 : Shape := ⟨2, ![1792, 6144]⟩
abbrev S6144x32x3x128 : Shape := ⟨4, ![6144, 32, 3, 128]⟩
abbrev S1792x1 : Shape := ⟨2, ![1792, 1]⟩
abbrev S32x3x128 : Shape := ⟨3, ![32, 3, 128]⟩
abbrev S6144x32x1x128 : Shape := ⟨4, ![6144, 32, 1, 128]⟩
abbrev S6144x32x128 : Shape := ⟨3, ![6144, 32, 128]⟩
abbrev S6144x4096 : Shape := ⟨2, ![6144, 4096]⟩
abbrev S1792x4096 : Shape := ⟨2, ![1792, 4096]⟩
abbrev S32x1x128 : Shape := ⟨3, ![32, 1, 128]⟩
abbrev S32x128 : Shape := ⟨2, ![32, 128]⟩
abbrev S4096 : Shape := ⟨1, ![4096]⟩
abbrev S1x4096 : Shape := ⟨2, ![1, 4096]⟩
abbrev S_ : Shape := ⟨0, ![]⟩
abbrev S1792x12288 : Shape := ⟨2, ![1792, 12288]⟩

abbrev nBuf : Space → Nat
  | .hbm => 77
  | .vmem => 0
  | .smem => 0
  | _ => 0

abbrev bufTy : (tb : Table) → Fin (tcTables nBuf tb) → BufTy
  | .hbm, ⟨0, _⟩ => ⟨S1792x6144, .bf16⟩
  | .hbm, ⟨1, _⟩ => ⟨S6144x32x3x128, .i8⟩
  | .hbm, ⟨2, _⟩ => ⟨S1792x1, .f32⟩
  | .hbm, ⟨3, _⟩ => ⟨S32x3x128, .f32⟩
  | .hbm, ⟨4, _⟩ => ⟨S6144x32x1x128, .i8⟩
  | .hbm, ⟨5, _⟩ => ⟨S6144x32x128, .i8⟩
  | .hbm, ⟨6, _⟩ => ⟨S6144x4096, .i8⟩
  | .hbm, ⟨7, _⟩ => ⟨S6144x4096, .i32⟩
  | .hbm, ⟨8, _⟩ => ⟨S6144x4096, .bf16⟩
  | .hbm, ⟨9, _⟩ => ⟨S1792x4096, .f32⟩
  | .hbm, ⟨10, _⟩ => ⟨S1792x4096, .f32⟩
  | .hbm, ⟨11, _⟩ => ⟨S1792x4096, .f32⟩
  | .hbm, ⟨12, _⟩ => ⟨S32x1x128, .f32⟩
  | .hbm, ⟨13, _⟩ => ⟨S32x128, .f32⟩
  | .hbm, ⟨14, _⟩ => ⟨S4096, .f32⟩
  | .hbm, ⟨15, _⟩ => ⟨S1x4096, .f32⟩
  | .hbm, ⟨16, _⟩ => ⟨S1792x4096, .f32⟩
  | .hbm, ⟨17, _⟩ => ⟨S1792x4096, .f32⟩
  | .hbm, ⟨18, _⟩ => ⟨S1792x4096, .f32⟩
  | .hbm, ⟨19, _⟩ => ⟨S1792x4096, .f32⟩
  | .hbm, ⟨20, _⟩ => ⟨S_, .f32⟩
  | .hbm, ⟨21, _⟩ => ⟨S1792x4096, .f32⟩
  | .hbm, ⟨22, _⟩ => ⟨S1792x4096, .f32⟩
  | .hbm, ⟨23, _⟩ => ⟨S_, .f32⟩
  | .hbm, ⟨24, _⟩ => ⟨S1792x4096, .f32⟩
  | .hbm, ⟨25, _⟩ => ⟨S1792x4096, .f32⟩
  | .hbm, ⟨26, _⟩ => ⟨S1792x4096, .f32⟩
  | .hbm, ⟨27, _⟩ => ⟨S1792x4096, .bf16⟩
  | .hbm, ⟨28, _⟩ => ⟨S6144x32x1x128, .i8⟩
  | .hbm, ⟨29, _⟩ => ⟨S6144x32x128, .i8⟩
  | .hbm, ⟨30, _⟩ => ⟨S6144x4096, .i8⟩
  | .hbm, ⟨31, _⟩ => ⟨S6144x4096, .i32⟩
  | .hbm, ⟨32, _⟩ => ⟨S6144x4096, .bf16⟩
  | .hbm, ⟨33, _⟩ => ⟨S1792x4096, .f32⟩
  | .hbm, ⟨34, _⟩ => ⟨S1792x4096, .f32⟩
  | .hbm, ⟨35, _⟩ => ⟨S1792x4096, .f32⟩
  | .hbm, ⟨36, _⟩ => ⟨S32x1x128, .f32⟩
  | .hbm, ⟨37, _⟩ => ⟨S32x128, .f32⟩
  | .hbm, ⟨38, _⟩ => ⟨S4096, .f32⟩
  | .hbm, ⟨39, _⟩ => ⟨S1x4096, .f32⟩
  | .hbm, ⟨40, _⟩ => ⟨S1792x4096, .f32⟩
  | .hbm, ⟨41, _⟩ => ⟨S1792x4096, .f32⟩
  | .hbm, ⟨42, _⟩ => ⟨S1792x4096, .f32⟩
  | .hbm, ⟨43, _⟩ => ⟨S1792x4096, .f32⟩
  | .hbm, ⟨44, _⟩ => ⟨S_, .f32⟩
  | .hbm, ⟨45, _⟩ => ⟨S1792x4096, .f32⟩
  | .hbm, ⟨46, _⟩ => ⟨S1792x4096, .f32⟩
  | .hbm, ⟨47, _⟩ => ⟨S_, .f32⟩
  | .hbm, ⟨48, _⟩ => ⟨S1792x4096, .f32⟩
  | .hbm, ⟨49, _⟩ => ⟨S1792x4096, .f32⟩
  | .hbm, ⟨50, _⟩ => ⟨S1792x4096, .f32⟩
  | .hbm, ⟨51, _⟩ => ⟨S1792x4096, .bf16⟩
  | .hbm, ⟨52, _⟩ => ⟨S6144x32x1x128, .i8⟩
  | .hbm, ⟨53, _⟩ => ⟨S6144x32x128, .i8⟩
  | .hbm, ⟨54, _⟩ => ⟨S6144x4096, .i8⟩
  | .hbm, ⟨55, _⟩ => ⟨S6144x4096, .i32⟩
  | .hbm, ⟨56, _⟩ => ⟨S6144x4096, .bf16⟩
  | .hbm, ⟨57, _⟩ => ⟨S1792x4096, .f32⟩
  | .hbm, ⟨58, _⟩ => ⟨S1792x4096, .f32⟩
  | .hbm, ⟨59, _⟩ => ⟨S1792x4096, .f32⟩
  | .hbm, ⟨60, _⟩ => ⟨S32x1x128, .f32⟩
  | .hbm, ⟨61, _⟩ => ⟨S32x128, .f32⟩
  | .hbm, ⟨62, _⟩ => ⟨S4096, .f32⟩
  | .hbm, ⟨63, _⟩ => ⟨S1x4096, .f32⟩
  | .hbm, ⟨64, _⟩ => ⟨S1792x4096, .f32⟩
  | .hbm, ⟨65, _⟩ => ⟨S1792x4096, .f32⟩
  | .hbm, ⟨66, _⟩ => ⟨S1792x4096, .f32⟩
  | .hbm, ⟨67, _⟩ => ⟨S1792x4096, .f32⟩
  | .hbm, ⟨68, _⟩ => ⟨S_, .f32⟩
  | .hbm, ⟨69, _⟩ => ⟨S1792x4096, .f32⟩
  | .hbm, ⟨70, _⟩ => ⟨S1792x4096, .f32⟩
  | .hbm, ⟨71, _⟩ => ⟨S_, .f32⟩
  | .hbm, ⟨72, _⟩ => ⟨S1792x4096, .f32⟩
  | .hbm, ⟨73, _⟩ => ⟨S1792x4096, .f32⟩
  | .hbm, ⟨74, _⟩ => ⟨S1792x4096, .f32⟩
  | .hbm, ⟨75, _⟩ => ⟨S1792x4096, .bf16⟩
  | .hbm, ⟨76, _⟩ => ⟨S1792x12288, .bf16⟩
  | _, _ => ⟨S1792x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_v1 : Ref sig .tc := ⟨.hbm, 19, rfl⟩
abbrev main_call0_cst : Ref sig .tc := ⟨.hbm, 20, rfl⟩
abbrev main_call0_v2 : Ref sig .tc := ⟨.hbm, 21, rfl⟩
abbrev main_call0_v3 : Ref sig .tc := ⟨.hbm, 22, rfl⟩
abbrev main_call0_cst_0 : Ref sig .tc := ⟨.hbm, 23, rfl⟩
abbrev main_call0_v4 : Ref sig .tc := ⟨.hbm, 24, rfl⟩
abbrev main_call0_v5 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_call1_v0 : Ref sig .tc := ⟨.hbm, 42, rfl⟩
abbrev main_call1_v1 : Ref sig .tc := ⟨.hbm, 43, rfl⟩
abbrev main_call1_cst : Ref sig .tc := ⟨.hbm, 44, rfl⟩
abbrev main_call1_v2 : Ref sig .tc := ⟨.hbm, 45, rfl⟩
abbrev main_call1_v3 : Ref sig .tc := ⟨.hbm, 46, rfl⟩
abbrev main_call1_cst_0 : Ref sig .tc := ⟨.hbm, 47, rfl⟩
abbrev main_call1_v4 : Ref sig .tc := ⟨.hbm, 48, rfl⟩
abbrev main_call1_v5 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_call2_v0 : Ref sig .tc := ⟨.hbm, 66, rfl⟩
abbrev main_call2_v1 : Ref sig .tc := ⟨.hbm, 67, rfl⟩
abbrev main_call2_cst : Ref sig .tc := ⟨.hbm, 68, rfl⟩
abbrev main_call2_v2 : Ref sig .tc := ⟨.hbm, 69, rfl⟩
abbrev main_call2_v3 : Ref sig .tc := ⟨.hbm, 70, rfl⟩
abbrev main_call2_cst_0 : Ref sig .tc := ⟨.hbm, 71, rfl⟩
abbrev main_call2_v4 : Ref sig .tc := ⟨.hbm, 72, rfl⟩
abbrev main_call2_v5 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩

abbrev nD : Nat := 1
abbrev τ : Topo := Topo.v7x

variable {F : FTy → Type} [FloatOps F]
-- ==== Gate.lean ====
abbrev S1792x6144 : Shape := ⟨2, ![1792, 6144]⟩
abbrev S6144x4096 : Shape := ⟨2, ![6144, 4096]⟩
abbrev S1792x1 : Shape := ⟨2, ![1792, 1]⟩
abbrev S4096 : Shape := ⟨1, ![4096]⟩
abbrev S1x4096 : Shape := ⟨2, ![1, 4096]⟩
abbrev S1792x4096 : Shape := ⟨2, ![1792, 4096]⟩
abbrev S6144x512 : Shape := ⟨2, ![6144, 512]⟩
abbrev S1x512 : Shape := ⟨2, ![1, 512]⟩
abbrev S1792x512 : Shape := ⟨2, ![1792, 512]⟩

abbrev nBuf : Space → Nat
  | .hbm => 6
  | .vmem => 8
  | .smem => 0
  | _ => 0

abbrev bufTy : (tb : Table) → Fin (tcTables nBuf tb) → BufTy
  | .hbm, ⟨0, _⟩ => ⟨S1792x6144, .bf16⟩
  | .hbm, ⟨1, _⟩ => ⟨S6144x4096, .i8⟩
  | .hbm, ⟨2, _⟩ => ⟨S1792x1, .f32⟩
  | .hbm, ⟨3, _⟩ => ⟨S4096, .f32⟩
  | .hbm, ⟨4, _⟩ => ⟨S1x4096, .f32⟩
  | .hbm, ⟨5, _⟩ => ⟨S1792x4096, .f32⟩
  | .local _ .vmem, ⟨0, _⟩ => ⟨S1792x6144, .bf16⟩
  | .local _ .vmem, ⟨1, _⟩ => ⟨S6144x512, .i8⟩
  | .local _ .vmem, ⟨2, _⟩ => ⟨S6144x512, .i8⟩
  | .local _ .vmem, ⟨3, _⟩ => ⟨S1792x1, .f32⟩
  | .local _ .vmem, ⟨4, _⟩ => ⟨S1x512, .f32⟩
  | .local _ .vmem, ⟨5, _⟩ => ⟨S1x512, .f32⟩
  | .local _ .vmem, ⟨6, _⟩ => ⟨S1792x512, .f32⟩
  | .local _ .vmem, ⟨7, _⟩ => ⟨S1792x512, .f32⟩
  | _, _ => ⟨S1792x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S6144x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== GateRefIdeal.lean ====
abbrev S1792x6144 : Shape := ⟨2, ![1792, 6144]⟩
abbrev S6144x4096 : Shape := ⟨2, ![6144, 4096]⟩
abbrev S1792x1 : Shape := ⟨2, ![1792, 1]⟩
abbrev S4096 : Shape := ⟨1, ![4096]⟩
abbrev S1792x4096 : Shape := ⟨2, ![1792, 4096]⟩
abbrev S1x4096 : Shape := ⟨2, ![1, 4096]⟩

abbrev nBuf : Space → Nat
  | .hbm => 12
  | .vmem => 0
  | .smem => 0
  | _ => 0

abbrev bufTy : (tb : Table) → Fin (tcTables nBuf tb) → BufTy
  | .hbm, ⟨0, _⟩ => ⟨S1792x6144, .bf16⟩
  | .hbm, ⟨1, _⟩ => ⟨S6144x4096, .i8⟩
  | .hbm, ⟨2, _⟩ => ⟨S1792x1, .f32⟩
  | .hbm, ⟨3, _⟩ => ⟨S4096, .f32⟩
  | .hbm, ⟨4, _⟩ => ⟨S6144x4096, .i32⟩
  | .hbm, ⟨5, _⟩ => ⟨S6144x4096, .bf16⟩
  | .hbm, ⟨6, _⟩ => ⟨S1792x4096, .f32⟩
  | .hbm, ⟨7, _⟩ => ⟨S1792x4096, .f32⟩
  | .hbm, ⟨8, _⟩ => ⟨S1792x4096, .f32⟩
  | .hbm, ⟨9, _⟩ => ⟨S1x4096, .f32⟩
  | .hbm, ⟨10, _⟩ => ⟨S1792x4096, .f32⟩
  | .hbm, ⟨11, _⟩ => ⟨S1792x4096, .f32⟩
  | _, _ => ⟨S1792x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩

abbrev nD : Nat := 1
abbrev τ : Topo := Topo.v7x

variable {F : FTy → Type} [FloatOps F]
-- ==== Out.lean ====
abbrev S1792x4096 : Shape := ⟨2, ![1792, 4096]⟩
abbrev S4096x6144 : Shape := ⟨2, ![4096, 6144]⟩
abbrev S1792x1 : Shape := ⟨2, ![1792, 1]⟩
abbrev S6144 : Shape := ⟨1, ![6144]⟩
abbrev S1792x6144 : Shape := ⟨2, ![1792, 6144]⟩
abbrev S1x6144 : Shape := ⟨2, ![1, 6144]⟩
abbrev S4096x512 : Shape := ⟨2, ![4096, 512]⟩
abbrev S1x512 : Shape := ⟨2, ![1, 512]⟩
abbrev S1792x512 : Shape := ⟨2, ![1792, 512]⟩

abbrev nBuf : Space → Nat
  | .hbm => 9
  | .vmem => 13
  | .smem => 0
  | _ => 0

abbrev bufTy : (tb : Table) → Fin (tcTables nBuf tb) → BufTy
  | .hbm, ⟨0, _⟩ => ⟨S1792x4096, .bf16⟩
  | .hbm, ⟨1, _⟩ => ⟨S4096x6144, .i8⟩
  | .hbm, ⟨2, _⟩ => ⟨S1792x1, .f32⟩
  | .hbm, ⟨3, _⟩ => ⟨S6144, .f32⟩
  | .hbm, ⟨4, _⟩ => ⟨S1792x6144, .bf16⟩
  | .hbm, ⟨5, _⟩ => ⟨S1792x1, .f32⟩
  | .hbm, ⟨6, _⟩ => ⟨S1x6144, .f32⟩
  | .hbm, ⟨7, _⟩ => ⟨S1x6144, .f32⟩
  | .hbm, ⟨8, _⟩ => ⟨S1792x6144, .f32⟩
  | .local _ .vmem, ⟨0, _⟩ => ⟨S1792x4096, .bf16⟩
  | .local _ .vmem, ⟨1, _⟩ => ⟨S4096x512, .i8⟩
  | .local _ .vmem, ⟨2, _⟩ => ⟨S4096x512, .i8⟩
  | .local _ .vmem, ⟨3, _⟩ => ⟨S1792x1, .f32⟩
  | .local _ .vmem, ⟨4, _⟩ => ⟨S1x512, .f32⟩
  | .local _ .vmem, ⟨5, _⟩ => ⟨S1x512, .f32⟩
  | .local _ .vmem, ⟨6, _⟩ => ⟨S1792x512, .bf16⟩
  | .local _ .vmem, ⟨7, _⟩ => ⟨S1792x512, .bf16⟩
  | .local _ .vmem, ⟨8, _⟩ => ⟨S1792x1, .f32⟩
  | .local _ .vmem, ⟨9, _⟩ => ⟨S1x512, .f32⟩
  | .local _ .vmem, ⟨10, _⟩ => ⟨S1x512, .f32⟩
  | .local _ .vmem, ⟨11, _⟩ => ⟨S1792x512, .f32⟩
  | .local _ .vmem, ⟨12, _⟩ => ⟨S1792x512, .f32⟩
  | _, _ => ⟨S1792x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1792x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1792x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1792x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1792x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutRefIdeal.lean ====
abbrev S1792x4096 : Shape := ⟨2, ![1792, 4096]⟩
abbrev S4096x6144 : Shape := ⟨2, ![4096, 6144]⟩
abbrev S1792x1 : Shape := ⟨2, ![1792, 1]⟩
abbrev S6144 : Shape := ⟨1, ![6144]⟩
abbrev S1792x6144 : Shape := ⟨2, ![1792, 6144]⟩
abbrev S1x6144 : Shape := ⟨2, ![1, 6144]⟩
abbrev S_ : Shape := ⟨0, ![]⟩

abbrev nBuf : Space → Nat
  | .hbm => 27
  | .vmem => 0
  | .smem => 0
  | _ => 0

abbrev bufTy : (tb : Table) → Fin (tcTables nBuf tb) → BufTy
  | .hbm, ⟨0, _⟩ => ⟨S1792x4096, .bf16⟩
  | .hbm, ⟨1, _⟩ => ⟨S4096x6144, .i8⟩
  | .hbm, ⟨2, _⟩ => ⟨S1792x1, .f32⟩
  | .hbm, ⟨3, _⟩ => ⟨S6144, .f32⟩
  | .hbm, ⟨4, _⟩ => ⟨S1792x6144, .bf16⟩
  | .hbm, ⟨5, _⟩ => ⟨S1792x1, .f32⟩
  | .hbm, ⟨6, _⟩ => ⟨S1x6144, .f32⟩
  | .hbm, ⟨7, _⟩ => ⟨S4096x6144, .i32⟩
  | .hbm, ⟨8, _⟩ => ⟨S4096x6144, .bf16⟩
  | .hbm, ⟨9, _⟩ => ⟨S1792x6144, .f32⟩
  | .hbm, ⟨10, _⟩ => ⟨S1792x6144, .f32⟩
  | .hbm, ⟨11, _⟩ => ⟨S1792x6144, .f32⟩
  | .hbm, ⟨12, _⟩ => ⟨S1x6144, .f32⟩
  | .hbm, ⟨13, _⟩ => ⟨S1792x6144, .f32⟩
  | .hbm, ⟨14, _⟩ => ⟨S1792x6144, .f32⟩
  | .hbm, ⟨15, _⟩ => ⟨S1792x6144, .f32⟩
  | .hbm, ⟨16, _⟩ => ⟨S1792x6144, .f32⟩
  | .hbm, ⟨17, _⟩ => ⟨S1792x6144, .f32⟩
  | .hbm, ⟨18, _⟩ => ⟨S1792x6144, .f32⟩
  | .hbm, ⟨19, _⟩ => ⟨S1792x6144, .f32⟩
  | .hbm, ⟨20, _⟩ => ⟨S_, .f32⟩
  | .hbm, ⟨21, _⟩ => ⟨S1792x6144, .f32⟩
  | .hbm, ⟨22, _⟩ => ⟨S1792x6144, .f32⟩
  | .hbm, ⟨23, _⟩ => ⟨S_, .f32⟩
  | .hbm, ⟨24, _⟩ => ⟨S1792x6144, .f32⟩
  | .hbm, ⟨25, _⟩ => ⟨S1792x6144, .f32⟩
  | .hbm, ⟨26, _⟩ => ⟨S1792x6144, .f32⟩
  | _, _ => ⟨S1792x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]
-- ==== Gated.lean ====
abbrev S1792x4096 : Shape := ⟨2, ![1792, 4096]⟩
abbrev S1x4096 : Shape := ⟨2, ![1, 4096]⟩
abbrev S1792x1 : Shape := ⟨2, ![1792, 1]⟩
abbrev S14x1x128 : Shape := ⟨3, ![14, 1, 128]⟩
abbrev S128x4096 : Shape := ⟨2, ![128, 4096]⟩
abbrev S128x1 : Shape := ⟨2, ![128, 1]⟩
abbrev S1x1x128 : Shape := ⟨3, ![1, 1, 128]⟩
abbrev S128 : Shape := ⟨1, ![128]⟩
abbrev S128x128 : Shape := ⟨2, ![128, 128]⟩
abbrev S1x128 : Shape := ⟨2, ![1, 128]⟩

abbrev nBuf : Space → Nat
  | .hbm => 7
  | .vmem => 13
  | .smem => 0
  | _ => 0

abbrev bufTy : (tb : Table) → Fin (tcTables nBuf tb) → BufTy
  | .hbm, ⟨0, _⟩ => ⟨S1792x4096, .f32⟩
  | .hbm, ⟨1, _⟩ => ⟨S1792x4096, .f32⟩
  | .hbm, ⟨2, _⟩ => ⟨S1x4096, .f32⟩
  | .hbm, ⟨3, _⟩ => ⟨S1792x4096, .i8⟩
  | .hbm, ⟨4, _⟩ => ⟨S1792x4096, .bf16⟩
  | .hbm, ⟨5, _⟩ => ⟨S1792x1, .f32⟩
  | .hbm, ⟨6, _⟩ => ⟨S14x1x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .i8⟩
  | .local _ .vmem, ⟨6, _⟩ => ⟨S128x4096, .i8⟩
  | .local _ .vmem, ⟨7, _⟩ => ⟨S128x4096, .bf16⟩
  | .local _ .vmem, ⟨8, _⟩ => ⟨S128x4096, .bf16⟩
  | .local _ .vmem, ⟨9, _⟩ => ⟨S128x1, .f32⟩
  | .local _ .vmem, ⟨10, _⟩ => ⟨S128x1, .f32⟩
  | .local _ .vmem, ⟨11, _⟩ => ⟨S1x1x128, .f32⟩
  | .local _ .vmem, ⟨12, _⟩ => ⟨S1x1x128, .f32⟩
  | _, _ => ⟨S1792x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨1, ![14], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x1x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GatedRefIdeal.lean ====
abbrev S1792x4096 : Shape := ⟨2, ![1792, 4096]⟩
abbrev S1x4096 : Shape := ⟨2, ![1, 4096]⟩
abbrev S_ : Shape := ⟨0, ![]⟩
abbrev S1792 : Shape := ⟨1, ![1792]⟩
abbrev S1792x1 : Shape := ⟨2, ![1792, 1]⟩
abbrev S14x1x128 : Shape := ⟨3, ![14, 1, 128]⟩

abbrev nBuf : Space → Nat
  | .hbm => 56
  | .vmem => 0
  | .smem => 0
  | _ => 0

abbrev bufTy : (tb : Table) → Fin (tcTables nBuf tb) → BufTy
  | .hbm, ⟨0, _⟩ => ⟨S1792x4096, .f32⟩
  | .hbm, ⟨1, _⟩ => ⟨S1792x4096, .f32⟩
  | .hbm, ⟨2, _⟩ => ⟨S1x4096, .f32⟩
  | .hbm, ⟨3, _⟩ => ⟨S1792x4096, .f32⟩
  | .hbm, ⟨4, _⟩ => ⟨S_, .f32⟩
  | .hbm, ⟨5, _⟩ => ⟨S1792, .f32⟩
  | .hbm, ⟨6, _⟩ => ⟨S1792x1, .f32⟩
  | .hbm, ⟨7, _⟩ => ⟨S_, .f32⟩
  | .hbm, ⟨8, _⟩ => ⟨S1792x1, .f32⟩
  | .hbm, ⟨9, _⟩ => ⟨S1792x1, .f32⟩
  | .hbm, ⟨10, _⟩ => ⟨S_, .f32⟩
  | .hbm, ⟨11, _⟩ => ⟨S1792x1, .f32⟩
  | .hbm, ⟨12, _⟩ => ⟨S1792x1, .f32⟩
  | .hbm, ⟨13, _⟩ => ⟨S1792x1, .f32⟩
  | .hbm, ⟨14, _⟩ => ⟨S1792x4096, .f32⟩
  | .hbm, ⟨15, _⟩ => ⟨S1792x4096, .f32⟩
  | .hbm, ⟨16, _⟩ => ⟨S1792x4096, .f32⟩
  | .hbm, ⟨17, _⟩ => ⟨S1792x4096, .f32⟩
  | .hbm, ⟨18, _⟩ => ⟨S1792x4096, .f32⟩
  | .hbm, ⟨19, _⟩ => ⟨S1792x4096, .f32⟩
  | .hbm, ⟨20, _⟩ => ⟨S_, .f32⟩
  | .hbm, ⟨21, _⟩ => ⟨S1792x4096, .f32⟩
  | .hbm, ⟨22, _⟩ => ⟨S1792x4096, .f32⟩
  | .hbm, ⟨23, _⟩ => ⟨S_, .f32⟩
  | .hbm, ⟨24, _⟩ => ⟨S1792x4096, .f32⟩
  | .hbm, ⟨25, _⟩ => ⟨S1792x4096, .f32⟩
  | .hbm, ⟨26, _⟩ => ⟨S1792x4096, .f32⟩
  | .hbm, ⟨27, _⟩ => ⟨S1792x4096, .f32⟩
  | .hbm, ⟨28, _⟩ => ⟨S_, .f32⟩
  | .hbm, ⟨29, _⟩ => ⟨S1792, .f32⟩
  | .hbm, ⟨30, _⟩ => ⟨S1792x1, .f32⟩
  | .hbm, ⟨31, _⟩ => ⟨S_, .f32⟩
  | .hbm, ⟨32, _⟩ => ⟨S1792x1, .f32⟩
  | .hbm, ⟨33, _⟩ => ⟨S1792x1, .i1⟩
  | .hbm, ⟨34, _⟩ => ⟨S_, .f32⟩
  | .hbm, ⟨35, _⟩ => ⟨S1792x1, .f32⟩
  | .hbm, ⟨36, _⟩ => ⟨S1792x1, .f32⟩
  | .hbm, ⟨37, _⟩ => ⟨S_, .f32⟩
  | .hbm, ⟨38, _⟩ => ⟨S_, .f32⟩
  | .hbm, ⟨39, _⟩ => ⟨S1792x1, .f32⟩
  | .hbm, ⟨40, _⟩ => ⟨S1792x1, .f32⟩
  | .hbm, ⟨41, _⟩ => ⟨S1792x4096, .f32⟩
  | .hbm, ⟨42, _⟩ => ⟨S1792x4096, .f32⟩
  | .hbm, ⟨43, _⟩ => ⟨S1792x4096, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1792x4096, .f32⟩
  | .hbm, ⟨48, _⟩ => ⟨S1792x4096, .f32⟩
  | .hbm, ⟨49, _⟩ => ⟨S_, .f32⟩
  | .hbm, ⟨50, _⟩ => ⟨S1792x4096, .f32⟩
  | .hbm, ⟨51, _⟩ => ⟨S1792x4096, .f32⟩
  | .hbm, ⟨52, _⟩ => ⟨S1792x4096, .i32⟩
  | .hbm, ⟨53, _⟩ => ⟨S1792x4096, .i8⟩
  | .hbm, ⟨54, _⟩ => ⟨S1792x4096, .bf16⟩
  | .hbm, ⟨55, _⟩ => ⟨S14x1x128, .f32⟩
  | _, _ => ⟨S1792x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_cst_3 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_v25 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_cst_8 : Ref sig .tc := ⟨.hbm, 44, rfl⟩
abbrev main_cst_9 : Ref sig .tc := ⟨.hbm, 45, rfl⟩
abbrev main_call2_v0 : Ref sig .tc := ⟨.hbm, 46, rfl⟩
abbrev main_call2_v1 : Ref sig .tc := ⟨.hbm, 47, rfl⟩
abbrev main_call2_v2 : Ref sig .tc := ⟨.hbm, 48, rfl⟩
abbrev main_call2_v3 : Ref sig .tc := ⟨.hbm, 49, rfl⟩
abbrev main_call2_v4 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩

abbrev nD : Nat := 1
abbrev τ : Topo := Topo.v7x

variable {F : FTy → Type} [FloatOps F]
-- ==== Attn.lean ====
abbrev S28 : Shape := ⟨1, ![28]⟩
abbrev S32 : Shape := ⟨1, ![32]⟩
abbrev S1792x12288 : Shape := ⟨2, ![1792, 12288]⟩
abbrev S1792x4096 : Shape := ⟨2, ![1792, 4096]⟩
abbrev S7x4096x128 : Shape := ⟨3, ![7, 4096, 128]⟩
abbrev S7x1x4096 : Shape := ⟨3, ![7, 1, 4096]⟩
abbrev S256x512 : Shape := ⟨2, ![256, 512]⟩
abbrev S1x512x128 : Shape := ⟨3, ![1, 512, 128]⟩
abbrev S1x1x512 : Shape := ⟨3, ![1, 1, 512]⟩
abbrev S256x256 : Shape := ⟨2, ![256, 256]⟩
abbrev S64x1 : Shape := ⟨2, ![64, 1]⟩
abbrev S1 : Shape := ⟨1, ![1]⟩
abbrev S256x128 : Shape := ⟨2, ![256, 128]⟩
abbrev S1x128 : Shape := ⟨2, ![1, 128]⟩
abbrev S128x128 : Shape := ⟨2, ![128, 128]⟩
abbrev S64x128 : Shape := ⟨2, ![64, 128]⟩
abbrev S128 : Shape := ⟨1, ![128]⟩
abbrev S128x1 : Shape := ⟨2, ![128, 1]⟩
abbrev S1x128x128 : Shape := ⟨3, ![1, 128, 128]⟩
abbrev S1x1x128 : Shape := ⟨3, ![1, 1, 128]⟩

abbrev nBuf : Space → Nat
  | .hbm => 6
  | .vmem => 12
  | .smem => 2
  | _ => 0

abbrev bufTy : (tb : Table) → Fin (tcTables nBuf tb) → BufTy
  | .hbm, ⟨0, _⟩ => ⟨S28, .i32⟩
  | .hbm, ⟨1, _⟩ => ⟨S32, .f32⟩
  | .hbm, ⟨2, _⟩ => ⟨S1792x12288, .bf16⟩
  | .hbm, ⟨3, _⟩ => ⟨S1792x4096, .f32⟩
  | .hbm, ⟨4, _⟩ => ⟨S7x4096x128, .fp8e4m3⟩
  | .hbm, ⟨5, _⟩ => ⟨S7x1x4096, .f32⟩
  | .local _ .vmem, ⟨0, _⟩ => ⟨S256x512, .bf16⟩
  | .local _ .vmem, ⟨1, _⟩ => ⟨S256x512, .bf16⟩
  | .local _ .vmem, ⟨2, _⟩ => ⟨S256x512, .bf16⟩
  | .local _ .vmem, ⟨3, _⟩ => ⟨S256x512, .bf16⟩
  | .local _ .vmem, ⟨4, _⟩ => ⟨S256x512, .bf16⟩
  | .local _ .vmem, ⟨5, _⟩ => ⟨S256x512, .bf16⟩
  | .local _ .vmem, ⟨6, _⟩ => ⟨S256x512, .f32⟩
  | .local _ .vmem, ⟨7, _⟩ => ⟨S256x512, .f32⟩
  | .local _ .vmem, ⟨8, _⟩ => ⟨S1x512x128, .fp8e4m3⟩
  | .local _ .vmem, ⟨9, _⟩ => ⟨S1x512x128, .fp8e4m3⟩
  | .local _ .vmem, ⟨10, _⟩ => ⟨S1x1x512, .f32⟩
  | .local _ .vmem, ⟨11, _⟩ => ⟨S1x1x512, .f32⟩
  | .local _ .smem, ⟨0, _⟩ => ⟨S28, .i32⟩
  | .local _ .smem, ⟨1, _⟩ => ⟨S32, .f32⟩
  | _, _ => ⟨S28, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg2_0 : Ref sig .tc := ⟨.vmem, 0, rfl⟩
abbrev cc0_stg2_1 : Ref sig .tc := ⟨.vmem, 1, rfl⟩
abbrev cc0_stg3_0 : Ref sig .tc := ⟨.vmem, 2, rfl⟩
abbrev cc0_stg3_1 : Ref sig .tc := ⟨.vmem, 3, rfl⟩
abbrev cc0_stg4_0 : Ref sig .tc := ⟨.vmem, 4, rfl⟩
abbrev cc0_stg4_1 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨2, ![7, 8], ![false, false]⟩

def k0_off1 (i : grid0.Coords) (c0_i32_12 : BitVec 32) : Fin 1 → Nat :=
  let arg1 : BitVec 32 := BitVec.ofNat 32 (i 1).val
  let c4_i32 : BitVec 32 := 4#32
  let v59 : BitVec 32 := Scalar.muli arg1 c4_i32
  let v60 : BitVec 32 := Scalar.addi v59 c0_i32_12
  let v61 : Index := Scalar.indexCast v60
  ![v61.toNat]
def k0_off2 (i : grid0.Coords) (c0_i32_29 : BitVec 32) : Fin 1 → Nat :=
  let arg0 : BitVec 32 := BitVec.ofNat 32 (i 0).val
  let c4_i32_28 : BitVec 32 := 4#32
  let v93 : BitVec 32 := Scalar.muli arg0 c4_i32_28
  let v94 : BitVec 32 := Scalar.addi v93 c0_i32_29
  let v95 : Index := Scalar.indexCast v94
  ![v95.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .smem S28 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x512x128 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Proof.Up.Sched.lean ====
/- The first feed-forward kernel (`Up`) on ANY tables its precondition admits: the tables, the blocks its index
   maps name, and which of its grid points store (`live` blocks) — closed forms of the grid position. -/
module

public import proofs.«01_k».proof.Proof.Gen.Up.Launch
public import Idealize.ShloMosaic.Lib.WordCmp
public import Idealize.ShloMosaic.Lib.Tactic.WordOmega
public import Idealize.ShloMosaic.Lib.Affine
public import Idealize.ShloMosaic.Lib.Pipeline.TableIdle
public import Idealize.ShloMosaic.Lib.Pipeline.FrameBody

@[expose] public section

set_option maxRecDepth 16384

noncomputable section

namespace Cert.Up.Hand

open Cert.Up Cert.Up.Gen
open Idealize.ShloMosaic
open Idealize.ShloMosaic.TcCoe Idealize.ShloMosaic.Tactic
open Idealize.ShloMosaic.Pipeline (Dat Cfg Window)

variable {F : FTy → Type} [FloatOps F]

/-- The two prefetched tables as memrefs. -/
abbrev tbM0_0 : Memref sig .tc .smem S10 .i32 := Memref.whole main_arg0
abbrev tbM0_1 : Memref sig .tc .smem S1 .i32 := Memref.whole main_arg1

/-- Contents of the tables the precondition admits: every expert index below 4, at least one live block. -/
structure Tab where
  /-- the expert of each block of rows -/
  T0 : S10.Idx → BitVec 32
  /-- the number of live blocks -/
  T1 : S1.Idx → BitVec 32
  h0 : ∀ x, (T0 x).toNat < 4
  h1 : ∀ x, 1 ≤ (T1 x).toNat
  h2 : ∀ x, (T1 x).toNat < 2 ^ 31

/-- The one index of the one-entry table. -/
abbrev z1 : S1.Idx := fun a => ⟨0, by fin_cases a; decide⟩

theorem idx1_eq (x : S1.Idx) : x = z1 := by
  funext a; fin_cases a; exact Fin.ext (by have := (x 0).isLt; simp at this; simpa using this)

/-- Entry `b` of the expert table. -/
abbrev ix10 (b : Fin 10) : S10.Idx := fun a => b.cast (by fin_cases a; rfl)

/-- The number of live blocks. -/
def Tab.tot (T : Tab) : ℕ := (T.T1 z1).toNat

theorem Tab.tot_pos (T : Tab) : 1 ≤ T.tot := T.h1 _
theorem Tab.tot_lt (T : Tab) : T.tot < 2 ^ 31 := T.h2 _

/-- The expert of block `b`. -/
def Tab.exp (T : Tab) (b : Fin 10) : ℕ := (T.T0 (ix10 b)).toNat

theorem Tab.exp_lt (T : Tab) (b : Fin 10) : T.exp b < 4 := T.h0 _

/-- The tables as the region's prefetched contents. -/
def pfN (T : Tab) : pre0.Contents (Elt F) := fun | ⟨0, _⟩ => T.T0 | ⟨1, _⟩ => T.T1 | ⟨_ + 2, h⟩ => absurd h (by simp)

theorem at1 (T : Tab) : (pfN (F := F) T).at 1 (Rect.unit (s := S1) ![0] S1.size inb_S1_S1_0) numel1_S1 = T.T1 z1 :=
  congrArg T.T1 (idx1_eq _)

theorem atD1 (T : Tab) : (pfN (F := F) T).atD 1 ![0] = T.T1 z1 := by
  rw [← at1 (F := F) T]; rfl

theorem min_word (n : ℕ) (hn : n < 10) (w : BitVec 32) (h1 : 1 ≤ w.toNat) (h2 : w.toNat < 2 ^ 31) :
    (Scalar.minsi (BitVec.ofNat 32 n) (Scalar.subi w 1#32)).toNat = min n (w.toNat - 1) := by
  show (if (BitVec.ofNat 32 n).slt (w - 1#32) then BitVec.ofNat 32 n else w - 1#32).toNat = _
  have e1 : (BitVec.ofNat 32 n).toNat = n := by rw [BitVec.toNat_ofNat]; omega
  have e2 : (w - 1#32).toNat = w.toNat - 1 := by rw [BitVec.toNat_sub]; simp; omega
  rw [BitVec.slt_eq_decide, BitVec.toInt_eq_toNat_of_lt (by rw [e1]; omega), BitVec.toInt_eq_toNat_of_lt (by rw [e2]; omega), e1, e2]
  by_cases h : n < w.toNat - 1
  · rw [if_pos (by simpa using h), e1]; omega
  · rw [if_neg (by simpa using h), e2]; omega

/-- The body's test at a point: the block is live. -/
theorem cond_iff (i : grid0.Coords) (w : BitVec 32) (h2 : w.toNat < 2 ^ 31) : k0_cond1 i w = 1#1 ↔ (i 0).val < w.toNat := by
  have hn : (i 0).val < 10 := (i 0).isLt
  unfold k0_cond1
  generalize (i 0).val = n at hn ⊢
  word_omega

theorem sel_word (n m : ℕ) (hn : n < 10) (hm : m < 36) (w : BitVec 32) (h2 : w.toNat < 2 ^ 31) :
    (Scalar.select (Scalar.cmpi .slt (BitVec.ofNat 32 n) w) (BitVec.ofNat 32 m) 35#32 : BitVec 32).toNat = if n < w.toNat then m else 35 := by
  word_omega

theorem at0 (T : Tab) (i : grid0.Coords) :
    (pfN (F := F) T).at 0 (Rect.unit (s := S10) ![(Scalar.indexCast (BitVec.ofNat 32 (i 0).val) : Index).toNat] S1.size (k0_off1_inb i)) numel1_S1
      = T.T0 (ix10 (i 0)) := by
  refine congrArg T.T0 ?_
  funext a; fin_cases a
  apply Fin.ext
  have hn : (i 0).val < 10 := (i 0).isLt
  show (BitVec.ofNat 32 (i 0).val).toNat + 1 * 0 = (i 0).val
  rw [BitVec.toNat_ofNat]; omega

/-- The row-block windows' index map: block `min b (tot - 1)`. -/
theorem tr0 (T : Tab) (i : grid0.Coords) : cc0_transform_0 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
theorem tr1 (T : Tab) (i : grid0.Coords) : cc0_transform_1 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
/-- The weights' index map: the block's expert, and the column block (the last one past the live blocks). -/
theorem tr2 (T : Tab) (i : grid0.Coords) : cc0_transform_2 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr3 (T : Tab) (i : grid0.Coords) : cc0_transform_3 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr4 (T : Tab) (i : grid0.Coords) : cc0_transform_4 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr5 (T : Tab) (i : grid0.Coords) : cc0_transform_5 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
/-- The activations' index map. -/
theorem tr6 (T : Tab) (i : grid0.Coords) : cc0_transform_6 inb_S1_S1_0 numel1_S1 (pfN (F := F) T) i
    = ![min (i 0).val (T.tot - 1), if (i 0).val < T.tot then (i 1).val else 35] := by
  show ![(Scalar.minsi (BitVec.ofNat 32 (i 0).val) (Scalar.subi ((pfN (F := F) T).at 1 (Rect.unit (s := S1) ![0] S1.size inb_S1_S1_0) numel1_S1) 1#32)).toNat, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, min_word _ (i 0).isLt _ (T.h1 _) (T.h2 _), sel_word _ _ (i 0).isLt (i 1).isLt _ (T.h2 _)]; rfl

/-- The row maxima's index map. -/
theorem tr7 (T : Tab) (i : grid0.Coords) : cc0_transform_7 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl

theorem hN : grid0.N = 360 := N_0

/-- A point's coordinates: 36 column blocks per block of rows. -/
theorem crd0 : ∀ t : Fin grid0.N, (grid0.coords t 0).val = t.val / 36 := by decide +kernel
theorem crd1 : ∀ t : Fin grid0.N, (grid0.coords t 1).val = t.val % 36 := by decide +kernel

/-- The blocks the index maps name at admissible tables lie in their arrays. -/
theorem ok_pfN (T : Tab) : ok0 (F := F) (pfN T) := by
  have ht := T.tot_pos
  refine ⟨fun i => ?_, fun i => ?_, fun i => ?_, fun i => ?_, fun i => ?_, fun i => ?_, fun i => ?_, fun i => ?_⟩ <;>
    (have h0 : (i 0).val < 10 := (i 0).isLt
     have h1 : (i 1).val < 36 := (i 1).isLt
     have he := T.exp_lt (i 0))
  · refine ⟨?_, .inr (Affine.block_words_dvd (s := S5120x6144) (p := EltTy.packing .bf16) (by decide) (by decide))⟩
    rw [tr0]; intro a; fin_cases a <;> simp <;> omega
  · refine ⟨?_, .inl rfl⟩
    rw [tr1]; intro a; fin_cases a <;> simp <;> omega
  · refine ⟨?_, .inr (Affine.block_words_dvd (s := S4x3072x9216) (p := EltTy.packing .i8) (by decide) (by decide))⟩
    rw [tr2]; intro a; fin_cases a <;> simp <;> [omega; split <;> omega]
  · refine ⟨?_, .inr (Affine.block_words_dvd (s := S4x3072x9216) (p := EltTy.packing .i8) (by decide) (by decide))⟩
    rw [tr3]; intro a; fin_cases a <;> simp <;> [omega; split <;> omega]
  · refine ⟨?_, .inl rfl⟩
    rw [tr4]; intro a; fin_cases a <;> simp <;> [omega; split <;> omega]
  · refine ⟨?_, .inl rfl⟩
    rw [tr5]; intro a; fin_cases a <;> simp <;> [omega; split <;> omega]
  · refine ⟨?_, .inl rfl⟩
    rw [tr6]; intro a; fin_cases a <;> simp <;> [omega; split <;> omega]
  · refine ⟨?_, .inl rfl⟩
    rw [tr7]; intro a; fin_cases a <;> simp <;> omega

/-- The tables as admissible contents, and the pipeline at them. -/
def adm (T : Tab) : (pcfg0 (F := F)).Adm := ⟨pfN T, ok_pfN T⟩
abbrev cfgA (T : Tab) : Pipeline.Cfg sig Λ₀ := cfg0 (F := F) (adm T)
abbrev pcs (T : Tab) : Fin 1 → Pipeline.Cfg sig Λ₀ := Pipeline.pin (pcfgs (F := F)) fun _ => adm T

/-- Point `t`'s coordinates. -/
abbrev crd (T : Tab) (t : Fin (cfgA (F := F) T).N) : (cfgA (F := F) T).grid.Coords := (cfgA (F := F) T).grid.coords t

theorem live_iff (T : Tab) (t : Fin (cfgA (F := F) T).N) : k0_cond1 (crd T t) (T.T1 z1) = 1#1 ↔ t.val < 36 * T.tot := by
  rw [cond_iff _ _ (T.h2 _), crd0]
  unfold Tab.tot; omega

/-- The activations' window is idle exactly past the live blocks. -/
theorem idle6 (T : Tab) (t : Fin (cfgA (F := F) T).N) : (cfgA (F := F) T).idle (6 : Fin 8) ((cfgA (F := F) T).grid.coords t) = !decide (t.val < 36 * T.tot) := by
  show (!(k0_cond1 (crd T t) ((pfN (F := F) T).atD 1 ![0]) == 1#1)) = _
  rw [atD1]
  by_cases h : t.val < 36 * T.tot
  · rw [(live_iff T t).2 h]; simp [h]
  · rw [beq_eq_false_iff_ne.2 fun h' => h ((live_iff T t).1 h')]; simp [h]

/-- The activations' block at a point. -/
theorem index6 (T : Tab) (t : Fin (cfgA (F := F) T).N) : ((cfgA (F := F) T).win (6 : Fin 8)).index t
    = ![min (t.val / 36) (T.tot - 1), if t.val / 36 < T.tot then t.val % 36 else 35] := by
  show cc0_transform_6 inb_S1_S1_0 numel1_S1 (pfN (F := F) T) (grid0.coords t) = _
  rw [tr6, crd0, crd1]

/-- The activations' window is written back after each live point but the last, and after the last point of the grid. -/
theorem flush6 (T : Tab) (t : Fin (cfgA (F := F) T).N) : ((cfgA (F := F) T).win (6 : Fin 8)).flush t = decide (t.val + 1 = 360 ∨ t.val + 1 < 36 * T.tot) := by
  have hN' : (cfgA (F := F) T).N = 360 := N_0
  have ht := T.tot_pos
  have hl : t.val < 360 := t.isLt
  unfold Window.flush
  rw [show ((cfgA (F := F) T).win (6 : Fin 8)).isOut = true from rfl, Bool.true_and, Bool.eq_iff_iff]
  simp only [Bool.or_eq_true, decide_eq_true_eq]
  show (t.val + 1 = 360 ∨ (∃ h : t.val + 1 < 360, _)) ↔ _
  by_cases e : t.val + 1 = 360
  · simp only [e, true_or]
  simp only [e, false_or]
  constructor
  · rintro ⟨h, hne⟩
    by_contra hge
    refine hne ?_
    rw [index6, index6]
    show ![min ((t.val + 1) / 36) (T.tot - 1), if (t.val + 1) / 36 < T.tot then (t.val + 1) % 36 else 35] = _
    congr 1
    · omega
    · congr 1
      split <;> split <;> omega
  · intro h
    have h' : t.val + 1 < 360 := by omega
    refine ⟨h', fun he => ?_⟩
    rw [index6, index6] at he
    have e0 := congrFun he 0
    have e1 := congrFun he 1
    simp only [Matrix.cons_val_zero, Matrix.cons_val_one] at e0 e1
    rw [if_pos (by omega), if_pos (by omega)] at e1
    omega

/-- Whether the activations' buffer holds nothing stored since its last write-back. -/
theorem fresh6 (T : Tab) (t : Fin (cfgA (F := F) T).N) : (cfgA (F := F) T).fresh (6 : Fin 8) t.val = decide (t.val < 36 * T.tot) := by
  have ht := T.tot_pos
  have hl : t.val < 360 := t.isLt
  refine ((cfgA (F := F) T).fresh_tab (6 : Fin 8) (fun n => decide (n < 36 * T.tot ∨ n = 360)) (by simp; omega) (fun u => ?_) t.val (Nat.le_of_lt t.isLt)).trans ?_
  · have hu : u.val < 360 := u.isLt
    rw [flush6, idle6, Bool.eq_iff_iff]
    simp
    omega
  · rw [Bool.eq_iff_iff]; simp; omega

/-- The row maxima's window is idle exactly past the live blocks. -/
theorem idle7 (T : Tab) (t : Fin (cfgA (F := F) T).N) : (cfgA (F := F) T).idle (7 : Fin 8) ((cfgA (F := F) T).grid.coords t) = !decide (t.val < 36 * T.tot) := by
  show (!(k0_cond1 (crd T t) ((pfN (F := F) T).atD 1 ![0]) == 1#1)) = _
  rw [atD1]
  by_cases h : t.val < 36 * T.tot
  · rw [(live_iff T t).2 h]; simp [h]
  · rw [beq_eq_false_iff_ne.2 fun h' => h ((live_iff T t).1 h')]; simp [h]

/-- The row maxima's block at a point. -/
theorem index7 (T : Tab) (t : Fin (cfgA (F := F) T).N) : ((cfgA (F := F) T).win (7 : Fin 8)).index t
    = ![min (t.val / 36) (T.tot - 1), 0] := by
  show cc0_transform_7 inb_S1_S1_0 numel1_S1 (pfN (F := F) T) (grid0.coords t) = _
  rw [tr7, crd0]

/-- The row maxima are written back after the last point of each live block but the last, and after the last point of the grid. -/
theorem flush7 (T : Tab) (t : Fin (cfgA (F := F) T).N) : ((cfgA (F := F) T).win (7 : Fin 8)).flush t
    = decide (t.val + 1 = 360 ∨ (t.val + 1 < 36 * T.tot ∧ (t.val + 1) % 36 = 0)) := by
  have hN' : (cfgA (F := F) T).N = 360 := N_0
  have ht := T.tot_pos
  have hl : t.val < 360 := t.isLt
  unfold Window.flush
  rw [show ((cfgA (F := F) T).win (7 : Fin 8)).isOut = true from rfl, Bool.true_and, Bool.eq_iff_iff]
  simp only [Bool.or_eq_true, decide_eq_true_eq]
  show (t.val + 1 = 360 ∨ (∃ h : t.val + 1 < 360, _)) ↔ _
  by_cases e : t.val + 1 = 360
  · simp only [e, true_or]
  simp only [e, false_or]
  constructor
  · rintro ⟨h, hne⟩
    by_contra hge
    refine hne ?_
    rw [index7, index7]
    show ![min ((t.val + 1) / 36) (T.tot - 1), 0] = _
    congr 1
    omega
  · rintro ⟨h, hm⟩
    have h' : t.val + 1 < 360 := by omega
    refine ⟨h', fun he => ?_⟩
    rw [index7, index7] at he
    have e0 := congrFun he 0
    simp only [Matrix.cons_val_zero] at e0
    omega

/-- Whether the row maxima's buffer holds nothing stored since its last write-back: at the first point of a live block. -/
theorem fresh7 (T : Tab) (t : Fin (cfgA (F := F) T).N) : (cfgA (F := F) T).fresh (7 : Fin 8) t.val = decide (t.val < 36 * T.tot ∧ t.val % 36 = 0) := by
  have ht := T.tot_pos
  have hl : t.val < 360 := t.isLt
  refine ((cfgA (F := F) T).fresh_tab (7 : Fin 8) (fun n => decide ((n < 36 * T.tot ∧ n % 36 = 0) ∨ n = 360)) (by simp; omega) (fun u => ?_) t.val (Nat.le_of_lt t.isLt)).trans ?_
  · have hu : u.val < 360 := u.isLt
    rw [flush7, idle7, Bool.eq_iff_iff]
    simp
    omega
  · rw [Bool.eq_iff_iff]; simp; omega

end Cert.Up.Hand

end
-- ==== Proof.Up.Run.lean ====
/- One call of the first feed-forward kernel's body, on whole staging buffers and any tables: at a live block it
   stores the activations over their block and updates the running row maxima, past the live blocks it leaves both as
   it found them. -/
module

public import proofs.«01_k».proof.Proof.Gen.Up.Skeleton
public import proofs.«01_k».proof.Proof.Up.Sched
public import Idealize.ShloMosaic.Lib.VecWindow
public import Idealize.ShloMosaic.Lib.Pipeline.Kit
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Up.Hand

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first factor's product, scaled: what the body feeds to the gate. -/
def gv (x0 : S512x6144.Idx → Elt F .bf16) (x1 : S512x128.Idx → Elt F .f32) (x2 : S1x3072x256.Idx → Elt F .i8) (x4 : S1x1x256.Idx → Elt F .f32) :
    S512x256.Idx → Elt F .f32 :=
  k0_pay3 x0 (VecWindow.window x1 ![0, 0] S512x1.size inb_S512x128_S512x1_0_0) x2 x4

/-- The activations the body computes of its blocks at a live point. -/
def actv (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) :
    S512x256.Idx → Elt F .f32 :=
  k0_pay1 x0 (VecWindow.window x1 ![0, 0] S512x1.size inb_S512x128_S512x1_0_0) (gv x0 x1 x2 x4) k0_pay5 (k0_pay6 x3) (k0_pay7 x3) x5

/-- The row maxima the body leaves at a live point, of the ones it found. -/
def amaxv (i : grid0.Coords) (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) (y7 : S512x128.Idx → Elt F .f32) :
    S512x128.Idx → Elt F .f32 :=
  k0_pay2 i x0 (VecWindow.window x1 ![0, 0] S512x1.size inb_S512x128_S512x1_0_0) (gv x0 x1 x2 x4) k0_pay5 (k0_pay6 x3) (k0_pay7 x3) x5 y7

/-- At the first column block what was there before does not matter. -/
theorem amaxv_first (i : grid0.Coords) (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) (y y' : S512x128.Idx → Elt F .f32)
    (h : (i 1).val = 0) : amaxv i x0 x1 x2 x3 x4 x5 y = amaxv i x0 x1 x2 x3 x4 x5 y' := by
  unfold amaxv k0_pay2
  have e : Scalar.cmpi .eq (BitVec.ofNat 32 (i 1).val) 0#32 = 1#1 := by rw [h]; decide
  simp only [e, Scalar.select]
  rfl

set_option maxHeartbeats 8000000 in
/-- At a live block: the outputs end holding `actv` and `amaxv` of the input blocks. -/
theorem run_live (c : Dev nD) (i : grid0.Coords) (arg4 : Memref sig .tc .vmem S512x6144 .bf16) (harg4 : arg4.IsWhole) (arg5 : Memref sig .tc .vmem S512x128 .f32) (harg5 : arg5.IsWhole) (arg6 : Memref sig .tc .vmem S1x3072x256 .i8) (harg6 : arg6.IsWhole) (arg7 : Memref sig .tc .vmem S1x3072x256 .i8) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S512x256 .f32) (harg10 : arg10.IsWhole) (arg11 : Memref sig .tc .vmem S512x128 .f32) (harg11 : arg11.IsWhole) (T0 : S10.Idx → BitVec 32) (T1 : S1.Idx → BitVec 32)
    (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32)
    (hlive : k0_cond1 i (T1 z1) = 1#1) (y7 : S512x128.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ owns (c : Thread nD τ) arg11 fullShare y7
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
              ∗ owns (c : Thread nD τ) arg10 fullShare (actv x0 x1 x2 x3 x4 x5)
              ∗ owns (c : Thread nD τ) arg11 fullShare (amaxv i x0 x1 x2 x3 x4 x5 y7)) -∗ K ⟨⟩))
          ⊢ wp frame (wpE (defs₀ (F := F)) Variants.none c none) Set.univ (cc0_ffn1 i tbM0_0 (Memref.isWhole_whole _) tbM0_1 (Memref.isWhole_whole _) arg4 harg4 arg5 harg5 arg6 harg6 arg7 harg7 arg8 harg8 arg9 harg9 arg10 harg10 arg11 harg11) K := by
  have k0_h1 : k0_cond1 i (View.readAt (Elt F) (tbM0_1).view (Rect.unit (s := S1) ![0] S1.size inb_S1_S1_0).toLoadRect T1 (Shape.Idx.first (numel1_S1.symm ▸ Nat.one_pos))) = 1#1 := by
    rw [← hlive]; exact congrArg (fun x => k0_cond1 i (T1 x)) (idx1_eq _)
  rw [cc0_ffn1_eq_skeleton]; unfold cc0_ffn1_skel
  rw [k0_part1_eq_skeleton]; unfold k0_part1_skel
  iintro ⟨H0, H1, H2, H3, H4, H5, HT0, HT1, ⟨%d6, HO6⟩, HO7, Hk⟩
  ihave HO7 := rep_of_owns (c : Thread nD τ) arg11 fullShare y7 $$ HO7
  unfold owns
  icases HO6 with ⟨%f6, -, HO6⟩
  have hT0 : tbM0_0.IsWhole := Memref.isWhole_whole _
  have hT1 : tbM0_1.IsWhole := Memref.isWhole_whole _
  sl_exec! (disch := first | (guard_target = k0_cond1 _ _ = _; exact k0_h1))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _
    isplitr; swap
    · iexact HO6
    · ipureintro
      refine (View.read_writes_full _ _ inb_S512x256_S512x256_0_0 _ []).trans ?_
      show k0_pay1 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (k0_pay3 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (View.readAt (Elt F) arg6.view (Rect.unit (s := S1x3072x256) ![0, 0, 0] S1x3072x256.size inb_S1x3072x256_S1x3072x256_0_0_0).toLoadRect (arg6.view.rep x2)) (View.readAt (Elt F) arg8.view (Rect.unit (s := S1x1x256) ![0, 0, 0] S1x1x256.size inb_S1x1x256_S1x1x256_0_0_0).toLoadRect (arg8.view.rep x4))) k0_pay5 (k0_pay6 (View.readAt (Elt F) arg7.view (Rect.unit (s := S1x3072x256) ![0, 0, 0] S1x3072x256.size inb_S1x3072x256_S1x3072x256_0_0_0).toLoadRect (arg7.view.rep x3))) (k0_pay7 (View.readAt (Elt F) arg7.view (Rect.unit (s := S1x3072x256) ![0, 0, 0] S1x3072x256.size inb_S1x3072x256_S1x3072x256_0_0_0).toLoadRect (arg7.view.rep x3))) (View.readAt (Elt F) arg9.view (Rect.unit (s := S1x1x256) ![0, 0, 0] S1x1x256.size inb_S1x1x256_S1x1x256_0_0_0).toLoadRect (arg9.view.rep x5)) = _
      rw [View.readAt_rep_full, View.readAt_rep_full, View.readAt_rep_full, View.readAt_rep_full, View.readAt_rep_full, View.readAt_rep_unit _ _ _ rfl]
      rfl
  · iexists _
    isplitr; swap
    · iexact HO7
    · ipureintro
      refine (View.read_writes_full _ _ inb_S512x128_S512x128_0_0 _ []).trans ?_
      show k0_pay2 i (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (k0_pay3 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (View.readAt (Elt F) arg6.view (Rect.unit (s := S1x3072x256) ![0, 0, 0] S1x3072x256.size inb_S1x3072x256_S1x3072x256_0_0_0).toLoadRect (arg6.view.rep x2)) (View.readAt (Elt F) arg8.view (Rect.unit (s := S1x1x256) ![0, 0, 0] S1x1x256.size inb_S1x1x256_S1x1x256_0_0_0).toLoadRect (arg8.view.rep x4))) k0_pay5 (k0_pay6 (View.readAt (Elt F) arg7.view (Rect.unit (s := S1x3072x256) ![0, 0, 0] S1x3072x256.size inb_S1x3072x256_S1x3072x256_0_0_0).toLoadRect (arg7.view.rep x3))) (k0_pay7 (View.readAt (Elt F) arg7.view (Rect.unit (s := S1x3072x256) ![0, 0, 0] S1x3072x256.size inb_S1x3072x256_S1x3072x256_0_0_0).toLoadRect (arg7.view.rep x3))) (View.readAt (Elt F) arg9.view (Rect.unit (s := S1x1x256) ![0, 0, 0] S1x1x256.size inb_S1x1x256_S1x1x256_0_0_0).toLoadRect (arg9.view.rep x5)) (View.readAt (Elt F) arg11.view (Rect.unit (s := S512x128) ![0, 0] S512x128.size inb_S512x128_S512x128_0_0).toLoadRect (arg11.view.rep y7)) = _
      rw [View.readAt_rep_full, View.readAt_rep_full, View.readAt_rep_full, View.readAt_rep_full, View.readAt_rep_full, View.readAt_rep_full, View.readAt_rep_unit _ _ _ rfl]
      rfl

set_option maxHeartbeats 8000000 in
/-- Past the live blocks: the outputs are as they were. -/
theorem run_idle (c : Dev nD) (i : grid0.Coords) (arg4 : Memref sig .tc .vmem S512x6144 .bf16) (harg4 : arg4.IsWhole) (arg5 : Memref sig .tc .vmem S512x128 .f32) (harg5 : arg5.IsWhole) (arg6 : Memref sig .tc .vmem S1x3072x256 .i8) (harg6 : arg6.IsWhole) (arg7 : Memref sig .tc .vmem S1x3072x256 .i8) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S512x256 .f32) (harg10 : arg10.IsWhole) (arg11 : Memref sig .tc .vmem S512x128 .f32) (harg11 : arg11.IsWhole) (T0 : S10.Idx → BitVec 32) (T1 : S1.Idx → BitVec 32)
    (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32)
    (hidle : ¬ k0_cond1 i (T1 z1) = 1#1) (y6 : S512x256.Idx → Elt F .f32) (y7 : S512x128.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
              ∗ owns (c : Thread nD τ) arg10 fullShare y6
              ∗ owns (c : Thread nD τ) arg11 fullShare y7) -∗ K ⟨⟩))
          ⊢ wp frame (wpE (defs₀ (F := F)) Variants.none c none) Set.univ (cc0_ffn1 i tbM0_0 (Memref.isWhole_whole _) tbM0_1 (Memref.isWhole_whole _) arg4 harg4 arg5 harg5 arg6 harg6 arg7 harg7 arg8 harg8 arg9 harg9 arg10 harg10 arg11 harg11) K := by
  have k0_h1 : ¬ k0_cond1 i (View.readAt (Elt F) (tbM0_1).view (Rect.unit (s := S1) ![0] S1.size inb_S1_S1_0).toLoadRect T1 (Shape.Idx.first (numel1_S1.symm ▸ Nat.one_pos))) = 1#1 := by
    intro h; refine hidle (Eq.trans ?_ h); exact congrArg (fun x => k0_cond1 i (T1 x)) (idx1_eq _).symm
  rw [cc0_ffn1_eq_skeleton]; unfold cc0_ffn1_skel
  iintro ⟨H0, H1, H2, H3, H4, H5, HT0, HT1, HO6, HO7, Hk⟩
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]; · iexact HO6
  iexact HO7

end Cert.Up.Hand

end
-- ==== Proof.Up.Launch.lean ====
/- The first feed-forward kernel's launch on any admissible tables: what every staging buffer holds point by point,
   the body's obligation, and the run — every array ends at what the pipeline's write-backs make of it, and the
   arguments end unchanged. -/
module

public import proofs.«01_k».proof.Proof.Up.Run
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Up.Hand

open Cert.Up Cert.Up.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) (MT nD τ sig Unit (Elt F) ℕ (UR sig nD τ) ℕ) := emb₁

variable (T : Tab)
variable (m : (ℓ : Loc nD τ sig) → Buf (Elt F) ℓ) (ρ : Dev nD → PrngReg)

/-- Each window's current staging memref at point `t`, and its wholeness. -/
abbrev ms0_0 (t : Fin (cfgA (F := F) T).N) : Memref sig .tc .vmem S512x6144 .bf16 := spec0_0.stage ((cfgA (F := F) T).slots t (0 : Fin 8))
abbrev hs0_0 (t : Fin (cfgA (F := F) T).N) : (ms0_0 T t).IsWhole := hstage0_0 (((cfgA (F := F) T).slots t (0 : Fin 8)).cast nbuf0_0)
abbrev ms0_1 (t : Fin (cfgA (F := F) T).N) : Memref sig .tc .vmem S512x128 .f32 := spec0_1.stage ((cfgA (F := F) T).slots t (1 : Fin 8))
abbrev hs0_1 (t : Fin (cfgA (F := F) T).N) : (ms0_1 T t).IsWhole := hstage0_1 (((cfgA (F := F) T).slots t (1 : Fin 8)).cast nbuf0_1)
abbrev ms0_2 (t : Fin (cfgA (F := F) T).N) : Memref sig .tc .vmem S1x3072x256 .i8 := spec0_2.stage ((cfgA (F := F) T).slots t (2 : Fin 8))
abbrev hs0_2 (t : Fin (cfgA (F := F) T).N) : (ms0_2 T t).IsWhole := hstage0_2 (((cfgA (F := F) T).slots t (2 : Fin 8)).cast nbuf0_2)
abbrev ms0_3 (t : Fin (cfgA (F := F) T).N) : Memref sig .tc .vmem S1x3072x256 .i8 := spec0_3.stage ((cfgA (F := F) T).slots t (3 : Fin 8))
abbrev hs0_3 (t : Fin (cfgA (F := F) T).N) : (ms0_3 T t).IsWhole := hstage0_3 (((cfgA (F := F) T).slots t (3 : Fin 8)).cast nbuf0_3)
abbrev ms0_4 (t : Fin (cfgA (F := F) T).N) : Memref sig .tc .vmem S1x1x256 .f32 := spec0_4.stage ((cfgA (F := F) T).slots t (4 : Fin 8))
abbrev hs0_4 (t : Fin (cfgA (F := F) T).N) : (ms0_4 T t).IsWhole := hstage0_4 (((cfgA (F := F) T).slots t (4 : Fin 8)).cast nbuf0_4)
abbrev ms0_5 (t : Fin (cfgA (F := F) T).N) : Memref sig .tc .vmem S1x1x256 .f32 := spec0_5.stage ((cfgA (F := F) T).slots t (5 : Fin 8))
abbrev hs0_5 (t : Fin (cfgA (F := F) T).N) : (ms0_5 T t).IsWhole := hstage0_5 (((cfgA (F := F) T).slots t (5 : Fin 8)).cast nbuf0_5)
abbrev ms0_6 (t : Fin (cfgA (F := F) T).N) : Memref sig .tc .vmem S512x256 .f32 := spec0_6.stage ((cfgA (F := F) T).slots t (6 : Fin 8))
abbrev hs0_6 (t : Fin (cfgA (F := F) T).N) : (ms0_6 T t).IsWhole := hstage0_6 (((cfgA (F := F) T).slots t (6 : Fin 8)).cast nbuf0_6)
abbrev ms0_7 (t : Fin (cfgA (F := F) T).N) : Memref sig .tc .vmem S512x128 .f32 := spec0_7.stage ((cfgA (F := F) T).slots t (7 : Fin 8))
abbrev hs0_7 (t : Fin (cfgA (F := F) T).N) : (ms0_7 T t).IsWhole := hstage0_7 (((cfgA (F := F) T).slots t (7 : Fin 8)).cast nbuf0_7)

/-- Window `w`'s block at point `t`, read off its array at launch. -/
def iblk (c : Dev nD) (w : Fin (cfgA (F := F) T).W) (t : Fin (cfgA (F := F) T).N) : (((cfgA (F := F) T).win w).xblock (crd T t)).Idx → Elt F ((cfgA (F := F) T).win w).elt :=
  (((cfgA (F := F) T).win w).blk t).view.read (Elt F) ((s₀ m ρ).mem (((cfgA (F := F) T).win w).arr.view.loc (c : Thread nD τ)))

/-- The last live point not after `t`: past the live blocks nothing is stored. -/
def lastLive (t : Fin (cfgA (F := F) T).N) : Fin (cfgA (F := F) T).N := ⟨min t.val (36 * T.tot - 1), Nat.lt_of_le_of_lt (Nat.min_le_left _ _) t.isLt⟩

theorem lastLive_live (t : Fin (cfgA (F := F) T).N) (h : t.val < 36 * T.tot) : lastLive T t = t := Fin.ext (by
  show min t.val (36 * T.tot - 1) = t.val; omega)

theorem lastLive_idle (t : Fin (cfgA (F := F) T).N) (h : ¬ t.val < 36 * T.tot) :
    lastLive T t = lastLive T ⟨t.val - 1, Nat.lt_of_le_of_lt (Nat.sub_le _ _) t.isLt⟩ := Fin.ext (by
  show min t.val (36 * T.tot - 1) = min (t.val - 1) (36 * T.tot - 1); omega)

/-- What the body leaves in the activations' block at a live point. -/
def actAt (c : Dev nD) (t : Fin (cfgA (F := F) T).N) : S512x256.Idx → Elt F .f32 :=
  actv (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t)

/-- What the body makes of the row maxima `y` at a live point. -/
def amaxStep (c : Dev nD) (t : Fin (cfgA (F := F) T).N) (y : S512x128.Idx → Elt F .f32) : S512x128.Idx → Elt F .f32 :=
  amaxv (crd T t) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) y

/-- The row maxima after the point numbered `n`: each point starts from what the one before it left (at the first
    point of a block that does not matter). -/
def amaxN (c : Dev nD) : (n : ℕ) → n < (cfgA (F := F) T).N → S512x128.Idx → Elt F .f32
  | 0, h => amaxStep T m ρ c ⟨0, h⟩ (fun _ => FloatOps.ofBits .f32 0#32)
  | n + 1, h => amaxStep T m ρ c ⟨n + 1, h⟩ (amaxN c n (Nat.lt_of_succ_lt h))

/-- The row maxima after point `t`. -/
def amaxAt (c : Dev nD) (t : Fin (cfgA (F := F) T).N) : S512x128.Idx → Elt F .f32 := amaxN T m ρ c t.val t.isLt

theorem amaxAt_first (c : Dev nD) (t : Fin (cfgA (F := F) T).N) (h : t.val % 36 = 0) (y) : amaxStep T m ρ c t y = amaxAt T m ρ c t := by
  obtain ⟨n, hn⟩ := t
  have h1 : (crd (F := F) T ⟨n, hn⟩ 1).val = 0 := (crd1 ⟨n, hn⟩).trans h
  cases n with
  | zero => exact amaxv_first _ _ _ _ _ _ _ _ _ h1
  | succ n => exact amaxv_first _ _ _ _ _ _ _ _ _ h1

theorem amaxAt_step (c : Dev nD) (t : Fin (cfgA (F := F) T).N) (h : t.val ≠ 0) :
    amaxStep T m ρ c t (amaxAt T m ρ c ⟨t.val - 1, Nat.lt_of_le_of_lt (Nat.sub_le _ _) t.isLt⟩) = amaxAt T m ρ c t := by
  obtain ⟨n, hn⟩ := t
  cases n with
  | zero => exact absurd rfl h
  | succ n => rfl

/-- The invariant: the body's halves of the tables. -/
def Phi (c : Dev nD) : sProp 𝕄 :=
  iprop((tbM0_0.view.loc (c : Thread nD τ) ↦{fullShare.right} T.T0) ∗ (tbM0_1.view.loc (c : Thread nD τ) ↦{fullShare.right} T.T1))

/-- The proof data of the one pipeline on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 8) t
    | ⟨1, _⟩ => iblk T m ρ c (1 : Fin 8) t
    | ⟨2, _⟩ => iblk T m ρ c (2 : Fin 8) t
    | ⟨3, _⟩ => iblk T m ρ c (3 : Fin 8) t
    | ⟨4, _⟩ => iblk T m ρ c (4 : Fin 8) t
    | ⟨5, _⟩ => iblk T m ρ c (5 : Fin 8) t
    | ⟨6, _⟩ => actAt T m ρ c (lastLive T t)
    | ⟨7, _⟩ => amaxAt T m ρ c (lastLive T t)
  Φ t := Phi T c
  q _ := fullShare
  owed _ := 0

theorem after0_0 (c : Dev nD) (t : Fin (cfgA (F := F) T).N) : (dats T m ρ 0 c).after (0 : Fin 8) t = iblk T m ρ c (0 : Fin 8) t := rfl
theorem after0_1 (c : Dev nD) (t : Fin (cfgA (F := F) T).N) : (dats T m ρ 0 c).after (1 : Fin 8) t = iblk T m ρ c (1 : Fin 8) t := rfl
theorem after0_2 (c : Dev nD) (t : Fin (cfgA (F := F) T).N) : (dats T m ρ 0 c).after (2 : Fin 8) t = iblk T m ρ c (2 : Fin 8) t := rfl
theorem after0_3 (c : Dev nD) (t : Fin (cfgA (F := F) T).N) : (dats T m ρ 0 c).after (3 : Fin 8) t = iblk T m ρ c (3 : Fin 8) t := rfl
theorem after0_4 (c : Dev nD) (t : Fin (cfgA (F := F) T).N) : (dats T m ρ 0 c).after (4 : Fin 8) t = iblk T m ρ c (4 : Fin 8) t := rfl
theorem after0_5 (c : Dev nD) (t : Fin (cfgA (F := F) T).N) : (dats T m ρ 0 c).after (5 : Fin 8) t = iblk T m ρ c (5 : Fin 8) t := rfl
theorem after0_6 (c : Dev nD) (t : Fin (cfgA (F := F) T).N) : (dats T m ρ 0 c).after (6 : Fin 8) t = actAt T m ρ c (lastLive T t) := rfl
theorem after0_7 (c : Dev nD) (t : Fin (cfgA (F := F) T).N) : (dats T m ρ 0 c).after (7 : Fin 8) t = amaxAt T m ρ c (lastLive T t) := rfl

/-- An input window holds its block, fetched there or not. -/
theorem before0_0 (c : Dev nD) (t : Fin (cfgA (F := F) T).N) (d) : (dats T m ρ 0 c).before (0 : Fin 8) t d = iblk T m ρ c (0 : Fin 8) t :=
  ((dats T m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) T).N) (d) : (dats T m ρ 0 c).before (1 : Fin 8) t d = iblk T m ρ c (1 : Fin 8) t :=
  ((dats T m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) T).N) (d) : (dats T m ρ 0 c).before (2 : Fin 8) t d = iblk T m ρ c (2 : Fin 8) t :=
  ((dats T m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) T).N) (d) : (dats T m ρ 0 c).before (3 : Fin 8) t d = iblk T m ρ c (3 : Fin 8) t :=
  ((dats T m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA (F := F) T).N) (d) : (dats T m ρ 0 c).before (4 : Fin 8) t d = iblk T m ρ c (4 : Fin 8) t :=
  ((dats T m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA (F := F) T).N) (d) : (dats T m ρ 0 c).before (5 : Fin 8) t d = iblk T m ρ c (5 : Fin 8) t :=
  ((dats T m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Past the live blocks an output window holds what the last live point left. -/
theorem before0_6 (c : Dev nD) (t : Fin (cfgA (F := F) T).N) (h : ¬ t.val < 36 * T.tot) (d) :
    (dats T m ρ 0 c).before (6 : Fin 8) t d = actAt T m ρ c (lastLive T t) := by
  rw [(dats T m ρ 0 c).before_out_traj (6 : Fin 8) rfl (fun _ _ => rfl) (fun t ht hi _ => ?_) t.val t rfl d]
  · rw [fresh6, if_neg (by simp; omega), after0_6, lastLive_idle T t h]
  · rw [idle6] at hi
    rw [after0_6, after0_6, lastLive_idle T t (by simpa using hi)]

/-- Past the live blocks an output window holds what the last live point left. -/
theorem before0_7 (c : Dev nD) (t : Fin (cfgA (F := F) T).N) (h : ¬ t.val < 36 * T.tot) (d) :
    (dats T m ρ 0 c).before (7 : Fin 8) t d = amaxAt T m ρ c (lastLive T t) := by
  rw [(dats T m ρ 0 c).before_out_traj (7 : Fin 8) rfl (fun _ _ => rfl) (fun t ht hi _ => ?_) t.val t rfl d]
  · rw [fresh7, if_neg (by simp; omega), after0_7, lastLive_idle T t h]
  · rw [idle7] at hi
    rw [after0_7, after0_7, lastLive_idle T t (by simpa using hi)]

/-- At a live point the running row maxima become the next ones. -/
theorem amax_live (c : Dev nD) (t : Fin (cfgA (F := F) T).N) (h : t.val < 36 * T.tot) (d) :
    amaxStep T m ρ c t ((dats T m ρ 0 c).before (7 : Fin 8) t d) = amaxAt T m ρ c t := by
  by_cases h0 : t.val % 36 = 0
  · exact amaxAt_first T m ρ c t h0 _
  · have hne : t.val ≠ 0 := fun e => h0 (by rw [e])
    rw [(dats T m ρ 0 c).before_out_traj (7 : Fin 8) rfl (fun _ _ => rfl) (fun t ht hi _ => ?_) t.val t rfl d]
    · rw [fresh7, if_neg (by simp; omega), after0_7, lastLive_live T _ (by show t.val - 1 < _; omega)]
      exact amaxAt_step T m ρ c t hne
    · rw [idle7] at hi
      rw [after0_7, after0_7, lastLive_idle T t (by simpa using hi)]

/-- The body at point `t` on its staging memrefs, as the pipeline calls it. -/
abbrev bodyAt0 (t : Fin (cfgA (F := F) T).N) : Prog (TpuEff nD τ sig (Elt F) Λ₀ .tc) PUnit :=
  cc0_ffn1 (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t)

set_option maxHeartbeats 4000000 in
/-- The body's obligation at point `t`. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0_0 T t) fullShare ((dats T m ρ 0 c).before (0 : Fin 8) t d))
        ∗ (∃ d, owns (c : Thread nD τ) (ms0_1 T t) fullShare ((dats T m ρ 0 c).before (1 : Fin 8) t d))
        ∗ (∃ d, owns (c : Thread nD τ) (ms0_2 T t) fullShare ((dats T m ρ 0 c).before (2 : Fin 8) t d))
        ∗ (∃ d, owns (c : Thread nD τ) (ms0_3 T t) fullShare ((dats T m ρ 0 c).before (3 : Fin 8) t d))
        ∗ (∃ d, owns (c : Thread nD τ) (ms0_4 T t) fullShare ((dats T m ρ 0 c).before (4 : Fin 8) t d))
        ∗ (∃ d, owns (c : Thread nD τ) (ms0_5 T t) fullShare ((dats T m ρ 0 c).before (5 : Fin 8) t d))
        ∗ (∃ d, owns (c : Thread nD τ) (ms0_6 T t) fullShare ((dats T m ρ 0 c).before (6 : Fin 8) t d))
        ∗ (∃ d, owns (c : Thread nD τ) (ms0_7 T t) fullShare ((dats T m ρ 0 c).before (7 : Fin 8) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  by_cases q0 : t.val < 36 * T.tot
  · have k0_h1 := (live_iff T t).2 q0
    rewrite [show (cfgA (F := F) T).idle (6 : Fin 8) ((cfgA (F := F) T).grid.coords t) = false from (idle6 T t).trans (by simpa using q0)]
    simp only [before0_0, before0_1, before0_2, before0_3, before0_4, before0_5, after0_0, after0_1, after0_2, after0_3, after0_4, after0_5, after0_6, after0_7, lastLive_live T t q0]
    rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
    unfold Phi
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_live c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.T0 T.T1 (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) k0_h1 ((dats T m ρ 0 c).before (7 : Fin 8) t d7) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [H7]; · iexact H7
    rewrite [show amaxv (crd T t) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) ((dats T m ρ 0 c).before (7 : Fin 8) t d7) = amaxAt T m ρ c t from amax_live T m ρ c t q0 d7]
    iintro ⟨H0, H1, H2, H3, H4, H5, HT0, HT1, H6, H7⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexact H6
    iexact H7
  · have k0_h1 := mt (live_iff T t).1 q0
    rewrite [show (cfgA (F := F) T).idle (6 : Fin 8) ((cfgA (F := F) T).grid.coords t) = true from (idle6 T t).trans (by simpa using q0)]
    cases f6 : ((cfgA (F := F) T).win (6 : Fin 8)).flush t <;> cases f7 : ((cfgA (F := F) T).win (7 : Fin 8)).flush t <;>
    · simp only [before0_0, before0_1, before0_2, before0_3, before0_4, before0_5, before0_6 T m ρ c t q0, before0_7 T m ρ c t q0, after0_0, after0_1, after0_2, after0_3, after0_4, after0_5, after0_6, after0_7]
      rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
      unfold Phi
      iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_idle c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.T0 T.T1 (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) k0_h1 _ _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [H7]; · iexact H7
      iintro ⟨H0, H1, H2, H3, H4, H5, HT0, HT1, H6, H7⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · first | (iexists d6; iexact H6) | iexact H6
      first | (iexists d7; iexact H7) | iexact H7

/-- The library's body obligation, at every point. -/
theorem body_obligation (c : Dev nD) : BodyObligation (dats T m ρ 0 c) (defs₀ (F := F)) Variants.none () Set.univ := fun t => by
  rw [bigSep_W0]
  exact sound_body T m ρ c t

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

/-- at the last point the tables are let go. -/
theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T c from rfl]
  unfold Phi
  iintro ⟨-, -⟩
  isplitr; · iempintro
  iempintro

/-- Every array ends at what the pipeline computes, every table at what the pipeline ran at. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables `T`. -/
def Holds : Prop :=
  (∀ c : Dev nD, m ((c : Thread nD τ).loc main_arg0) = T.T0) ∧ (∀ c : Dev nD, m ((c : Thread nD τ).loc main_arg1) = T.T1)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory holding admissible tables every weakly fair execution terminates, each array ends at the computed
    contents and every semaphore counter at zero. -/
theorem run_main (hp : Holds T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame on admissible tables: the arguments end unchanged, the counters at zero. -/
theorem frame (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hz => ⟨fun c =>
    have h := hz.1
    ⟨((h c).2 0).trans (hp.1 c).symm, ((h c).2 1).trans (hp.2 c).symm, ((h c).1 (0 : Fin 8)).trans ((dats T m ρ 0 c).arrAt_in (0 : Fin 8) rfl _), ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _)⟩, hz.2⟩) (run_main T m ρ hp)

end Cert.Up.Hand

end
-- ==== Proof.UpIdeal.Sched.lean ====
/- The first feed-forward kernel (`Up`) on ANY tables its precondition admits: the tables, the blocks its index
   maps name, and which of its grid points store (`live` blocks) — closed forms of the grid position. -/
module

public import proofs.«01_k».proof.Proof.Gen.UpIdeal.Launch
public import Idealize.ShloMosaic.Lib.WordCmp
public import Idealize.ShloMosaic.Lib.Tactic.WordOmega
public import Idealize.ShloMosaic.Lib.Affine
public import Idealize.ShloMosaic.Lib.Pipeline.TableIdle
public import Idealize.ShloMosaic.Lib.Pipeline.FrameBody

@[expose] public section

set_option maxRecDepth 16384

noncomputable section

namespace Cert.UpIdeal.Hand

open Cert.UpIdeal Cert.UpIdeal.Gen
open Idealize.ShloMosaic
open Idealize.ShloMosaic.TcCoe Idealize.ShloMosaic.Tactic
open Idealize.ShloMosaic.Pipeline (Dat Cfg Window)

variable {F : FTy → Type} [FloatOps F]

/-- The two prefetched tables as memrefs. -/
abbrev tbM0_0 : Memref sig .tc .smem S10 .i32 := Memref.whole main_arg0
abbrev tbM0_1 : Memref sig .tc .smem S1 .i32 := Memref.whole main_arg1

/-- Contents of the tables the precondition admits: every expert index below 4, at least one live block. -/
structure Tab where
  /-- the expert of each block of rows -/
  T0 : S10.Idx → BitVec 32
  /-- the number of live blocks -/
  T1 : S1.Idx → BitVec 32
  h0 : ∀ x, (T0 x).toNat < 4
  h1 : ∀ x, 1 ≤ (T1 x).toNat
  h2 : ∀ x, (T1 x).toNat < 2 ^ 31

/-- The one index of the one-entry table. -/
abbrev z1 : S1.Idx := fun a => ⟨0, by fin_cases a; decide⟩

theorem idx1_eq (x : S1.Idx) : x = z1 := by
  funext a; fin_cases a; exact Fin.ext (by have := (x 0).isLt; simp at this; simpa using this)

/-- Entry `b` of the expert table. -/
abbrev ix10 (b : Fin 10) : S10.Idx := fun a => b.cast (by fin_cases a; rfl)

/-- The number of live blocks. -/
def Tab.tot (T : Tab) : ℕ := (T.T1 z1).toNat

theorem Tab.tot_pos (T : Tab) : 1 ≤ T.tot := T.h1 _
theorem Tab.tot_lt (T : Tab) : T.tot < 2 ^ 31 := T.h2 _

/-- The expert of block `b`. -/
def Tab.exp (T : Tab) (b : Fin 10) : ℕ := (T.T0 (ix10 b)).toNat

theorem Tab.exp_lt (T : Tab) (b : Fin 10) : T.exp b < 4 := T.h0 _

/-- The tables as the region's prefetched contents. -/
def pfN (T : Tab) : pre0.Contents (Elt F) := fun | ⟨0, _⟩ => T.T0 | ⟨1, _⟩ => T.T1 | ⟨_ + 2, h⟩ => absurd h (by simp)

theorem at1 (T : Tab) : (pfN (F := F) T).at 1 (Rect.unit (s := S1) ![0] S1.size inb_S1_S1_0) numel1_S1 = T.T1 z1 :=
  congrArg T.T1 (idx1_eq _)

theorem atD1 (T : Tab) : (pfN (F := F) T).atD 1 ![0] = T.T1 z1 := by
  rw [← at1 (F := F) T]; rfl

theorem min_word (n : ℕ) (hn : n < 10) (w : BitVec 32) (h1 : 1 ≤ w.toNat) (h2 : w.toNat < 2 ^ 31) :
    (Scalar.minsi (BitVec.ofNat 32 n) (Scalar.subi w 1#32)).toNat = min n (w.toNat - 1) := by
  show (if (BitVec.ofNat 32 n).slt (w - 1#32) then BitVec.ofNat 32 n else w - 1#32).toNat = _
  have e1 : (BitVec.ofNat 32 n).toNat = n := by rw [BitVec.toNat_ofNat]; omega
  have e2 : (w - 1#32).toNat = w.toNat - 1 := by rw [BitVec.toNat_sub]; simp; omega
  rw [BitVec.slt_eq_decide, BitVec.toInt_eq_toNat_of_lt (by rw [e1]; omega), BitVec.toInt_eq_toNat_of_lt (by rw [e2]; omega), e1, e2]
  by_cases h : n < w.toNat - 1
  · rw [if_pos (by simpa using h), e1]; omega
  · rw [if_neg (by simpa using h), e2]; omega

/-- The body's test at a point: the block is live. -/
theorem cond_iff (i : grid0.Coords) (w : BitVec 32) (h2 : w.toNat < 2 ^ 31) : k0_cond1 i w = 1#1 ↔ (i 0).val < w.toNat := by
  have hn : (i 0).val < 10 := (i 0).isLt
  unfold k0_cond1
  generalize (i 0).val = n at hn ⊢
  word_omega

theorem sel_word (n m : ℕ) (hn : n < 10) (hm : m < 36) (w : BitVec 32) (h2 : w.toNat < 2 ^ 31) :
    (Scalar.select (Scalar.cmpi .slt (BitVec.ofNat 32 n) w) (BitVec.ofNat 32 m) 35#32 : BitVec 32).toNat = if n < w.toNat then m else 35 := by
  word_omega

theorem at0 (T : Tab) (i : grid0.Coords) :
    (pfN (F := F) T).at 0 (Rect.unit (s := S10) ![(Scalar.indexCast (BitVec.ofNat 32 (i 0).val) : Index).toNat] S1.size (k0_off1_inb i)) numel1_S1
      = T.T0 (ix10 (i 0)) := by
  refine congrArg T.T0 ?_
  funext a; fin_cases a
  apply Fin.ext
  have hn : (i 0).val < 10 := (i 0).isLt
  show (BitVec.ofNat 32 (i 0).val).toNat + 1 * 0 = (i 0).val
  rw [BitVec.toNat_ofNat]; omega

/-- The row-block windows' index map: block `min b (tot - 1)`. -/
theorem tr0 (T : Tab) (i : grid0.Coords) : cc0_transform_0 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
theorem tr1 (T : Tab) (i : grid0.Coords) : cc0_transform_1 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
/-- The weights' index map: the block's expert, and the column block (the last one past the live blocks). -/
theorem tr2 (T : Tab) (i : grid0.Coords) : cc0_transform_2 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr3 (T : Tab) (i : grid0.Coords) : cc0_transform_3 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr4 (T : Tab) (i : grid0.Coords) : cc0_transform_4 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
theorem tr5 (T : Tab) (i : grid0.Coords) : cc0_transform_5 k0_off1_inb numel1_S1 inb_S1_S1_0 (pfN (F := F) T) i
    = ![T.exp (i 0), 0, if (i 0).val < T.tot then (i 1).val else 35] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, at0, sel_word _ _ (i 0).isLt (i 1).isLt _ (T.h2 _)]; rfl
/-- The activations' index map. -/
theorem tr6 (T : Tab) (i : grid0.Coords) : cc0_transform_6 inb_S1_S1_0 numel1_S1 (pfN (F := F) T) i
    = ![min (i 0).val (T.tot - 1), if (i 0).val < T.tot then (i 1).val else 35] := by
  show ![(Scalar.minsi (BitVec.ofNat 32 (i 0).val) (Scalar.subi ((pfN (F := F) T).at 1 (Rect.unit (s := S1) ![0] S1.size inb_S1_S1_0) numel1_S1) 1#32)).toNat, (Scalar.select (Scalar.cmpi .slt (BitVec.ofNat 32 (i 0).val) ((pfN (F := F) T).at 1 (Rect.unit (s := S1) ![0] S1.size inb_S1_S1_0) numel1_S1)) (BitVec.ofNat 32 (i 1).val) 35#32 : BitVec 32).toNat] = _
  rw [at1, min_word _ (i 0).isLt _ (T.h1 _) (T.h2 _), sel_word _ _ (i 0).isLt (i 1).isLt _ (T.h2 _)]; rfl

/-- The row maxima's index map. -/
theorem tr7 (T : Tab) (i : grid0.Coords) : cc0_transform_7 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl

theorem hN : grid0.N = 360 := N_0

/-- A point's coordinates: 36 column blocks per block of rows. -/
theorem crd0 : ∀ t : Fin grid0.N, (grid0.coords t 0).val = t.val / 36 := by decide +kernel
theorem crd1 : ∀ t : Fin grid0.N, (grid0.coords t 1).val = t.val % 36 := by decide +kernel

/-- The blocks the index maps name at admissible tables lie in their arrays. -/
theorem ok_pfN (T : Tab) : ok0 (F := F) (pfN T) := by
  have ht := T.tot_pos
  refine ⟨fun i => ?_, fun i => ?_, fun i => ?_, fun i => ?_, fun i => ?_, fun i => ?_, fun i => ?_, fun i => ?_⟩ <;>
    (have h0 : (i 0).val < 10 := (i 0).isLt
     have h1 : (i 1).val < 36 := (i 1).isLt
     have he := T.exp_lt (i 0))
  · refine ⟨?_, .inr (Affine.block_words_dvd (s := S5120x6144) (p := EltTy.packing .bf16) (by decide) (by decide))⟩
    rw [tr0]; intro a; fin_cases a <;> simp <;> omega
  · refine ⟨?_, .inl rfl⟩
    rw [tr1]; intro a; fin_cases a <;> simp <;> omega
  · refine ⟨?_, .inr (Affine.block_words_dvd (s := S4x3072x9216) (p := EltTy.packing .i8) (by decide) (by decide))⟩
    rw [tr2]; intro a; fin_cases a <;> simp <;> [omega; split <;> omega]
  · refine ⟨?_, .inr (Affine.block_words_dvd (s := S4x3072x9216) (p := EltTy.packing .i8) (by decide) (by decide))⟩
    rw [tr3]; intro a; fin_cases a <;> simp <;> [omega; split <;> omega]
  · refine ⟨?_, .inl rfl⟩
    rw [tr4]; intro a; fin_cases a <;> simp <;> [omega; split <;> omega]
  · refine ⟨?_, .inl rfl⟩
    rw [tr5]; intro a; fin_cases a <;> simp <;> [omega; split <;> omega]
  · refine ⟨?_, .inl rfl⟩
    rw [tr6]; intro a; fin_cases a <;> simp <;> [omega; split <;> omega]
  · refine ⟨?_, .inl rfl⟩
    rw [tr7]; intro a; fin_cases a <;> simp <;> omega

/-- The tables as admissible contents, and the pipeline at them. -/
def adm (T : Tab) : (pcfg0 (F := F)).Adm := ⟨pfN T, ok_pfN T⟩
abbrev cfgA (T : Tab) : Pipeline.Cfg sig Λ₀ := cfg0 (F := F) (adm T)
abbrev pcs (T : Tab) : Fin 1 → Pipeline.Cfg sig Λ₀ := Pipeline.pin (pcfgs (F := F)) fun _ => adm T

/-- Point `t`'s coordinates. -/
abbrev crd (T : Tab) (t : Fin (cfgA (F := F) T).N) : (cfgA (F := F) T).grid.Coords := (cfgA (F := F) T).grid.coords t

theorem live_iff (T : Tab) (t : Fin (cfgA (F := F) T).N) : k0_cond1 (crd T t) (T.T1 z1) = 1#1 ↔ t.val < 36 * T.tot := by
  rw [cond_iff _ _ (T.h2 _), crd0]
  unfold Tab.tot; omega

/-- The activations' window is idle exactly past the live blocks. -/
theorem idle6 (T : Tab) (t : Fin (cfgA (F := F) T).N) : (cfgA (F := F) T).idle (6 : Fin 8) ((cfgA (F := F) T).grid.coords t) = !decide (t.val < 36 * T.tot) := by
  show (!(k0_cond1 (crd T t) ((pfN (F := F) T).atD 1 ![0]) == 1#1)) = _
  rw [atD1]
  by_cases h : t.val < 36 * T.tot
  · rw [(live_iff T t).2 h]; simp [h]
  · rw [beq_eq_false_iff_ne.2 fun h' => h ((live_iff T t).1 h')]; simp [h]

/-- The activations' block at a point. -/
theorem index6 (T : Tab) (t : Fin (cfgA (F := F) T).N) : ((cfgA (F := F) T).win (6 : Fin 8)).index t
    = ![min (t.val / 36) (T.tot - 1), if t.val / 36 < T.tot then t.val % 36 else 35] := by
  show cc0_transform_6 inb_S1_S1_0 numel1_S1 (pfN (F := F) T) (grid0.coords t) = _
  rw [tr6, crd0, crd1]

/-- The activations' window is written back after each live point but the last, and after the last point of the grid. -/
theorem flush6 (T : Tab) (t : Fin (cfgA (F := F) T).N) : ((cfgA (F := F) T).win (6 : Fin 8)).flush t = decide (t.val + 1 = 360 ∨ t.val + 1 < 36 * T.tot) := by
  have hN' : (cfgA (F := F) T).N = 360 := N_0
  have ht := T.tot_pos
  have hl : t.val < 360 := t.isLt
  unfold Window.flush
  rw [show ((cfgA (F := F) T).win (6 : Fin 8)).isOut = true from rfl, Bool.true_and, Bool.eq_iff_iff]
  simp only [Bool.or_eq_true, decide_eq_true_eq]
  show (t.val + 1 = 360 ∨ (∃ h : t.val + 1 < 360, _)) ↔ _
  by_cases e : t.val + 1 = 360
  · simp only [e, true_or]
  simp only [e, false_or]
  constructor
  · rintro ⟨h, hne⟩
    by_contra hge
    refine hne ?_
    rw [index6, index6]
    show ![min ((t.val + 1) / 36) (T.tot - 1), if (t.val + 1) / 36 < T.tot then (t.val + 1) % 36 else 35] = _
    congr 1
    · omega
    · congr 1
      split <;> split <;> omega
  · intro h
    have h' : t.val + 1 < 360 := by omega
    refine ⟨h', fun he => ?_⟩
    rw [index6, index6] at he
    have e0 := congrFun he 0
    have e1 := congrFun he 1
    simp only [Matrix.cons_val_zero, Matrix.cons_val_one] at e0 e1
    rw [if_pos (by omega), if_pos (by omega)] at e1
    omega

/-- Whether the activations' buffer holds nothing stored since its last write-back. -/
theorem fresh6 (T : Tab) (t : Fin (cfgA (F := F) T).N) : (cfgA (F := F) T).fresh (6 : Fin 8) t.val = decide (t.val < 36 * T.tot) := by
  have ht := T.tot_pos
  have hl : t.val < 360 := t.isLt
  refine ((cfgA (F := F) T).fresh_tab (6 : Fin 8) (fun n => decide (n < 36 * T.tot ∨ n = 360)) (by simp; omega) (fun u => ?_) t.val (Nat.le_of_lt t.isLt)).trans ?_
  · have hu : u.val < 360 := u.isLt
    rw [flush6, idle6, Bool.eq_iff_iff]
    simp
    omega
  · rw [Bool.eq_iff_iff]; simp; omega

/-- The row maxima's window is idle exactly past the live blocks. -/
theorem idle7 (T : Tab) (t : Fin (cfgA (F := F) T).N) : (cfgA (F := F) T).idle (7 : Fin 8) ((cfgA (F := F) T).grid.coords t) = !decide (t.val < 36 * T.tot) := by
  show (!(k0_cond1 (crd T t) ((pfN (F := F) T).atD 1 ![0]) == 1#1)) = _
  rw [atD1]
  by_cases h : t.val < 36 * T.tot
  · rw [(live_iff T t).2 h]; simp [h]
  · rw [beq_eq_false_iff_ne.2 fun h' => h ((live_iff T t).1 h')]; simp [h]

/-- The row maxima's block at a point. -/
theorem index7 (T : Tab) (t : Fin (cfgA (F := F) T).N) : ((cfgA (F := F) T).win (7 : Fin 8)).index t
    = ![min (t.val / 36) (T.tot - 1), 0] := by
  show cc0_transform_7 inb_S1_S1_0 numel1_S1 (pfN (F := F) T) (grid0.coords t) = _
  rw [tr7, crd0]

/-- The row maxima are written back after the last point of each live block but the last, and after the last point of the grid. -/
theorem flush7 (T : Tab) (t : Fin (cfgA (F := F) T).N) : ((cfgA (F := F) T).win (7 : Fin 8)).flush t
    = decide (t.val + 1 = 360 ∨ (t.val + 1 < 36 * T.tot ∧ (t.val + 1) % 36 = 0)) := by
  have hN' : (cfgA (F := F) T).N = 360 := N_0
  have ht := T.tot_pos
  have hl : t.val < 360 := t.isLt
  unfold Window.flush
  rw [show ((cfgA (F := F) T).win (7 : Fin 8)).isOut = true from rfl, Bool.true_and, Bool.eq_iff_iff]
  simp only [Bool.or_eq_true, decide_eq_true_eq]
  show (t.val + 1 = 360 ∨ (∃ h : t.val + 1 < 360, _)) ↔ _
  by_cases e : t.val + 1 = 360
  · simp only [e, true_or]
  simp only [e, false_or]
  constructor
  · rintro ⟨h, hne⟩
    by_contra hge
    refine hne ?_
    rw [index7, index7]
    show ![min ((t.val + 1) / 36) (T.tot - 1), 0] = _
    congr 1
    omega
  · rintro ⟨h, hm⟩
    have h' : t.val + 1 < 360 := by omega
    refine ⟨h', fun he => ?_⟩
    rw [index7, index7] at he
    have e0 := congrFun he 0
    simp only [Matrix.cons_val_zero] at e0
    omega

/-- Whether the row maxima's buffer holds nothing stored since its last write-back: at the first point of a live block. -/
theorem fresh7 (T : Tab) (t : Fin (cfgA (F := F) T).N) : (cfgA (F := F) T).fresh (7 : Fin 8) t.val = decide (t.val < 36 * T.tot ∧ t.val % 36 = 0) := by
  have ht := T.tot_pos
  have hl : t.val < 360 := t.isLt
  refine ((cfgA (F := F) T).fresh_tab (7 : Fin 8) (fun n => decide ((n < 36 * T.tot ∧ n % 36 = 0) ∨ n = 360)) (by simp; omega) (fun u => ?_) t.val (Nat.le_of_lt t.isLt)).trans ?_
  · have hu : u.val < 360 := u.isLt
    rw [flush7, idle7, Bool.eq_iff_iff]
    simp
    omega
  · rw [Bool.eq_iff_iff]; simp; omega

end Cert.UpIdeal.Hand

end
-- ==== Proof.UpIdeal.Run.lean ====
/- One call of the first feed-forward kernel's body, on whole staging buffers and any tables: at a live block it
   stores the activations over their block and updates the running row maxima, past the live blocks it leaves both as
   it found them. -/
module

public import proofs.«01_k».proof.Proof.Gen.UpIdeal.Skeleton
public import proofs.«01_k».proof.Proof.UpIdeal.Sched
public import Idealize.ShloMosaic.Lib.VecWindow
public import Idealize.ShloMosaic.Lib.Pipeline.Kit
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.UpIdeal.Hand

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The first factor's product, scaled: what the body feeds to the gate. -/
def gv (x0 : S512x6144.Idx → Elt F .bf16) (x1 : S512x128.Idx → Elt F .f32) (x2 : S1x3072x256.Idx → Elt F .i8) (x4 : S1x1x256.Idx → Elt F .f32) :
    S512x256.Idx → Elt F .f32 :=
  k0_pay3 x0 (VecWindow.window x1 ![0, 0] S512x1.size inb_S512x128_S512x1_0_0) x2 x4

/-- The activations the body computes of its blocks at a live point. -/
def actv (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) :
    S512x256.Idx → Elt F .f32 :=
  k0_pay1 x0 (VecWindow.window x1 ![0, 0] S512x1.size inb_S512x128_S512x1_0_0) (gv x0 x1 x2 x4) k0_pay5 (k0_pay6 x3) (k0_pay7 x3) x5

/-- The row maxima the body leaves at a live point, of the ones it found. -/
def amaxv (i : grid0.Coords) (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) (y7 : S512x128.Idx → Elt F .f32) :
    S512x128.Idx → Elt F .f32 :=
  k0_pay2 i x0 (VecWindow.window x1 ![0, 0] S512x1.size inb_S512x128_S512x1_0_0) (gv x0 x1 x2 x4) k0_pay5 (k0_pay6 x3) (k0_pay7 x3) x5 y7

/-- At the first column block what was there before does not matter. -/
theorem amaxv_first (i : grid0.Coords) (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32) (y y' : S512x128.Idx → Elt F .f32)
    (h : (i 1).val = 0) : amaxv i x0 x1 x2 x3 x4 x5 y = amaxv i x0 x1 x2 x3 x4 x5 y' := by
  unfold amaxv k0_pay2
  have e : Scalar.cmpi .eq (BitVec.ofNat 32 (i 1).val) 0#32 = 1#1 := by rw [h]; decide
  simp only [e, Scalar.select]
  rfl

set_option maxHeartbeats 8000000 in
/-- At a live block: the outputs end holding `actv` and `amaxv` of the input blocks. -/
theorem run_live (c : Dev nD) (i : grid0.Coords) (arg4 : Memref sig .tc .vmem S512x6144 .bf16) (harg4 : arg4.IsWhole) (arg5 : Memref sig .tc .vmem S512x128 .f32) (harg5 : arg5.IsWhole) (arg6 : Memref sig .tc .vmem S1x3072x256 .i8) (harg6 : arg6.IsWhole) (arg7 : Memref sig .tc .vmem S1x3072x256 .i8) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S512x256 .f32) (harg10 : arg10.IsWhole) (arg11 : Memref sig .tc .vmem S512x128 .f32) (harg11 : arg11.IsWhole) (T0 : S10.Idx → BitVec 32) (T1 : S1.Idx → BitVec 32)
    (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32)
    (hlive : k0_cond1 i (T1 z1) = 1#1) (y7 : S512x128.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ (∃ d, owns (c : Thread nD τ) arg10 fullShare d)
          ∗ owns (c : Thread nD τ) arg11 fullShare y7
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
              ∗ owns (c : Thread nD τ) arg10 fullShare (actv x0 x1 x2 x3 x4 x5)
              ∗ owns (c : Thread nD τ) arg11 fullShare (amaxv i x0 x1 x2 x3 x4 x5 y7)) -∗ K ⟨⟩))
          ⊢ wp frame (wpE (defs₀ (F := F)) Variants.none c none) Set.univ (cc0_ffn1 i tbM0_0 (Memref.isWhole_whole _) tbM0_1 (Memref.isWhole_whole _) arg4 harg4 arg5 harg5 arg6 harg6 arg7 harg7 arg8 harg8 arg9 harg9 arg10 harg10 arg11 harg11) K := by
  have k0_h1 : k0_cond1 i (View.readAt (Elt F) (tbM0_1).view (Rect.unit (s := S1) ![0] S1.size inb_S1_S1_0).toLoadRect T1 (Shape.Idx.first (numel1_S1.symm ▸ Nat.one_pos))) = 1#1 := by
    rw [← hlive]; exact congrArg (fun x => k0_cond1 i (T1 x)) (idx1_eq _)
  rw [cc0_ffn1_eq_skeleton]; unfold cc0_ffn1_skel
  rw [k0_part1_eq_skeleton]; unfold k0_part1_skel
  iintro ⟨H0, H1, H2, H3, H4, H5, HT0, HT1, ⟨%d6, HO6⟩, HO7, Hk⟩
  ihave HO7 := rep_of_owns (c : Thread nD τ) arg11 fullShare y7 $$ HO7
  unfold owns
  icases HO6 with ⟨%f6, -, HO6⟩
  have hT0 : tbM0_0.IsWhole := Memref.isWhole_whole _
  have hT1 : tbM0_1.IsWhole := Memref.isWhole_whole _
  sl_exec! (disch := first | (guard_target = k0_cond1 _ _ = _; exact k0_h1))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]
  · iexists _
    isplitr; swap
    · iexact HO6
    · ipureintro
      refine (View.read_writes_full _ _ inb_S512x256_S512x256_0_0 _ []).trans ?_
      show k0_pay1 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (k0_pay3 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (View.readAt (Elt F) arg6.view (Rect.unit (s := S1x3072x256) ![0, 0, 0] S1x3072x256.size inb_S1x3072x256_S1x3072x256_0_0_0).toLoadRect (arg6.view.rep x2)) (View.readAt (Elt F) arg8.view (Rect.unit (s := S1x1x256) ![0, 0, 0] S1x1x256.size inb_S1x1x256_S1x1x256_0_0_0).toLoadRect (arg8.view.rep x4))) k0_pay5 (k0_pay6 (View.readAt (Elt F) arg7.view (Rect.unit (s := S1x3072x256) ![0, 0, 0] S1x3072x256.size inb_S1x3072x256_S1x3072x256_0_0_0).toLoadRect (arg7.view.rep x3))) (k0_pay7 (View.readAt (Elt F) arg7.view (Rect.unit (s := S1x3072x256) ![0, 0, 0] S1x3072x256.size inb_S1x3072x256_S1x3072x256_0_0_0).toLoadRect (arg7.view.rep x3))) (View.readAt (Elt F) arg9.view (Rect.unit (s := S1x1x256) ![0, 0, 0] S1x1x256.size inb_S1x1x256_S1x1x256_0_0_0).toLoadRect (arg9.view.rep x5)) = _
      rw [View.readAt_rep_full, View.readAt_rep_full, View.readAt_rep_full, View.readAt_rep_full, View.readAt_rep_full, View.readAt_rep_unit _ _ _ rfl]
      rfl
  · iexists _
    isplitr; swap
    · iexact HO7
    · ipureintro
      refine (View.read_writes_full _ _ inb_S512x128_S512x128_0_0 _ []).trans ?_
      show k0_pay2 i (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (k0_pay3 (View.readAt (Elt F) arg4.view (Rect.unit (s := S512x6144) ![0, 0] S512x6144.size inb_S512x6144_S512x6144_0_0).toLoadRect (arg4.view.rep x0)) (View.readAt (Elt F) arg5.view (Rect.unit (s := S512x128) ![0, 0] S512x1.size inb_S512x128_S512x1_0_0).toLoadRect (arg5.view.rep x1)) (View.readAt (Elt F) arg6.view (Rect.unit (s := S1x3072x256) ![0, 0, 0] S1x3072x256.size inb_S1x3072x256_S1x3072x256_0_0_0).toLoadRect (arg6.view.rep x2)) (View.readAt (Elt F) arg8.view (Rect.unit (s := S1x1x256) ![0, 0, 0] S1x1x256.size inb_S1x1x256_S1x1x256_0_0_0).toLoadRect (arg8.view.rep x4))) k0_pay5 (k0_pay6 (View.readAt (Elt F) arg7.view (Rect.unit (s := S1x3072x256) ![0, 0, 0] S1x3072x256.size inb_S1x3072x256_S1x3072x256_0_0_0).toLoadRect (arg7.view.rep x3))) (k0_pay7 (View.readAt (Elt F) arg7.view (Rect.unit (s := S1x3072x256) ![0, 0, 0] S1x3072x256.size inb_S1x3072x256_S1x3072x256_0_0_0).toLoadRect (arg7.view.rep x3))) (View.readAt (Elt F) arg9.view (Rect.unit (s := S1x1x256) ![0, 0, 0] S1x1x256.size inb_S1x1x256_S1x1x256_0_0_0).toLoadRect (arg9.view.rep x5)) (View.readAt (Elt F) arg11.view (Rect.unit (s := S512x128) ![0, 0] S512x128.size inb_S512x128_S512x128_0_0).toLoadRect (arg11.view.rep y7)) = _
      rw [View.readAt_rep_full, View.readAt_rep_full, View.readAt_rep_full, View.readAt_rep_full, View.readAt_rep_full, View.readAt_rep_full, View.readAt_rep_unit _ _ _ rfl]
      rfl

set_option maxHeartbeats 8000000 in
/-- Past the live blocks: the outputs are as they were. -/
theorem run_idle (c : Dev nD) (i : grid0.Coords) (arg4 : Memref sig .tc .vmem S512x6144 .bf16) (harg4 : arg4.IsWhole) (arg5 : Memref sig .tc .vmem S512x128 .f32) (harg5 : arg5.IsWhole) (arg6 : Memref sig .tc .vmem S1x3072x256 .i8) (harg6 : arg6.IsWhole) (arg7 : Memref sig .tc .vmem S1x3072x256 .i8) (harg7 : arg7.IsWhole) (arg8 : Memref sig .tc .vmem S1x1x256 .f32) (harg8 : arg8.IsWhole) (arg9 : Memref sig .tc .vmem S1x1x256 .f32) (harg9 : arg9.IsWhole) (arg10 : Memref sig .tc .vmem S512x256 .f32) (harg10 : arg10.IsWhole) (arg11 : Memref sig .tc .vmem S512x128 .f32) (harg11 : arg11.IsWhole) (T0 : S10.Idx → BitVec 32) (T1 : S1.Idx → BitVec 32)
    (x0 : S512x6144.Idx → Elt F .bf16) (x1 : S512x128.Idx → Elt F .f32) (x2 : S1x3072x256.Idx → Elt F .i8) (x3 : S1x3072x256.Idx → Elt F .i8) (x4 : S1x1x256.Idx → Elt F .f32) (x5 : S1x1x256.Idx → Elt F .f32)
    (hidle : ¬ k0_cond1 i (T1 z1) = 1#1) (y6 : S512x256.Idx → Elt F .f32) (y7 : S512x128.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
          ∗ owns (c : Thread nD τ) arg10 fullShare y6
          ∗ owns (c : Thread nD τ) arg11 fullShare y7
          ∗ (iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (arg8.view.loc (c : Thread nD τ) ↦[arg8.view.set]{fullShare} arg8.view.rep x4)
          ∗ (arg9.view.loc (c : Thread nD τ) ↦[arg9.view.set]{fullShare} arg9.view.rep x5)
          ∗ (tbM0_0.view.loc (c : Thread nD τ) ↦{fullShare.right} T0)
          ∗ (tbM0_1.view.loc (c : Thread nD τ) ↦{fullShare.right} T1)
              ∗ owns (c : Thread nD τ) arg10 fullShare y6
              ∗ owns (c : Thread nD τ) arg11 fullShare y7) -∗ K ⟨⟩))
          ⊢ wp frame (wpE (defs₀ (F := F)) Variants.none c none) Set.univ (cc0_ffn1 i tbM0_0 (Memref.isWhole_whole _) tbM0_1 (Memref.isWhole_whole _) arg4 harg4 arg5 harg5 arg6 harg6 arg7 harg7 arg8 harg8 arg9 harg9 arg10 harg10 arg11 harg11) K := by
  have k0_h1 : ¬ k0_cond1 i (View.readAt (Elt F) (tbM0_1).view (Rect.unit (s := S1) ![0] S1.size inb_S1_S1_0).toLoadRect T1 (Shape.Idx.first (numel1_S1.symm ▸ Nat.one_pos))) = 1#1 := by
    intro h; refine hidle (Eq.trans ?_ h); exact congrArg (fun x => k0_cond1 i (T1 x)) (idx1_eq _).symm
  rw [cc0_ffn1_eq_skeleton]; unfold cc0_ffn1_skel
  iintro ⟨H0, H1, H2, H3, H4, H5, HT0, HT1, HO6, HO7, Hk⟩
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [H4]; · iexact H4
  isplitl [H5]; · iexact H5
  isplitl [HT0]; · iexact HT0
  isplitl [HT1]; · iexact HT1
  isplitl [HO6]; · iexact HO6
  iexact HO7

end Cert.UpIdeal.Hand

end
-- ==== Proof.UpIdeal.Launch.lean ====
/- The first feed-forward kernel's launch on any admissible tables: what every staging buffer holds point by point,
   the body's obligation, and the run — every array ends at what the pipeline's write-backs make of it, and the
   arguments end unchanged. -/
module

public import proofs.«01_k».proof.Proof.UpIdeal.Run
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.UpIdeal.Hand

open Cert.UpIdeal Cert.UpIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) (MT nD τ sig Unit (Elt F) ℕ (UR sig nD τ) ℕ) := emb₁

variable (T : Tab)
variable (m : (ℓ : Loc nD τ sig) → Buf (Elt F) ℓ) (ρ : Dev nD → PrngReg)

/-- Each window's current staging memref at point `t`, and its wholeness. -/
abbrev ms0_0 (t : Fin (cfgA (F := F) T).N) : Memref sig .tc .vmem S512x6144 .bf16 := spec0_0.stage ((cfgA (F := F) T).slots t (0 : Fin 8))
abbrev hs0_0 (t : Fin (cfgA (F := F) T).N) : (ms0_0 T t).IsWhole := hstage0_0 (((cfgA (F := F) T).slots t (0 : Fin 8)).cast nbuf0_0)
abbrev ms0_1 (t : Fin (cfgA (F := F) T).N) : Memref sig .tc .vmem S512x128 .f32 := spec0_1.stage ((cfgA (F := F) T).slots t (1 : Fin 8))
abbrev hs0_1 (t : Fin (cfgA (F := F) T).N) : (ms0_1 T t).IsWhole := hstage0_1 (((cfgA (F := F) T).slots t (1 : Fin 8)).cast nbuf0_1)
abbrev ms0_2 (t : Fin (cfgA (F := F) T).N) : Memref sig .tc .vmem S1x3072x256 .i8 := spec0_2.stage ((cfgA (F := F) T).slots t (2 : Fin 8))
abbrev hs0_2 (t : Fin (cfgA (F := F) T).N) : (ms0_2 T t).IsWhole := hstage0_2 (((cfgA (F := F) T).slots t (2 : Fin 8)).cast nbuf0_2)
abbrev ms0_3 (t : Fin (cfgA (F := F) T).N) : Memref sig .tc .vmem S1x3072x256 .i8 := spec0_3.stage ((cfgA (F := F) T).slots t (3 : Fin 8))
abbrev hs0_3 (t : Fin (cfgA (F := F) T).N) : (ms0_3 T t).IsWhole := hstage0_3 (((cfgA (F := F) T).slots t (3 : Fin 8)).cast nbuf0_3)
abbrev ms0_4 (t : Fin (cfgA (F := F) T).N) : Memref sig .tc .vmem S1x1x256 .f32 := spec0_4.stage ((cfgA (F := F) T).slots t (4 : Fin 8))
abbrev hs0_4 (t : Fin (cfgA (F := F) T).N) : (ms0_4 T t).IsWhole := hstage0_4 (((cfgA (F := F) T).slots t (4 : Fin 8)).cast nbuf0_4)
abbrev ms0_5 (t : Fin (cfgA (F := F) T).N) : Memref sig .tc .vmem S1x1x256 .f32 := spec0_5.stage ((cfgA (F := F) T).slots t (5 : Fin 8))
abbrev hs0_5 (t : Fin (cfgA (F := F) T).N) : (ms0_5 T t).IsWhole := hstage0_5 (((cfgA (F := F) T).slots t (5 : Fin 8)).cast nbuf0_5)
abbrev ms0_6 (t : Fin (cfgA (F := F) T).N) : Memref sig .tc .vmem S512x256 .f32 := spec0_6.stage ((cfgA (F := F) T).slots t (6 : Fin 8))
abbrev hs0_6 (t : Fin (cfgA (F := F) T).N) : (ms0_6 T t).IsWhole := hstage0_6 (((cfgA (F := F) T).slots t (6 : Fin 8)).cast nbuf0_6)
abbrev ms0_7 (t : Fin (cfgA (F := F) T).N) : Memref sig .tc .vmem S512x128 .f32 := spec0_7.stage ((cfgA (F := F) T).slots t (7 : Fin 8))
abbrev hs0_7 (t : Fin (cfgA (F := F) T).N) : (ms0_7 T t).IsWhole := hstage0_7 (((cfgA (F := F) T).slots t (7 : Fin 8)).cast nbuf0_7)

/-- Window `w`'s block at point `t`, read off its array at launch. -/
def iblk (c : Dev nD) (w : Fin (cfgA (F := F) T).W) (t : Fin (cfgA (F := F) T).N) : (((cfgA (F := F) T).win w).xblock (crd T t)).Idx → Elt F ((cfgA (F := F) T).win w).elt :=
  (((cfgA (F := F) T).win w).blk t).view.read (Elt F) ((s₀ m ρ).mem (((cfgA (F := F) T).win w).arr.view.loc (c : Thread nD τ)))

/-- The last live point not after `t`: past the live blocks nothing is stored. -/
def lastLive (t : Fin (cfgA (F := F) T).N) : Fin (cfgA (F := F) T).N := ⟨min t.val (36 * T.tot - 1), Nat.lt_of_le_of_lt (Nat.min_le_left _ _) t.isLt⟩

theorem lastLive_live (t : Fin (cfgA (F := F) T).N) (h : t.val < 36 * T.tot) : lastLive T t = t := Fin.ext (by
  show min t.val (36 * T.tot - 1) = t.val; omega)

theorem lastLive_idle (t : Fin (cfgA (F := F) T).N) (h : ¬ t.val < 36 * T.tot) :
    lastLive T t = lastLive T ⟨t.val - 1, Nat.lt_of_le_of_lt (Nat.sub_le _ _) t.isLt⟩ := Fin.ext (by
  show min t.val (36 * T.tot - 1) = min (t.val - 1) (36 * T.tot - 1); omega)

/-- What the body leaves in the activations' block at a live point. -/
def actAt (c : Dev nD) (t : Fin (cfgA (F := F) T).N) : S512x256.Idx → Elt F .f32 :=
  actv (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t)

/-- What the body makes of the row maxima `y` at a live point. -/
def amaxStep (c : Dev nD) (t : Fin (cfgA (F := F) T).N) (y : S512x128.Idx → Elt F .f32) : S512x128.Idx → Elt F .f32 :=
  amaxv (crd T t) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) y

/-- The row maxima after the point numbered `n`: each point starts from what the one before it left (at the first
    point of a block that does not matter). -/
def amaxN (c : Dev nD) : (n : ℕ) → n < (cfgA (F := F) T).N → S512x128.Idx → Elt F .f32
  | 0, h => amaxStep T m ρ c ⟨0, h⟩ (fun _ => FloatOps.ofBits .f32 0#32)
  | n + 1, h => amaxStep T m ρ c ⟨n + 1, h⟩ (amaxN c n (Nat.lt_of_succ_lt h))

/-- The row maxima after point `t`. -/
def amaxAt (c : Dev nD) (t : Fin (cfgA (F := F) T).N) : S512x128.Idx → Elt F .f32 := amaxN T m ρ c t.val t.isLt

theorem amaxAt_first (c : Dev nD) (t : Fin (cfgA (F := F) T).N) (h : t.val % 36 = 0) (y) : amaxStep T m ρ c t y = amaxAt T m ρ c t := by
  obtain ⟨n, hn⟩ := t
  have h1 : (crd (F := F) T ⟨n, hn⟩ 1).val = 0 := (crd1 ⟨n, hn⟩).trans h
  cases n with
  | zero => exact amaxv_first _ _ _ _ _ _ _ _ _ h1
  | succ n => exact amaxv_first _ _ _ _ _ _ _ _ _ h1

theorem amaxAt_step (c : Dev nD) (t : Fin (cfgA (F := F) T).N) (h : t.val ≠ 0) :
    amaxStep T m ρ c t (amaxAt T m ρ c ⟨t.val - 1, Nat.lt_of_le_of_lt (Nat.sub_le _ _) t.isLt⟩) = amaxAt T m ρ c t := by
  obtain ⟨n, hn⟩ := t
  cases n with
  | zero => exact absurd rfl h
  | succ n => rfl

/-- The invariant: the body's halves of the tables. -/
def Phi (c : Dev nD) : sProp 𝕄 :=
  iprop((tbM0_0.view.loc (c : Thread nD τ) ↦{fullShare.right} T.T0) ∗ (tbM0_1.view.loc (c : Thread nD τ) ↦{fullShare.right} T.T1))

/-- The proof data of the one pipeline on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 8) t
    | ⟨1, _⟩ => iblk T m ρ c (1 : Fin 8) t
    | ⟨2, _⟩ => iblk T m ρ c (2 : Fin 8) t
    | ⟨3, _⟩ => iblk T m ρ c (3 : Fin 8) t
    | ⟨4, _⟩ => iblk T m ρ c (4 : Fin 8) t
    | ⟨5, _⟩ => iblk T m ρ c (5 : Fin 8) t
    | ⟨6, _⟩ => actAt T m ρ c (lastLive T t)
    | ⟨7, _⟩ => amaxAt T m ρ c (lastLive T t)
  Φ t := Phi T c
  q _ := fullShare
  owed _ := 0

theorem after0_0 (c : Dev nD) (t : Fin (cfgA (F := F) T).N) : (dats T m ρ 0 c).after (0 : Fin 8) t = iblk T m ρ c (0 : Fin 8) t := rfl
theorem after0_1 (c : Dev nD) (t : Fin (cfgA (F := F) T).N) : (dats T m ρ 0 c).after (1 : Fin 8) t = iblk T m ρ c (1 : Fin 8) t := rfl
theorem after0_2 (c : Dev nD) (t : Fin (cfgA (F := F) T).N) : (dats T m ρ 0 c).after (2 : Fin 8) t = iblk T m ρ c (2 : Fin 8) t := rfl
theorem after0_3 (c : Dev nD) (t : Fin (cfgA (F := F) T).N) : (dats T m ρ 0 c).after (3 : Fin 8) t = iblk T m ρ c (3 : Fin 8) t := rfl
theorem after0_4 (c : Dev nD) (t : Fin (cfgA (F := F) T).N) : (dats T m ρ 0 c).after (4 : Fin 8) t = iblk T m ρ c (4 : Fin 8) t := rfl
theorem after0_5 (c : Dev nD) (t : Fin (cfgA (F := F) T).N) : (dats T m ρ 0 c).after (5 : Fin 8) t = iblk T m ρ c (5 : Fin 8) t := rfl
theorem after0_6 (c : Dev nD) (t : Fin (cfgA (F := F) T).N) : (dats T m ρ 0 c).after (6 : Fin 8) t = actAt T m ρ c (lastLive T t) := rfl
theorem after0_7 (c : Dev nD) (t : Fin (cfgA (F := F) T).N) : (dats T m ρ 0 c).after (7 : Fin 8) t = amaxAt T m ρ c (lastLive T t) := rfl

/-- An input window holds its block, fetched there or not. -/
theorem before0_0 (c : Dev nD) (t : Fin (cfgA (F := F) T).N) (d) : (dats T m ρ 0 c).before (0 : Fin 8) t d = iblk T m ρ c (0 : Fin 8) t :=
  ((dats T m ρ 0 c).before_in_eq_fetched (0 : Fin 8) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) T).N) (d) : (dats T m ρ 0 c).before (1 : Fin 8) t d = iblk T m ρ c (1 : Fin 8) t :=
  ((dats T m ρ 0 c).before_in_eq_fetched (1 : Fin 8) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) T).N) (d) : (dats T m ρ 0 c).before (2 : Fin 8) t d = iblk T m ρ c (2 : Fin 8) t :=
  ((dats T m ρ 0 c).before_in_eq_fetched (2 : Fin 8) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) T).N) (d) : (dats T m ρ 0 c).before (3 : Fin 8) t d = iblk T m ρ c (3 : Fin 8) t :=
  ((dats T m ρ 0 c).before_in_eq_fetched (3 : Fin 8) rfl (fun _ => rfl) (fun _ _ _ => rfl) (fun t => by rw [after0_3]; unfold Dat.blockOf iblk; rfl) t d).trans
    (by unfold Dat.fetched Dat.blockOf iblk; rfl)
theorem before0_4 (c : Dev nD) (t : Fin (cfgA (F := F) T).N) (d) : (dats T m ρ 0 c).before (4 : Fin 8) t d = iblk T m ρ c (4 : Fin 8) t :=
  ((dats T m ρ 0 c).before_in_eq_fetched (4 : Fin 8) rfl (fun _ => rfl) (fun _ _ _ => rfl) (fun t => by rw [after0_4]; unfold Dat.blockOf iblk; rfl) t d).trans
    (by unfold Dat.fetched Dat.blockOf iblk; rfl)
theorem before0_5 (c : Dev nD) (t : Fin (cfgA (F := F) T).N) (d) : (dats T m ρ 0 c).before (5 : Fin 8) t d = iblk T m ρ c (5 : Fin 8) t :=
  ((dats T m ρ 0 c).before_in_eq_fetched (5 : Fin 8) rfl (fun _ => rfl) (fun _ _ _ => rfl) (fun t => by rw [after0_5]; unfold Dat.blockOf iblk; rfl) t d).trans
    (by unfold Dat.fetched Dat.blockOf iblk; rfl)

/-- Past the live blocks an output window holds what the last live point left. -/
theorem before0_6 (c : Dev nD) (t : Fin (cfgA (F := F) T).N) (h : ¬ t.val < 36 * T.tot) (d) :
    (dats T m ρ 0 c).before (6 : Fin 8) t d = actAt T m ρ c (lastLive T t) := by
  rw [(dats T m ρ 0 c).before_out_traj (6 : Fin 8) rfl (fun _ _ => rfl) (fun t ht hi _ => ?_) t.val t rfl d]
  · rw [fresh6, if_neg (by simp; omega), after0_6, lastLive_idle T t h]
  · rw [idle6] at hi
    rw [after0_6, after0_6, lastLive_idle T t (by simpa using hi)]

/-- Past the live blocks an output window holds what the last live point left. -/
theorem before0_7 (c : Dev nD) (t : Fin (cfgA (F := F) T).N) (h : ¬ t.val < 36 * T.tot) (d) :
    (dats T m ρ 0 c).before (7 : Fin 8) t d = amaxAt T m ρ c (lastLive T t) := by
  rw [(dats T m ρ 0 c).before_out_traj (7 : Fin 8) rfl (fun _ _ => rfl) (fun t ht hi _ => ?_) t.val t rfl d]
  · rw [fresh7, if_neg (by simp; omega), after0_7, lastLive_idle T t h]
  · rw [idle7] at hi
    rw [after0_7, after0_7, lastLive_idle T t (by simpa using hi)]

/-- At a live point the running row maxima become the next ones. -/
theorem amax_live (c : Dev nD) (t : Fin (cfgA (F := F) T).N) (h : t.val < 36 * T.tot) (d) :
    amaxStep T m ρ c t ((dats T m ρ 0 c).before (7 : Fin 8) t d) = amaxAt T m ρ c t := by
  by_cases h0 : t.val % 36 = 0
  · exact amaxAt_first T m ρ c t h0 _
  · have hne : t.val ≠ 0 := fun e => h0 (by rw [e])
    rw [(dats T m ρ 0 c).before_out_traj (7 : Fin 8) rfl (fun _ _ => rfl) (fun t ht hi _ => ?_) t.val t rfl d]
    · rw [fresh7, if_neg (by simp; omega), after0_7, lastLive_live T _ (by show t.val - 1 < _; omega)]
      exact amaxAt_step T m ρ c t hne
    · rw [idle7] at hi
      rw [after0_7, after0_7, lastLive_idle T t (by simpa using hi)]

/-- The body at point `t` on its staging memrefs, as the pipeline calls it. -/
abbrev bodyAt0 (t : Fin (cfgA (F := F) T).N) : Prog (TpuEff nD τ sig (Elt F) Λ₀ .tc) PUnit :=
  cc0_ffn1 (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t)

set_option maxHeartbeats 4000000 in
/-- The body's obligation at point `t`. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0_0 T t) fullShare ((dats T m ρ 0 c).before (0 : Fin 8) t d))
        ∗ (∃ d, owns (c : Thread nD τ) (ms0_1 T t) fullShare ((dats T m ρ 0 c).before (1 : Fin 8) t d))
        ∗ (∃ d, owns (c : Thread nD τ) (ms0_2 T t) fullShare ((dats T m ρ 0 c).before (2 : Fin 8) t d))
        ∗ (∃ d, owns (c : Thread nD τ) (ms0_3 T t) fullShare ((dats T m ρ 0 c).before (3 : Fin 8) t d))
        ∗ (∃ d, owns (c : Thread nD τ) (ms0_4 T t) fullShare ((dats T m ρ 0 c).before (4 : Fin 8) t d))
        ∗ (∃ d, owns (c : Thread nD τ) (ms0_5 T t) fullShare ((dats T m ρ 0 c).before (5 : Fin 8) t d))
        ∗ (∃ d, owns (c : Thread nD τ) (ms0_6 T t) fullShare ((dats T m ρ 0 c).before (6 : Fin 8) t d))
        ∗ (∃ d, owns (c : Thread nD τ) (ms0_7 T t) fullShare ((dats T m ρ 0 c).before (7 : Fin 8) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  by_cases q0 : t.val < 36 * T.tot
  · have k0_h1 := (live_iff T t).2 q0
    rewrite [show (cfgA (F := F) T).idle (6 : Fin 8) ((cfgA (F := F) T).grid.coords t) = false from (idle6 T t).trans (by simpa using q0)]
    simp only [before0_0, before0_1, before0_2, before0_3, before0_4, before0_5, after0_0, after0_1, after0_2, after0_3, after0_4, after0_5, after0_6, after0_7, lastLive_live T t q0]
    rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
    unfold Phi
    iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
    iapply (run_live c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.T0 T.T1 (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) k0_h1 ((dats T m ρ 0 c).before (7 : Fin 8) t d7) _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [H5]; · iapply rep_of_owns; iexact H5
    isplitl [HT0]; · iexact HT0
    isplitl [HT1]; · iexact HT1
    isplitl [H6]; · iexists _; iexact H6
    isplitl [H7]; · iexact H7
    rewrite [show amaxv (crd T t) (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) ((dats T m ρ 0 c).before (7 : Fin 8) t d7) = amaxAt T m ρ c t from amax_live T m ρ c t q0 d7]
    iintro ⟨H0, H1, H2, H3, H4, H5, HT0, HT1, H6, H7⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    isplitl [H4]; · iapply owns_of_rep; iexact H4
    isplitl [H5]; · iapply owns_of_rep; iexact H5
    isplitl [H6]; · iexact H6
    iexact H7
  · have k0_h1 := mt (live_iff T t).1 q0
    rewrite [show (cfgA (F := F) T).idle (6 : Fin 8) ((cfgA (F := F) T).grid.coords t) = true from (idle6 T t).trans (by simpa using q0)]
    cases f6 : ((cfgA (F := F) T).win (6 : Fin 8)).flush t <;> cases f7 : ((cfgA (F := F) T).win (7 : Fin 8)).flush t <;>
    · simp only [before0_0, before0_1, before0_2, before0_3, before0_4, before0_5, before0_6 T m ρ c t q0, before0_7 T m ρ c t q0, after0_0, after0_1, after0_2, after0_3, after0_4, after0_5, after0_6, after0_7]
      rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
      unfold Phi
      iintro ⟨⟨HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
      iapply (run_idle c (crd T t) (ms0_0 T t) (hs0_0 T t) (ms0_1 T t) (hs0_1 T t) (ms0_2 T t) (hs0_2 T t) (ms0_3 T t) (hs0_3 T t) (ms0_4 T t) (hs0_4 T t) (ms0_5 T t) (hs0_5 T t) (ms0_6 T t) (hs0_6 T t) (ms0_7 T t) (hs0_7 T t) T.T0 T.T1 (iblk T m ρ c (0 : Fin 8) t) (iblk T m ρ c (1 : Fin 8) t) (iblk T m ρ c (2 : Fin 8) t) (iblk T m ρ c (3 : Fin 8) t) (iblk T m ρ c (4 : Fin 8) t) (iblk T m ρ c (5 : Fin 8) t) k0_h1 _ _ _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [H5]; · iapply rep_of_owns; iexact H5
      isplitl [HT0]; · iexact HT0
      isplitl [HT1]; · iexact HT1
      isplitl [H6]; · iexact H6
      isplitl [H7]; · iexact H7
      iintro ⟨H0, H1, H2, H3, H4, H5, HT0, HT1, H6, H7⟩
      isplitl [HT0 HT1]
      · isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      isplitl [H4]; · iapply owns_of_rep; iexact H4
      isplitl [H5]; · iapply owns_of_rep; iexact H5
      isplitl [H6]
      · first | (iexists d6; iexact H6) | iexact H6
      first | (iexists d7; iexact H7) | iexact H7

/-- The library's body obligation, at every point. -/
theorem body_obligation (c : Dev nD) : BodyObligation (dats T m ρ 0 c) (defs₀ (F := F)) Variants.none () Set.univ := fun t => by
  rw [bigSep_W0]
  exact sound_body T m ρ c t

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

/-- at the last point the tables are let go. -/
theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T c from rfl]
  unfold Phi
  iintro ⟨-, -⟩
  isplitr; · iempintro
  iempintro

/-- Every array ends at what the pipeline computes, every table at what the pipeline ran at. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables `T`. -/
def Holds : Prop :=
  (∀ c : Dev nD, m ((c : Thread nD τ).loc main_arg0) = T.T0) ∧ (∀ c : Dev nD, m ((c : Thread nD τ).loc main_arg1) = T.T1)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory holding admissible tables every weakly fair execution terminates, each array ends at the computed
    contents and every semaphore counter at zero. -/
theorem run_main (hp : Holds T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame on admissible tables: the arguments end unchanged, the counters at zero. -/
theorem frame (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ hz => ⟨fun c =>
    have h := hz.1
    ⟨((h c).2 0).trans (hp.1 c).symm, ((h c).2 1).trans (hp.2 c).symm, ((h c).1 (0 : Fin 8)).trans ((dats T m ρ 0 c).arrAt_in (0 : Fin 8) rfl _), ((h c).1 (1 : Fin 8)).trans ((dats T m ρ 0 c).arrAt_in (1 : Fin 8) rfl _), ((h c).1 (2 : Fin 8)).trans ((dats T m ρ 0 c).arrAt_in (2 : Fin 8) rfl _), ((h c).1 (3 : Fin 8)).trans ((dats T m ρ 0 c).arrAt_in (3 : Fin 8) rfl _), ((h c).1 (4 : Fin 8)).trans ((dats T m ρ 0 c).arrAt_in (4 : Fin 8) rfl _), ((h c).1 (5 : Fin 8)).trans ((dats T m ρ 0 c).arrAt_in (5 : Fin 8) rfl _)⟩, hz.2⟩) (run_main T m ρ hp)

end Cert.UpIdeal.Hand

end
-- ==== Proof.Down.Sched.lean ====
/- The second feed-forward kernel (`Down`) on ANY tables its precondition admits: the tables, the blocks its index
   maps name, and which of its grid points store (`live` blocks) — closed forms of the grid position. -/
module

public import proofs.«01_k».proof.Proof.Gen.Down.Launch
public import Idealize.ShloMosaic.Lib.WordCmp
public import Idealize.ShloMosaic.Lib.Tactic.WordOmega
public import Idealize.ShloMosaic.Lib.Affine
public import Idealize.ShloMosaic.Lib.Pipeline.TableIdle
public import Idealize.ShloMosaic.Lib.Pipeline.FrameBody

@[expose] public section

set_option maxRecDepth 16384

noncomputable section

namespace Cert.Down.Hand

open Cert.Down Cert.Down.Gen
open Idealize.ShloMosaic
open Idealize.ShloMosaic.TcCoe Idealize.ShloMosaic.Tactic
open Idealize.ShloMosaic.Pipeline (Dat Cfg Window)

variable {F : FTy → Type} [FloatOps F]

/-- The two prefetched tables as memrefs. -/
abbrev tbM0_0 : Memref sig .tc .smem S10 .i32 := Memref.whole main_arg0
abbrev tbM0_1 : Memref sig .tc .smem S1 .i32 := Memref.whole main_arg1

/-- Contents of the tables the precondition admits: every expert index below 4, at least one live block. -/
structure Tab where
  /-- the expert of each block of rows -/
  T0 : S10.Idx → BitVec 32
  /-- the number of live blocks -/
  T1 : S1.Idx → BitVec 32
  h0 : ∀ x, (T0 x).toNat < 4
  h1 : ∀ x, 1 ≤ (T1 x).toNat
  h2 : ∀ x, (T1 x).toNat < 2 ^ 31

/-- The one index of the one-entry table. -/
abbrev z1 : S1.Idx := fun a => ⟨0, by fin_cases a; decide⟩

theorem idx1_eq (x : S1.Idx) : x = z1 := by
  funext a; fin_cases a; exact Fin.ext (by have := (x 0).isLt; simp at this; simpa using this)

/-- Entry `b` of the expert table. -/
abbrev ix10 (b : Fin 10) : S10.Idx := fun a => b.cast (by fin_cases a; rfl)

/-- The number of live blocks. -/
def Tab.tot (T : Tab) : ℕ := (T.T1 z1).toNat

theorem Tab.tot_pos (T : Tab) : 1 ≤ T.tot := T.h1 _
theorem Tab.tot_lt (T : Tab) : T.tot < 2 ^ 31 := T.h2 _

/-- The expert of block `b`. -/
def Tab.exp (T : Tab) (b : Fin 10) : ℕ := (T.T0 (ix10 b)).toNat

theorem Tab.exp_lt (T : Tab) (b : Fin 10) : T.exp b < 4 := T.h0 _

/-- The tables as the region's prefetched contents. -/
def pfN (T : Tab) : pre0.Contents (Elt F) := fun | ⟨0, _⟩ => T.T0 | ⟨1, _⟩ => T.T1 | ⟨_ + 2, h⟩ => absurd h (by simp)

theorem at1 (T : Tab) : (pfN (F := F) T).at 1 (Rect.unit (s := S1) ![0] S1.size inb_S1_S1_0) numel1_S1 = T.T1 z1 :=
  congrArg T.T1 (idx1_eq _)

theorem atD1 (T : Tab) : (pfN (F := F) T).atD 1 ![0] = T.T1 z1 := by
  rw [← at1 (F := F) T]; rfl

theorem min_word (n : ℕ) (hn : n < 10) (w : BitVec 32) (h1 : 1 ≤ w.toNat) (h2 : w.toNat < 2 ^ 31) :
    (Scalar.minsi (BitVec.ofNat 32 n) (Scalar.subi w 1#32)).toNat = min n (w.toNat - 1) := by
  show (if (BitVec.ofNat 32 n).slt (w - 1#32) then BitVec.ofNat 32 n else w - 1#32).toNat = _
  have e1 : (BitVec.ofNat 32 n).toNat = n := by rw [BitVec.toNat_ofNat]; omega
  have e2 : (w - 1#32).toNat = w.toNat - 1 := by rw [BitVec.toNat_sub]; simp; omega
  rw [BitVec.slt_eq_decide, BitVec.toInt_eq_toNat_of_lt (by rw [e1]; omega), BitVec.toInt_eq_toNat_of_lt (by rw [e2]; omega), e1, e2]
  by_cases h : n < w.toNat - 1
  · rw [if_pos (by simpa using h), e1]; omega
  · rw [if_neg (by simpa using h), e2]; omega

/-- The body's test at a point: the block is live. -/
theorem cond_iff (i : grid0.Coords) (w : BitVec 32) (h2 : w.toNat < 2 ^ 31) : k0_cond1 i w = 1#1 ↔ (i 0).val < w.toNat := by
  have hn : (i 0).val < 10 := (i 0).isLt
  unfold k0_cond1
  generalize (i 0).val = n at hn ⊢
  word_omega

theorem sel_word (n m : ℕ) (hn : n < 10) (hm : m < 12) (w : BitVec 32) (h2 : w.toNat < 2 ^ 31) :
    (Scalar.select (Scalar.cmpi .slt (BitVec.ofNat 32 n) w) (BitVec.ofNat 32 m) 11#32 : BitVec 32).toNat = if n < w.toNat then m else 11 := by
  word_omega

theorem at0 (T : Tab) (i : grid0.Coords) :
    (pfN (F := F) T).at 0 (Rect.unit (s := S10) ![(Scalar.indexCast (BitVec.ofNat 32 (i 0).val) : Index).toNat] S1.size (k0_off1_inb i)) numel1_S1
      = T.T0 (ix10 (i 0)) := by
  refine congrArg T.T0 ?_
  funext a; fin_cases a
  apply Fin.ext
  have hn : (i 0).val < 10 := (i 0).isLt
  show (BitVec.ofNat 32 (i 0).val).toNat + 1 * 0 = (i 0).val
  rw [BitVec.toNat_ofNat]; omega

/-- The row-block windows' index map: block `min b (tot - 1)`. -/
theorem tr0 (T : Tab) (i : grid0.Coords) : cc0_transform_0 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
theorem tr1 (T : Tab) (i : grid0.Coords) : cc0_transform_1 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
/-- The weights' index map: the block's expert, and the column block (the last one past the live blocks). -/
theorem tr2 (T : Tab) (i : grid0.Coords) : cc0_transform_2 k0_off1_inb numel1_S1 inb_S1_S1_0 (pfN (F := F) T) i
    = ![T.exp (i 0), 0, if (i 0).val < T.tot then (i 1).val else 11] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, at0, sel_word _ _ (i 0).isLt (i 1).isLt _ (T.h2 _)]; rfl
theorem tr3 (T : Tab) (i : grid0.Coords) : cc0_transform_3 k0_off1_inb numel1_S1 inb_S1_S1_0 (pfN (F := F) T) i
    = ![T.exp (i 0), 0, if (i 0).val < T.tot then (i 1).val else 11] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, at0, sel_word _ _ (i 0).isLt (i 1).isLt _ (T.h2 _)]; rfl
/-- The output's index map. -/
theorem tr4 (T : Tab) (i : grid0.Coords) : cc0_transform_4 inb_S1_S1_0 numel1_S1 (pfN (F := F) T) i
    = ![min (i 0).val (T.tot - 1), if (i 0).val < T.tot then (i 1).val else 11] := by
  show ![(Scalar.minsi (BitVec.ofNat 32 (i 0).val) (Scalar.subi ((pfN (F := F) T).at 1 (Rect.unit (s := S1) ![0] S1.size inb_S1_S1_0) numel1_S1) 1#32)).toNat, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, min_word _ (i 0).isLt _ (T.h1 _) (T.h2 _), sel_word _ _ (i 0).isLt (i 1).isLt _ (T.h2 _)]; rfl

theorem hN : grid0.N = 120 := N_0

/-- A point's coordinates: 12 column blocks per block of rows. -/
theorem crd0 : ∀ t : Fin grid0.N, (grid0.coords t 0).val = t.val / 12 := by decide +kernel
theorem crd1 : ∀ t : Fin grid0.N, (grid0.coords t 1).val = t.val % 12 := by decide +kernel

/-- The blocks the index maps name at admissible tables lie in their arrays. -/
theorem ok_pfN (T : Tab) : ok0 (F := F) (pfN T) := by
  have ht := T.tot_pos
  refine ⟨fun i => ?_, fun i => ?_, fun i => ?_, fun i => ?_, fun i => ?_⟩ <;>
    (have h0 : (i 0).val < 10 := (i 0).isLt
     have h1 : (i 1).val < 12 := (i 1).isLt
     have he := T.exp_lt (i 0))
  · refine ⟨?_, .inr (Affine.block_words_dvd (s := S5120x9216) (p := EltTy.packing .bf16) (by decide) (by decide))⟩
    rw [tr0]; intro a; fin_cases a <;> simp <;> omega
  · refine ⟨?_, .inl rfl⟩
    rw [tr1]; intro a; fin_cases a <;> simp <;> omega
  · refine ⟨?_, .inr (Affine.block_words_dvd (s := S4x4608x6144) (p := EltTy.packing .i8) (by decide) (by decide))⟩
    rw [tr2]; intro a; fin_cases a <;> simp <;> [omega; split <;> omega]
  · refine ⟨?_, .inl rfl⟩
    rw [tr3]; intro a; fin_cases a <;> simp <;> [omega; split <;> omega]
  · refine ⟨?_, .inl rfl⟩
    rw [tr4]; intro a; fin_cases a <;> simp <;> [omega; split <;> omega]

/-- The tables as admissible contents, and the pipeline at them. -/
def adm (T : Tab) : (pcfg0 (F := F)).Adm := ⟨pfN T, ok_pfN T⟩
abbrev cfgA (T : Tab) : Pipeline.Cfg sig Λ₀ := cfg0 (F := F) (adm T)
abbrev pcs (T : Tab) : Fin 1 → Pipeline.Cfg sig Λ₀ := Pipeline.pin (pcfgs (F := F)) fun _ => adm T

/-- Point `t`'s coordinates. -/
abbrev crd (T : Tab) (t : Fin (cfgA (F := F) T).N) : (cfgA (F := F) T).grid.Coords := (cfgA (F := F) T).grid.coords t

theorem live_iff (T : Tab) (t : Fin (cfgA (F := F) T).N) : k0_cond1 (crd T t) (T.T1 z1) = 1#1 ↔ t.val < 12 * T.tot := by
  rw [cond_iff _ _ (T.h2 _), crd0]
  unfold Tab.tot; omega

/-- The output window is idle exactly past the live blocks. -/
theorem idle4 (T : Tab) (t : Fin (cfgA (F := F) T).N) : (cfgA (F := F) T).idle (4 : Fin 5) ((cfgA (F := F) T).grid.coords t) = !decide (t.val < 12 * T.tot) := by
  show (!(k0_cond1 (crd T t) ((pfN (F := F) T).atD 1 ![0]) == 1#1)) = _
  rw [atD1]
  by_cases h : t.val < 12 * T.tot
  · rw [(live_iff T t).2 h]; simp [h]
  · rw [beq_eq_false_iff_ne.2 fun h' => h ((live_iff T t).1 h')]; simp [h]

/-- The output's block at a point. -/
theorem index4 (T : Tab) (t : Fin (cfgA (F := F) T).N) : ((cfgA (F := F) T).win (4 : Fin 5)).index t
    = ![min (t.val / 12) (T.tot - 1), if t.val / 12 < T.tot then t.val % 12 else 11] := by
  show cc0_transform_4 inb_S1_S1_0 numel1_S1 (pfN (F := F) T) (grid0.coords t) = _
  rw [tr4, crd0, crd1]

/-- The output is written back after each live point but the last, and after the last point of the grid. -/
theorem flush4 (T : Tab) (t : Fin (cfgA (F := F) T).N) : ((cfgA (F := F) T).win (4 : Fin 5)).flush t = decide (t.val + 1 = 120 ∨ t.val + 1 < 12 * T.tot) := by
  have hN' : (cfgA (F := F) T).N = 120 := N_0
  have ht := T.tot_pos
  have hl : t.val < 120 := t.isLt
  unfold Window.flush
  rw [show ((cfgA (F := F) T).win (4 : Fin 5)).isOut = true from rfl, Bool.true_and, Bool.eq_iff_iff]
  simp only [Bool.or_eq_true, decide_eq_true_eq]
  show (t.val + 1 = 120 ∨ (∃ h : t.val + 1 < 120, _)) ↔ _
  by_cases e : t.val + 1 = 120
  · simp only [e, true_or]
  simp only [e, false_or]
  constructor
  · rintro ⟨h, hne⟩
    by_contra hge
    refine hne ?_
    rw [index4, index4]
    show ![min ((t.val + 1) / 12) (T.tot - 1), if (t.val + 1) / 12 < T.tot then (t.val + 1) % 12 else 11] = _
    congr 1
    · omega
    · congr 1
      split <;> split <;> omega
  · intro h
    have h' : t.val + 1 < 120 := by omega
    refine ⟨h', fun he => ?_⟩
    rw [index4, index4] at he
    have e0 := congrFun he 0
    have e1 := congrFun he 1
    simp only [Matrix.cons_val_zero, Matrix.cons_val_one] at e0 e1
    rw [if_pos (by omega), if_pos (by omega)] at e1
    omega

/-- Whether the output's buffer holds nothing stored since its last write-back. -/
theorem fresh4 (T : Tab) (t : Fin (cfgA (F := F) T).N) : (cfgA (F := F) T).fresh (4 : Fin 5) t.val = decide (t.val < 12 * T.tot) := by
  have ht := T.tot_pos
  have hl : t.val < 120 := t.isLt
  refine ((cfgA (F := F) T).fresh_tab (4 : Fin 5) (fun n => decide (n < 12 * T.tot ∨ n = 120)) (by simp; omega) (fun u => ?_) t.val (Nat.le_of_lt t.isLt)).trans ?_
  · have hu : u.val < 120 := u.isLt
    rw [flush4, idle4, Bool.eq_iff_iff]
    simp
    omega
  · rw [Bool.eq_iff_iff]; simp; omega

end Cert.Down.Hand

end
-- ==== Proof.Down.Run.lean ====
/- One call of the second feed-forward kernel's body, on whole staging buffers and any tables: at a live block it
   stores the payload over its output block, past the live blocks it leaves its output block as it found it. -/
module

public import proofs.«01_k».proof.Proof.Gen.Down.Skeleton
public import proofs.«01_k».proof.Proof.Down.Sched
public import Idealize.ShloMosaic.Lib.VecWindow
public import Idealize.ShloMosaic.Lib.Pipeline.Kit
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.Down.Hand

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body computes of its blocks at a live point. -/
def outv (x0 : S512x9216.Idx → Elt F .bf16) (x1 : S512x128.Idx → Elt F .f32) (x2 : S1x4608x512.Idx → Elt F .i8) (x3 : S1x1x512.Idx → Elt F .f32) :
    S512x512.Idx → Elt F .f32 :=
  k0_pay1 x0 x2 (VecWindow.window x1 ![0, 0] S512x1.size inb_S512x128_S512x1_0_0) x3

theorem first1 {h : 0 < S1.numel} : Shape.Idx.first h = z1 := idx1_eq _

set_option maxHeartbeats 8000000 in
/-- At a live block: the output block ends holding `outv` of the input blocks. -/
theorem run_live (c : Dev nD) (i : grid0.Coords) (arg4 : Memref sig .tc .vmem S512x9216 .bf16) (harg4 : arg4.IsWhole) (arg5 : Memref sig .tc .vmem S512x128 .f32) (harg5 : arg5.IsWhole) (arg6 : Memref sig .tc .vmem S1x4608x512 .i8) (harg6 : arg6.IsWhole) (arg7 : Memref sig .tc .vmem S1x1x512 .f32) (harg7 : arg7.IsWhole) (arg8 : Memref sig .tc .vmem S512x512 .f32) (harg8 : arg8.IsWhole) (T0 : S10.Idx → BitVec 32) (T1 : S1.Idx → BitVec 32)
    (x0 : S512x9216.Idx → Elt F .bf16) (x1 : S512x128.Idx → Elt F .f32) (x2 : S1x4608x512.Idx → Elt F .i8) (x3 : S1x1x512.Idx → Elt F .f32)
    (hlive : k0_cond1 i (T1 z1) = 1#1) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare (outv x0 x1 x2 x3)) -∗ K ⟨⟩))
          ⊢ wp frame (wpE (defs₀ (F := F)) Variants.none c none) Set.univ (cc0_ffn2 i tbM0_0 (Memref.isWhole_whole _) tbM0_1 (Memref.isWhole_whole _) arg4 harg4 arg5 harg5 arg6 harg6 arg7 harg7 arg8 harg8) K := by
  have k0_h1 : k0_cond1 i (View.readAt (Elt F) (tbM0_1).view (Rect.unit (s := S1) ![0] S1.size inb_S1_S1_0).toLoadRect T1 (Shape.Idx.first (numel1_S1.symm ▸ Nat.one_pos))) = 1#1 := by
    rw [← hlive]; exact congrArg (fun x => k0_cond1 i (T1 x)) (idx1_eq _)
  unfold owns
  rw [cc0_ffn2_eq_skeleton]; unfold cc0_ffn2_skel
  iintro ⟨H0, H1, H2, H3, HT0, HT1, ⟨%d4, %f4, -, HO4⟩, Hk⟩
  have hT0 : tbM0_0.IsWhole := Memref.isWhole_whole _
  have hT1 : tbM0_1.IsWhole := Memref.isWhole_whole _
  sl_exec! (disch := first | (guard_target = k0_cond1 _ _ = _; exact k0_h1))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _
  isplitr; swap
  · iexact HO4
  · ipureintro
    refine (View.read_writes_full _ _ inb_S512x512_S512x512_0_0 _ []).trans ?_
    show k0_pay1 (View.readAt (Elt F) arg4.view (Rect.unit (s := S512x9216) ![0, 0] S512x9216.size inb_S512x9216_S512x9216_0_0).toLoadRect (arg4.view.rep x0))
      (View.readAt (Elt F) arg6.view (Rect.unit (s := S1x4608x512) ![0, 0, 0] S1x4608x512.size inb_S1x4608x512_S1x4608x512_0_0_0).toLoadRect (arg6.view.rep x2))
      (View.readAt (Elt F) arg5.view (Rect.unit (s := S512x128) ![0, 0] S512x1.size inb_S512x128_S512x1_0_0).toLoadRect (arg5.view.rep x1))
      (View.readAt (Elt F) arg7.view (Rect.unit (s := S1x1x512) ![0, 0, 0] S1x1x512.size inb_S1x1x512_S1x1x512_0_0_0).toLoadRect (arg7.view.rep x3)) = _
    rw [View.readAt_rep_full, View.readAt_rep_full, View.readAt_rep_full, View.readAt_rep_unit _ _ _ rfl]
    rfl

set_option maxHeartbeats 8000000 in
/-- Past the live blocks: the output block is as it was. -/
theorem run_idle (c : Dev nD) (i : grid0.Coords) (arg4 : Memref sig .tc .vmem S512x9216 .bf16) (harg4 : arg4.IsWhole) (arg5 : Memref sig .tc .vmem S512x128 .f32) (harg5 : arg5.IsWhole) (arg6 : Memref sig .tc .vmem S1x4608x512 .i8) (harg6 : arg6.IsWhole) (arg7 : Memref sig .tc .vmem S1x1x512 .f32) (harg7 : arg7.IsWhole) (arg8 : Memref sig .tc .vmem S512x512 .f32) (harg8 : arg8.IsWhole) (T0 : S10.Idx → BitVec 32) (T1 : S1.Idx → BitVec 32)
    (x0 : S512x9216.Idx → Elt F .bf16) (x1 : S512x128.Idx → Elt F .f32) (x2 : S1x4608x512.Idx → Elt F .i8) (x3 : S1x1x512.Idx → Elt F .f32)
    (hidle : ¬ k0_cond1 i (T1 z1) = 1#1) (y4 : S512x512.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := F)) Variants.none c none) Set.univ (cc0_ffn2 i tbM0_0 (Memref.isWhole_whole _) tbM0_1 (Memref.isWhole_whole _) arg4 harg4 arg5 harg5 arg6 harg6 arg7 harg7 arg8 harg8) K := by
  have k0_h1 : ¬ k0_cond1 i (View.readAt (Elt F) (tbM0_1).view (Rect.unit (s := S1) ![0] S1.size inb_S1_S1_0).toLoadRect T1 (Shape.Idx.first (numel1_S1.symm ▸ Nat.one_pos))) = 1#1 := by
    intro h; refine hidle (Eq.trans ?_ h); exact congrArg (fun x => k0_cond1 i (T1 x)) (idx1_eq _).symm
  unfold owns
  rw [cc0_ffn2_eq_skeleton]; unfold cc0_ffn2_skel
  iintro ⟨H0, H1, H2, H3, HT0, HT1, ⟨%f4, %hf4, HO4⟩, Hk⟩
  obtain rfl := harg8.eq_unread hf4
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; · ipureintro; exact harg8.read_unread _
  iexact HO4

end Cert.Down.Hand

end
-- ==== Proof.Down.Launch.lean ====
/- The second feed-forward kernel's launch on any admissible tables: what every staging buffer holds point by point,
   the body's obligation, and the run — every array ends at what the pipeline's write-backs make of it, and the
   arguments end unchanged. -/
module

public import proofs.«01_k».proof.Proof.Down.Run
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.Down.Hand

open Cert.Down Cert.Down.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) (MT nD τ sig Unit (Elt F) ℕ (UR sig nD τ) ℕ) := emb₁

variable (T : Tab)
variable (m : (ℓ : Loc nD τ sig) → Buf (Elt F) ℓ) (ρ : Dev nD → PrngReg)

/-- Each window's current staging memref at point `t`, and its wholeness. -/
abbrev ms0_0 (t : Fin (cfgA (F := F) T).N) : Memref sig .tc .vmem S512x9216 .bf16 := spec0_0.stage ((cfgA (F := F) T).slots t (0 : Fin 5))
abbrev hs0_0 (t : Fin (cfgA (F := F) T).N) : (ms0_0 T t).IsWhole := hstage0_0 (((cfgA (F := F) T).slots t (0 : Fin 5)).cast nbuf0_0)
abbrev ms0_1 (t : Fin (cfgA (F := F) T).N) : Memref sig .tc .vmem S512x128 .f32 := spec0_1.stage ((cfgA (F := F) T).slots t (1 : Fin 5))
abbrev hs0_1 (t : Fin (cfgA (F := F) T).N) : (ms0_1 T t).IsWhole := hstage0_1 (((cfgA (F := F) T).slots t (1 : Fin 5)).cast nbuf0_1)
abbrev ms0_2 (t : Fin (cfgA (F := F) T).N) : Memref sig .tc .vmem S1x4608x512 .i8 := spec0_2.stage ((cfgA (F := F) T).slots t (2 : Fin 5))
abbrev hs0_2 (t : Fin (cfgA (F := F) T).N) : (ms0_2 T t).IsWhole := hstage0_2 (((cfgA (F := F) T).slots t (2 : Fin 5)).cast nbuf0_2)
abbrev ms0_3 (t : Fin (cfgA (F := F) T).N) : Memref sig .tc .vmem S1x1x512 .f32 := spec0_3.stage ((cfgA (F := F) T).slots t (3 : Fin 5))
abbrev hs0_3 (t : Fin (cfgA (F := F) T).N) : (ms0_3 T t).IsWhole := hstage0_3 (((cfgA (F := F) T).slots t (3 : Fin 5)).cast nbuf0_3)
abbrev ms0_4 (t : Fin (cfgA (F := F) T).N) : Memref sig .tc .vmem S512x512 .f32 := spec0_4.stage ((cfgA (F := F) T).slots t (4 : Fin 5))
abbrev hs0_4 (t : Fin (cfgA (F := F) T).N) : (ms0_4 T t).IsWhole := hstage0_4 (((cfgA (F := F) T).slots t (4 : Fin 5)).cast nbuf0_4)

/-- Window `w`'s block at point `t`, read off its array at launch. -/
def iblk (c : Dev nD) (w : Fin (cfgA (F := F) T).W) (t : Fin (cfgA (F := F) T).N) : (((cfgA (F := F) T).win w).xblock (crd T t)).Idx → Elt F ((cfgA (F := F) T).win w).elt :=
  (((cfgA (F := F) T).win w).blk t).view.read (Elt F) ((s₀ m ρ).mem (((cfgA (F := F) T).win w).arr.view.loc (c : Thread nD τ)))

/-- The last live point not after `t`: past the live blocks nothing is stored. -/
def lastLive (t : Fin (cfgA (F := F) T).N) : Fin (cfgA (F := F) T).N := ⟨min t.val (12 * T.tot - 1), Nat.lt_of_le_of_lt (Nat.min_le_left _ _) t.isLt⟩

theorem lastLive_live (t : Fin (cfgA (F := F) T).N) (h : t.val < 12 * T.tot) : lastLive T t = t := Fin.ext (by
  show min t.val (12 * T.tot - 1) = t.val; omega)

theorem lastLive_idle (t : Fin (cfgA (F := F) T).N) (h : ¬ t.val < 12 * T.tot) :
    lastLive T t = lastLive T ⟨t.val - 1, Nat.lt_of_le_of_lt (Nat.sub_le _ _) t.isLt⟩ := Fin.ext (by
  show min t.val (12 * T.tot - 1) = min (t.val - 1) (12 * T.tot - 1); omega)

/-- What the body leaves in the output block at a live point. -/
def outAt (c : Dev nD) (t : Fin (cfgA (F := F) T).N) : S512x512.Idx → Elt F .f32 :=
  outv (iblk T m ρ c (0 : Fin 5) t) (iblk T m ρ c (1 : Fin 5) t) (iblk T m ρ c (2 : Fin 5) t) (iblk T m ρ c (3 : Fin 5) t)

/-- The invariant: the body's halves of the tables. -/
def Phi (c : Dev nD) : sProp 𝕄 :=
  iprop((tbM0_0.view.loc (c : Thread nD τ) ↦{fullShare.right} T.T0) ∗ (tbM0_1.view.loc (c : Thread nD τ) ↦{fullShare.right} T.T1))

/-- The proof data of the one pipeline on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAt T m ρ c (lastLive T t)
  Φ t := Phi T c
  q _ := fullShare
  owed _ := 0

theorem after0_0 (c : Dev nD) (t : Fin (cfgA (F := F) T).N) : (dats T m ρ 0 c).after (0 : Fin 5) t = iblk T m ρ c (0 : Fin 5) t := rfl
theorem after0_1 (c : Dev nD) (t : Fin (cfgA (F := F) T).N) : (dats T m ρ 0 c).after (1 : Fin 5) t = iblk T m ρ c (1 : Fin 5) t := rfl
theorem after0_2 (c : Dev nD) (t : Fin (cfgA (F := F) T).N) : (dats T m ρ 0 c).after (2 : Fin 5) t = iblk T m ρ c (2 : Fin 5) t := rfl
theorem after0_3 (c : Dev nD) (t : Fin (cfgA (F := F) T).N) : (dats T m ρ 0 c).after (3 : Fin 5) t = iblk T m ρ c (3 : Fin 5) t := rfl
theorem after0_4 (c : Dev nD) (t : Fin (cfgA (F := F) T).N) : (dats T m ρ 0 c).after (4 : Fin 5) t = outAt T m ρ c (lastLive T t) := rfl

/-- An input window holds its block, fetched there or not. -/
theorem before0_0 (c : Dev nD) (t : Fin (cfgA (F := F) T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output window holds, past the live blocks, what the last live point left (at a live point it holds nothing of use). -/
theorem before0_4 (c : Dev nD) (t : Fin (cfgA (F := F) T).N) (h : ¬ t.val < 12 * T.tot) (d) :
    (dats T m ρ 0 c).before (4 : Fin 5) t d = outAt T m ρ c (lastLive T t) := by
  rw [(dats T m ρ 0 c).before_out_traj (4 : Fin 5) rfl (fun _ _ => rfl) (fun t ht hi _ => ?_) t.val t rfl d]
  · rw [fresh4, if_neg (by simpa using h), after0_4, lastLive_idle T t h]
  · rw [idle4] at hi
    rw [after0_4, after0_4, lastLive_idle T t (by simpa using hi)]

/-- The body at point `t` on its staging memrefs, as the pipeline calls it. -/
abbrev bodyAt0 (t : Fin (cfgA (F := F) T).N) : Prog (TpuEff nD τ sig (Elt F) Λ₀ .tc) PUnit :=
  cc0_ffn2 (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body's obligation at point `t`. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  by_cases q0 : t.val < 12 * T.tot
  · have k0_h1 := (live_iff T t).2 q0
    rewrite [show (cfgA (F := F) T).idle (4 : Fin 5) ((cfgA (F := F) T).grid.coords t) = false from (idle4 T t).trans (by simpa using q0)]
    simp only [before0_0, before0_1, before0_2, before0_3, after0_0, after0_1, after0_2, after0_3, after0_4, lastLive_live T t q0]
    rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
    unfold Phi outAt
    iintro ⟨⟨HT0, HT1⟩, Ho, ⟨%d0, H0⟩, ⟨%d1, H1⟩, ⟨%d2, H2⟩, ⟨%d3, H3⟩, ⟨%d4, H4⟩⟩
    iapply (run_live c (crd T t) (ms0_0 T t) (hs0_0 T t) (ms0_1 T t) (hs0_1 T t) (ms0_2 T t) (hs0_2 T t) (ms0_3 T t) (hs0_3 T t) (ms0_4 T t) (hs0_4 T t) T.T0 T.T1 (iblk T m ρ c (0 : Fin 5) t) (iblk T m ρ c (1 : Fin 5) t) (iblk T m ρ c (2 : Fin 5) t) (iblk T m ρ c (3 : Fin 5) t) k0_h1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexact H4
  · have k0_h1 := mt (live_iff T t).1 q0
    rewrite [show (cfgA (F := F) T).idle (4 : Fin 5) ((cfgA (F := F) T).grid.coords t) = true from (idle4 T t).trans (by simpa using q0)]
    cases f4 : ((cfgA (F := F) T).win (4 : Fin 5)).flush t <;>
    · simp only [before0_0, before0_1, before0_2, before0_3, before0_4 T m ρ c t q0, after0_0, after0_1, after0_2, after0_3, after0_4]
      rewrite [show (dats T m ρ 0 c).Φ t.succ = Phi T c from rfl, show (dats T m ρ 0 c).Φ t.castSucc = Phi T c from rfl,
        show (dats T m ρ 0 c).owesAt () t.succ = (dats T m ρ 0 c).owesAt () t.castSucc from rfl]
      unfold Phi
      iintro ⟨⟨HT0, HT1⟩, Ho, ⟨%d0, H0⟩, ⟨%d1, H1⟩, ⟨%d2, H2⟩, ⟨%d3, H3⟩, ⟨%d4, H4⟩⟩
      iapply (run_idle c (crd T t) (ms0_0 T t) (hs0_0 T t) (ms0_1 T t) (hs0_1 T t) (ms0_2 T t) (hs0_2 T t) (ms0_3 T t) (hs0_3 T t) (ms0_4 T t) (hs0_4 T t) T.T0 T.T1 (iblk T m ρ c (0 : Fin 5) t) (iblk T m ρ c (1 : Fin 5) t) (iblk T m ρ c (2 : Fin 5) t) (iblk T m ρ c (3 : Fin 5) t) k0_h1 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (c : Dev nD) : BodyObligation (dats T m ρ 0 c) (defs₀ (F := F)) Variants.none () Set.univ := fun t => by
  rw [bigSep_W0]
  exact sound_body T m ρ c t

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

/-- at the last point the tables are let go. -/
theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T c from rfl]
  unfold Phi
  iintro ⟨-, -⟩
  isplitr; · iempintro
  iempintro

/-- Every array ends at what the pipeline computes, every table at what the pipeline ran at. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables `T`. -/
def Holds : Prop :=
  (∀ c : Dev nD, m ((c : Thread nD τ).loc main_arg0) = T.T0) ∧ (∀ c : Dev nD, m ((c : Thread nD τ).loc main_arg1) = T.T1)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory holding admissible tables every weakly fair execution terminates, each array ends at the computed
    contents and every semaphore counter at zero. -/
theorem run_main (hp : Holds T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame on admissible tables: the arguments end unchanged, the counters at zero. -/
theorem frame (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hz => ⟨fun c =>
    have h := hz.1
    ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩, hz.2⟩) (run_main T m ρ hp)

end Cert.Down.Hand

end
-- ==== Proof.DownIdeal.Sched.lean ====
/- The second feed-forward kernel (`Down`) on ANY tables its precondition admits: the tables, the blocks its index
   maps name, and which of its grid points store (`live` blocks) — closed forms of the grid position. -/
module

public import proofs.«01_k».proof.Proof.Gen.DownIdeal.Launch
public import Idealize.ShloMosaic.Lib.WordCmp
public import Idealize.ShloMosaic.Lib.Tactic.WordOmega
public import Idealize.ShloMosaic.Lib.Affine
public import Idealize.ShloMosaic.Lib.Pipeline.TableIdle
public import Idealize.ShloMosaic.Lib.Pipeline.FrameBody

@[expose] public section

set_option maxRecDepth 16384

noncomputable section

namespace Cert.DownIdeal.Hand

open Cert.DownIdeal Cert.DownIdeal.Gen
open Idealize.ShloMosaic
open Idealize.ShloMosaic.TcCoe Idealize.ShloMosaic.Tactic
open Idealize.ShloMosaic.Pipeline (Dat Cfg Window)

variable {F : FTy → Type} [FloatOps F]

/-- The two prefetched tables as memrefs. -/
abbrev tbM0_0 : Memref sig .tc .smem S10 .i32 := Memref.whole main_arg0
abbrev tbM0_1 : Memref sig .tc .smem S1 .i32 := Memref.whole main_arg1

/-- Contents of the tables the precondition admits: every expert index below 4, at least one live block. -/
structure Tab where
  /-- the expert of each block of rows -/
  T0 : S10.Idx → BitVec 32
  /-- the number of live blocks -/
  T1 : S1.Idx → BitVec 32
  h0 : ∀ x, (T0 x).toNat < 4
  h1 : ∀ x, 1 ≤ (T1 x).toNat
  h2 : ∀ x, (T1 x).toNat < 2 ^ 31

/-- The one index of the one-entry table. -/
abbrev z1 : S1.Idx := fun a => ⟨0, by fin_cases a; decide⟩

theorem idx1_eq (x : S1.Idx) : x = z1 := by
  funext a; fin_cases a; exact Fin.ext (by have := (x 0).isLt; simp at this; simpa using this)

/-- Entry `b` of the expert table. -/
abbrev ix10 (b : Fin 10) : S10.Idx := fun a => b.cast (by fin_cases a; rfl)

/-- The number of live blocks. -/
def Tab.tot (T : Tab) : ℕ := (T.T1 z1).toNat

theorem Tab.tot_pos (T : Tab) : 1 ≤ T.tot := T.h1 _
theorem Tab.tot_lt (T : Tab) : T.tot < 2 ^ 31 := T.h2 _

/-- The expert of block `b`. -/
def Tab.exp (T : Tab) (b : Fin 10) : ℕ := (T.T0 (ix10 b)).toNat

theorem Tab.exp_lt (T : Tab) (b : Fin 10) : T.exp b < 4 := T.h0 _

/-- The tables as the region's prefetched contents. -/
def pfN (T : Tab) : pre0.Contents (Elt F) := fun | ⟨0, _⟩ => T.T0 | ⟨1, _⟩ => T.T1 | ⟨_ + 2, h⟩ => absurd h (by simp)

theorem at1 (T : Tab) : (pfN (F := F) T).at 1 (Rect.unit (s := S1) ![0] S1.size inb_S1_S1_0) numel1_S1 = T.T1 z1 :=
  congrArg T.T1 (idx1_eq _)

theorem atD1 (T : Tab) : (pfN (F := F) T).atD 1 ![0] = T.T1 z1 := by
  rw [← at1 (F := F) T]; rfl

theorem min_word (n : ℕ) (hn : n < 10) (w : BitVec 32) (h1 : 1 ≤ w.toNat) (h2 : w.toNat < 2 ^ 31) :
    (Scalar.minsi (BitVec.ofNat 32 n) (Scalar.subi w 1#32)).toNat = min n (w.toNat - 1) := by
  show (if (BitVec.ofNat 32 n).slt (w - 1#32) then BitVec.ofNat 32 n else w - 1#32).toNat = _
  have e1 : (BitVec.ofNat 32 n).toNat = n := by rw [BitVec.toNat_ofNat]; omega
  have e2 : (w - 1#32).toNat = w.toNat - 1 := by rw [BitVec.toNat_sub]; simp; omega
  rw [BitVec.slt_eq_decide, BitVec.toInt_eq_toNat_of_lt (by rw [e1]; omega), BitVec.toInt_eq_toNat_of_lt (by rw [e2]; omega), e1, e2]
  by_cases h : n < w.toNat - 1
  · rw [if_pos (by simpa using h), e1]; omega
  · rw [if_neg (by simpa using h), e2]; omega

/-- The body's test at a point: the block is live. -/
theorem cond_iff (i : grid0.Coords) (w : BitVec 32) (h2 : w.toNat < 2 ^ 31) : k0_cond1 i w = 1#1 ↔ (i 0).val < w.toNat := by
  have hn : (i 0).val < 10 := (i 0).isLt
  unfold k0_cond1
  generalize (i 0).val = n at hn ⊢
  word_omega

theorem sel_word (n m : ℕ) (hn : n < 10) (hm : m < 12) (w : BitVec 32) (h2 : w.toNat < 2 ^ 31) :
    (Scalar.select (Scalar.cmpi .slt (BitVec.ofNat 32 n) w) (BitVec.ofNat 32 m) 11#32 : BitVec 32).toNat = if n < w.toNat then m else 11 := by
  word_omega

theorem at0 (T : Tab) (i : grid0.Coords) :
    (pfN (F := F) T).at 0 (Rect.unit (s := S10) ![(Scalar.indexCast (BitVec.ofNat 32 (i 0).val) : Index).toNat] S1.size (k0_off1_inb i)) numel1_S1
      = T.T0 (ix10 (i 0)) := by
  refine congrArg T.T0 ?_
  funext a; fin_cases a
  apply Fin.ext
  have hn : (i 0).val < 10 := (i 0).isLt
  show (BitVec.ofNat 32 (i 0).val).toNat + 1 * 0 = (i 0).val
  rw [BitVec.toNat_ofNat]; omega

/-- The row-block windows' index map: block `min b (tot - 1)`. -/
theorem tr0 (T : Tab) (i : grid0.Coords) : cc0_transform_0 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
theorem tr1 (T : Tab) (i : grid0.Coords) : cc0_transform_1 inb_S1_S1_0 numel1_S1 (pfN (F := F) T) i = ![min (i 0).val (T.tot - 1), 0] := by
  show ![(Scalar.minsi (BitVec.ofNat 32 (i 0).val) (Scalar.subi ((pfN (F := F) T).at 1 (Rect.unit (s := S1) ![0] S1.size inb_S1_S1_0) numel1_S1) 1#32)).toNat, 0] = _
  rw [at1, min_word _ (i 0).isLt _ (T.h1 _) (T.h2 _)]; rfl
/-- The weights' index map: the block's expert, and the column block (the last one past the live blocks). -/
theorem tr2 (T : Tab) (i : grid0.Coords) : cc0_transform_2 k0_off1_inb numel1_S1 inb_S1_S1_0 (pfN (F := F) T) i
    = ![T.exp (i 0), 0, if (i 0).val < T.tot then (i 1).val else 11] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, at0, sel_word _ _ (i 0).isLt (i 1).isLt _ (T.h2 _)]; rfl
theorem tr3 (T : Tab) (i : grid0.Coords) : cc0_transform_3 k0_off1_inb numel1_S1 inb_S1_S1_0 (pfN (F := F) T) i
    = ![T.exp (i 0), 0, if (i 0).val < T.tot then (i 1).val else 11] := by
  show ![BitVec.toNat ((pfN (F := F) T).at 0 (Rect.unit (s := S10) ![(Scalar.indexCast (BitVec.ofNat 32 (i 0).val) : Index).toNat] S1.size (k0_off1_inb i)) numel1_S1), 0, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, at0, sel_word _ _ (i 0).isLt (i 1).isLt _ (T.h2 _)]; rfl
/-- The output's index map. -/
theorem tr4 (T : Tab) (i : grid0.Coords) : cc0_transform_4 inb_S1_S1_0 numel1_S1 (pfN (F := F) T) i
    = ![min (i 0).val (T.tot - 1), if (i 0).val < T.tot then (i 1).val else 11] := by
  show ![(Scalar.minsi (BitVec.ofNat 32 (i 0).val) (Scalar.subi ((pfN (F := F) T).at 1 (Rect.unit (s := S1) ![0] S1.size inb_S1_S1_0) numel1_S1) 1#32)).toNat, (Scalar.select (Scalar.cmpi .slt (BitVec.ofNat 32 (i 0).val) ((pfN (F := F) T).at 1 (Rect.unit (s := S1) ![0] S1.size inb_S1_S1_0) numel1_S1)) (BitVec.ofNat 32 (i 1).val) 11#32 : BitVec 32).toNat] = _
  rw [at1, min_word _ (i 0).isLt _ (T.h1 _) (T.h2 _), sel_word _ _ (i 0).isLt (i 1).isLt _ (T.h2 _)]; rfl

theorem hN : grid0.N = 120 := N_0

/-- A point's coordinates: 12 column blocks per block of rows. -/
theorem crd0 : ∀ t : Fin grid0.N, (grid0.coords t 0).val = t.val / 12 := by decide +kernel
theorem crd1 : ∀ t : Fin grid0.N, (grid0.coords t 1).val = t.val % 12 := by decide +kernel

/-- The blocks the index maps name at admissible tables lie in their arrays. -/
theorem ok_pfN (T : Tab) : ok0 (F := F) (pfN T) := by
  have ht := T.tot_pos
  refine ⟨fun i => ?_, fun i => ?_, fun i => ?_, fun i => ?_, fun i => ?_⟩ <;>
    (have h0 : (i 0).val < 10 := (i 0).isLt
     have h1 : (i 1).val < 12 := (i 1).isLt
     have he := T.exp_lt (i 0))
  · refine ⟨?_, .inr (Affine.block_words_dvd (s := S5120x9216) (p := EltTy.packing .bf16) (by decide) (by decide))⟩
    rw [tr0]; intro a; fin_cases a <;> simp <;> omega
  · refine ⟨?_, .inl rfl⟩
    rw [tr1]; intro a; fin_cases a <;> simp <;> omega
  · refine ⟨?_, .inr (Affine.block_words_dvd (s := S4x4608x6144) (p := EltTy.packing .i8) (by decide) (by decide))⟩
    rw [tr2]; intro a; fin_cases a <;> simp <;> [omega; split <;> omega]
  · refine ⟨?_, .inl rfl⟩
    rw [tr3]; intro a; fin_cases a <;> simp <;> [omega; split <;> omega]
  · refine ⟨?_, .inl rfl⟩
    rw [tr4]; intro a; fin_cases a <;> simp <;> [omega; split <;> omega]

/-- The tables as admissible contents, and the pipeline at them. -/
def adm (T : Tab) : (pcfg0 (F := F)).Adm := ⟨pfN T, ok_pfN T⟩
abbrev cfgA (T : Tab) : Pipeline.Cfg sig Λ₀ := cfg0 (F := F) (adm T)
abbrev pcs (T : Tab) : Fin 1 → Pipeline.Cfg sig Λ₀ := Pipeline.pin (pcfgs (F := F)) fun _ => adm T

/-- Point `t`'s coordinates. -/
abbrev crd (T : Tab) (t : Fin (cfgA (F := F) T).N) : (cfgA (F := F) T).grid.Coords := (cfgA (F := F) T).grid.coords t

theorem live_iff (T : Tab) (t : Fin (cfgA (F := F) T).N) : k0_cond1 (crd T t) (T.T1 z1) = 1#1 ↔ t.val < 12 * T.tot := by
  rw [cond_iff _ _ (T.h2 _), crd0]
  unfold Tab.tot; omega

/-- The output window is idle exactly past the live blocks. -/
theorem idle4 (T : Tab) (t : Fin (cfgA (F := F) T).N) : (cfgA (F := F) T).idle (4 : Fin 5) ((cfgA (F := F) T).grid.coords t) = !decide (t.val < 12 * T.tot) := by
  show (!(k0_cond1 (crd T t) ((pfN (F := F) T).atD 1 ![0]) == 1#1)) = _
  rw [atD1]
  by_cases h : t.val < 12 * T.tot
  · rw [(live_iff T t).2 h]; simp [h]
  · rw [beq_eq_false_iff_ne.2 fun h' => h ((live_iff T t).1 h')]; simp [h]

/-- The output's block at a point. -/
theorem index4 (T : Tab) (t : Fin (cfgA (F := F) T).N) : ((cfgA (F := F) T).win (4 : Fin 5)).index t
    = ![min (t.val / 12) (T.tot - 1), if t.val / 12 < T.tot then t.val % 12 else 11] := by
  show cc0_transform_4 inb_S1_S1_0 numel1_S1 (pfN (F := F) T) (grid0.coords t) = _
  rw [tr4, crd0, crd1]

/-- The output is written back after each live point but the last, and after the last point of the grid. -/
theorem flush4 (T : Tab) (t : Fin (cfgA (F := F) T).N) : ((cfgA (F := F) T).win (4 : Fin 5)).flush t = decide (t.val + 1 = 120 ∨ t.val + 1 < 12 * T.tot) := by
  have hN' : (cfgA (F := F) T).N = 120 := N_0
  have ht := T.tot_pos
  have hl : t.val < 120 := t.isLt
  unfold Window.flush
  rw [show ((cfgA (F := F) T).win (4 : Fin 5)).isOut = true from rfl, Bool.true_and, Bool.eq_iff_iff]
  simp only [Bool.or_eq_true, decide_eq_true_eq]
  show (t.val + 1 = 120 ∨ (∃ h : t.val + 1 < 120, _)) ↔ _
  by_cases e : t.val + 1 = 120
  · simp only [e, true_or]
  simp only [e, false_or]
  constructor
  · rintro ⟨h, hne⟩
    by_contra hge
    refine hne ?_
    rw [index4, index4]
    show ![min ((t.val + 1) / 12) (T.tot - 1), if (t.val + 1) / 12 < T.tot then (t.val + 1) % 12 else 11] = _
    congr 1
    · omega
    · congr 1
      split <;> split <;> omega
  · intro h
    have h' : t.val + 1 < 120 := by omega
    refine ⟨h', fun he => ?_⟩
    rw [index4, index4] at he
    have e0 := congrFun he 0
    have e1 := congrFun he 1
    simp only [Matrix.cons_val_zero, Matrix.cons_val_one] at e0 e1
    rw [if_pos (by omega), if_pos (by omega)] at e1
    omega

/-- Whether the output's buffer holds nothing stored since its last write-back. -/
theorem fresh4 (T : Tab) (t : Fin (cfgA (F := F) T).N) : (cfgA (F := F) T).fresh (4 : Fin 5) t.val = decide (t.val < 12 * T.tot) := by
  have ht := T.tot_pos
  have hl : t.val < 120 := t.isLt
  refine ((cfgA (F := F) T).fresh_tab (4 : Fin 5) (fun n => decide (n < 12 * T.tot ∨ n = 120)) (by simp; omega) (fun u => ?_) t.val (Nat.le_of_lt t.isLt)).trans ?_
  · have hu : u.val < 120 := u.isLt
    rw [flush4, idle4, Bool.eq_iff_iff]
    simp
    omega
  · rw [Bool.eq_iff_iff]; simp; omega

end Cert.DownIdeal.Hand

end
-- ==== Proof.DownIdeal.Run.lean ====
/- One call of the second feed-forward kernel's body, on whole staging buffers and any tables: at a live block it
   stores the payload over its output block, past the live blocks it leaves its output block as it found it. -/
module

public import proofs.«01_k».proof.Proof.Gen.DownIdeal.Skeleton
public import proofs.«01_k».proof.Proof.DownIdeal.Sched
public import Idealize.ShloMosaic.Lib.VecWindow
public import Idealize.ShloMosaic.Lib.Pipeline.Kit
public import Idealize.ShloMosaic.Lib.Writes
public import Idealize.ShloMosaic.Lib.Ring
public import Idealize.ShloMosaic.Lib.Exec
public import Idealize.ShloMosaic.Lib.Tactic

@[expose] public section

set_option maxRecDepth 16384
set_option Elab.async false

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- What the body computes of its blocks at a live point. -/
def outv (x0 : S512x9216.Idx → Elt F .bf16) (x1 : S512x128.Idx → Elt F .f32) (x2 : S1x4608x512.Idx → Elt F .i8) (x3 : S1x1x512.Idx → Elt F .f32) :
    S512x512.Idx → Elt F .f32 :=
  k0_pay1 x0 x2 (VecWindow.window x1 ![0, 0] S512x1.size inb_S512x128_S512x1_0_0) x3

theorem first1 {h : 0 < S1.numel} : Shape.Idx.first h = z1 := idx1_eq _

set_option maxHeartbeats 8000000 in
/-- At a live block: the output block ends holding `outv` of the input blocks. -/
theorem run_live (c : Dev nD) (i : grid0.Coords) (arg4 : Memref sig .tc .vmem S512x9216 .bf16) (harg4 : arg4.IsWhole) (arg5 : Memref sig .tc .vmem S512x128 .f32) (harg5 : arg5.IsWhole) (arg6 : Memref sig .tc .vmem S1x4608x512 .i8) (harg6 : arg6.IsWhole) (arg7 : Memref sig .tc .vmem S1x1x512 .f32) (harg7 : arg7.IsWhole) (arg8 : Memref sig .tc .vmem S512x512 .f32) (harg8 : arg8.IsWhole) (T0 : S10.Idx → BitVec 32) (T1 : S1.Idx → BitVec 32)
    (x0 : S512x9216.Idx → Elt F .bf16) (x1 : S512x128.Idx → Elt F .f32) (x2 : S1x4608x512.Idx → Elt F .i8) (x3 : S1x1x512.Idx → Elt F .f32)
    (hlive : k0_cond1 i (T1 z1) = 1#1) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ (∃ d, owns (c : Thread nD τ) arg8 fullShare d)
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare (outv x0 x1 x2 x3)) -∗ K ⟨⟩))
          ⊢ wp frame (wpE (defs₀ (F := F)) Variants.none c none) Set.univ (cc0_ffn2 i tbM0_0 (Memref.isWhole_whole _) tbM0_1 (Memref.isWhole_whole _) arg4 harg4 arg5 harg5 arg6 harg6 arg7 harg7 arg8 harg8) K := by
  have k0_h1 : k0_cond1 i (View.readAt (Elt F) (tbM0_1).view (Rect.unit (s := S1) ![0] S1.size inb_S1_S1_0).toLoadRect T1 (Shape.Idx.first (numel1_S1.symm ▸ Nat.one_pos))) = 1#1 := by
    rw [← hlive]; exact congrArg (fun x => k0_cond1 i (T1 x)) (idx1_eq _)
  unfold owns
  rw [cc0_ffn2_eq_skeleton]; unfold cc0_ffn2_skel
  iintro ⟨H0, H1, H2, H3, HT0, HT1, ⟨%d4, %f4, -, HO4⟩, Hk⟩
  have hT0 : tbM0_0.IsWhole := Memref.isWhole_whole _
  have hT1 : tbM0_1.IsWhole := Memref.isWhole_whole _
  sl_exec! (disch := first | (guard_target = k0_cond1 _ _ = _; exact k0_h1))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _
  isplitr; swap
  · iexact HO4
  · ipureintro
    refine (View.read_writes_full _ _ inb_S512x512_S512x512_0_0 _ []).trans ?_
    show k0_pay1 (View.readAt (Elt F) arg4.view (Rect.unit (s := S512x9216) ![0, 0] S512x9216.size inb_S512x9216_S512x9216_0_0).toLoadRect (arg4.view.rep x0))
      (View.readAt (Elt F) arg6.view (Rect.unit (s := S1x4608x512) ![0, 0, 0] S1x4608x512.size inb_S1x4608x512_S1x4608x512_0_0_0).toLoadRect (arg6.view.rep x2))
      (View.readAt (Elt F) arg5.view (Rect.unit (s := S512x128) ![0, 0] S512x1.size inb_S512x128_S512x1_0_0).toLoadRect (arg5.view.rep x1))
      (View.readAt (Elt F) arg7.view (Rect.unit (s := S1x1x512) ![0, 0, 0] S1x1x512.size inb_S1x1x512_S1x1x512_0_0_0).toLoadRect (arg7.view.rep x3)) = _
    rw [View.readAt_rep_full, View.readAt_rep_full, View.readAt_rep_full, View.readAt_rep_unit _ _ _ rfl]
    rfl

set_option maxHeartbeats 8000000 in
/-- Past the live blocks: the output block is as it was. -/
theorem run_idle (c : Dev nD) (i : grid0.Coords) (arg4 : Memref sig .tc .vmem S512x9216 .bf16) (harg4 : arg4.IsWhole) (arg5 : Memref sig .tc .vmem S512x128 .f32) (harg5 : arg5.IsWhole) (arg6 : Memref sig .tc .vmem S1x4608x512 .i8) (harg6 : arg6.IsWhole) (arg7 : Memref sig .tc .vmem S1x1x512 .f32) (harg7 : arg7.IsWhole) (arg8 : Memref sig .tc .vmem S512x512 .f32) (harg8 : arg8.IsWhole) (T0 : S10.Idx → BitVec 32) (T1 : S1.Idx → BitVec 32)
    (x0 : S512x9216.Idx → Elt F .bf16) (x1 : S512x128.Idx → Elt F .f32) (x2 : S1x4608x512.Idx → Elt F .i8) (x3 : S1x1x512.Idx → Elt F .f32)
    (hidle : ¬ k0_cond1 i (T1 z1) = 1#1) (y4 : S512x512.Idx → Elt F .f32) (K : PUnit → sProp 𝕄) :
        iprop((arg4.view.loc (c : Thread nD τ) ↦[arg4.view.set]{fullShare} arg4.view.rep x0)
          ∗ (arg5.view.loc (c : Thread nD τ) ↦[arg5.view.set]{fullShare} arg5.view.rep x1)
          ∗ (arg6.view.loc (c : Thread nD τ) ↦[arg6.view.set]{fullShare} arg6.view.rep x2)
          ∗ (arg7.view.loc (c : Thread nD τ) ↦[arg7.view.set]{fullShare} arg7.view.rep x3)
          ∗ (tbM0_0.view.loc (c : Thread nD τ) ↦{fullShare.right} T0)
          ∗ (tbM0_1.view.loc (c : Thread nD τ) ↦{fullShare.right} T1)
          ∗ owns (c : Thread nD τ) arg8 fullShare y4
          ∗ (iprop((arg4.view.loc (c : Thread nD τ) ↦[arg4.view.set]{fullShare} arg4.view.rep x0)
              ∗ (arg5.view.loc (c : Thread nD τ) ↦[arg5.view.set]{fullShare} arg5.view.rep x1)
              ∗ (arg6.view.loc (c : Thread nD τ) ↦[arg6.view.set]{fullShare} arg6.view.rep x2)
              ∗ (arg7.view.loc (c : Thread nD τ) ↦[arg7.view.set]{fullShare} arg7.view.rep x3)
              ∗ (tbM0_0.view.loc (c : Thread nD τ) ↦{fullShare.right} T0)
              ∗ (tbM0_1.view.loc (c : Thread nD τ) ↦{fullShare.right} T1)
              ∗ owns (c : Thread nD τ) arg8 fullShare y4) -∗ K ⟨⟩))
          ⊢ wp frame (wpE (defs₀ (F := F)) Variants.none c none) Set.univ (cc0_ffn2 i tbM0_0 (Memref.isWhole_whole _) tbM0_1 (Memref.isWhole_whole _) arg4 harg4 arg5 harg5 arg6 harg6 arg7 harg7 arg8 harg8) K := by
  have k0_h1 : ¬ k0_cond1 i (View.readAt (Elt F) (tbM0_1).view (Rect.unit (s := S1) ![0] S1.size inb_S1_S1_0).toLoadRect T1 (Shape.Idx.first (numel1_S1.symm ▸ Nat.one_pos))) = 1#1 := by
    intro h; refine hidle (Eq.trans ?_ h); exact congrArg (fun x => k0_cond1 i (T1 x)) (idx1_eq _).symm
  unfold owns
  rw [cc0_ffn2_eq_skeleton]; unfold cc0_ffn2_skel
  iintro ⟨H0, H1, H2, H3, HT0, HT1, ⟨%f4, %hf4, HO4⟩, Hk⟩
  obtain rfl := harg8.eq_unread hf4
  have hT0 : tbM0_0.IsWhole := Memref.isWhole_whole _
  have hT1 : tbM0_1.IsWhole := Memref.isWhole_whole _
  sl_exec! (disch := first | (guard_target = ¬(k0_cond1 _ _ = _); exact k0_h1))
  sl_step
  iapply Hk
  isplitl [H0]; · iexact H0
  isplitl [H1]; · iexact H1
  isplitl [H2]; · iexact H2
  isplitl [H3]; · iexact H3
  isplitl [HT0]; · iexact HT0
  isplitl [HT1]; · iexact HT1
  iexists _; isplitr; · ipureintro; exact harg8.read_unread _
  iexact HO4

end Cert.DownIdeal.Hand

end
-- ==== Proof.DownIdeal.Launch.lean ====
/- The second feed-forward kernel's launch on any admissible tables: what every staging buffer holds point by point,
   the body's obligation, and the run — every array ends at what the pipeline's write-backs make of it, and the
   arguments end unchanged. -/
module

public import proofs.«01_k».proof.Proof.DownIdeal.Run
public import Idealize.ShloMosaic.Lib.Pipeline.Quiescent
public import Idealize.ShloMosaic.Lib.Claim
public import Idealize.ShloMosaic.Adequacy
public import Idealize.ShloMosaic.Init

@[expose] public section

set_option maxRecDepth 16384
set_option Elab.async false

noncomputable section

namespace Cert.DownIdeal.Hand

open Cert.DownIdeal Cert.DownIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The proof's resource algebra: the rounds library's, for the pipeline's staging cells, embedded whole. -/
abbrev EP : Emb (UR sig nD τ) (MT nD τ sig Unit (Elt F) ℕ (UR sig nD τ) ℕ) := emb₁

variable (T : Tab)
variable (m : (ℓ : Loc nD τ sig) → Buf (Elt F) ℓ) (ρ : Dev nD → PrngReg)

/-- Each window's current staging memref at point `t`, and its wholeness. -/
abbrev ms0_0 (t : Fin (cfgA (F := F) T).N) : Memref sig .tc .vmem S512x9216 .bf16 := spec0_0.stage ((cfgA (F := F) T).slots t (0 : Fin 5))
abbrev hs0_0 (t : Fin (cfgA (F := F) T).N) : (ms0_0 T t).IsWhole := hstage0_0 (((cfgA (F := F) T).slots t (0 : Fin 5)).cast nbuf0_0)
abbrev ms0_1 (t : Fin (cfgA (F := F) T).N) : Memref sig .tc .vmem S512x128 .f32 := spec0_1.stage ((cfgA (F := F) T).slots t (1 : Fin 5))
abbrev hs0_1 (t : Fin (cfgA (F := F) T).N) : (ms0_1 T t).IsWhole := hstage0_1 (((cfgA (F := F) T).slots t (1 : Fin 5)).cast nbuf0_1)
abbrev ms0_2 (t : Fin (cfgA (F := F) T).N) : Memref sig .tc .vmem S1x4608x512 .i8 := spec0_2.stage ((cfgA (F := F) T).slots t (2 : Fin 5))
abbrev hs0_2 (t : Fin (cfgA (F := F) T).N) : (ms0_2 T t).IsWhole := hstage0_2 (((cfgA (F := F) T).slots t (2 : Fin 5)).cast nbuf0_2)
abbrev ms0_3 (t : Fin (cfgA (F := F) T).N) : Memref sig .tc .vmem S1x1x512 .f32 := spec0_3.stage ((cfgA (F := F) T).slots t (3 : Fin 5))
abbrev hs0_3 (t : Fin (cfgA (F := F) T).N) : (ms0_3 T t).IsWhole := hstage0_3 (((cfgA (F := F) T).slots t (3 : Fin 5)).cast nbuf0_3)
abbrev ms0_4 (t : Fin (cfgA (F := F) T).N) : Memref sig .tc .vmem S512x512 .f32 := spec0_4.stage ((cfgA (F := F) T).slots t (4 : Fin 5))
abbrev hs0_4 (t : Fin (cfgA (F := F) T).N) : (ms0_4 T t).IsWhole := hstage0_4 (((cfgA (F := F) T).slots t (4 : Fin 5)).cast nbuf0_4)

/-- Window `w`'s block at point `t`, read off its array at launch. -/
def iblk (c : Dev nD) (w : Fin (cfgA (F := F) T).W) (t : Fin (cfgA (F := F) T).N) : (((cfgA (F := F) T).win w).xblock (crd T t)).Idx → Elt F ((cfgA (F := F) T).win w).elt :=
  (((cfgA (F := F) T).win w).blk t).view.read (Elt F) ((s₀ m ρ).mem (((cfgA (F := F) T).win w).arr.view.loc (c : Thread nD τ)))

/-- The last live point not after `t`: past the live blocks nothing is stored. -/
def lastLive (t : Fin (cfgA (F := F) T).N) : Fin (cfgA (F := F) T).N := ⟨min t.val (12 * T.tot - 1), Nat.lt_of_le_of_lt (Nat.min_le_left _ _) t.isLt⟩

theorem lastLive_live (t : Fin (cfgA (F := F) T).N) (h : t.val < 12 * T.tot) : lastLive T t = t := Fin.ext (by
  show min t.val (12 * T.tot - 1) = t.val; omega)

theorem lastLive_idle (t : Fin (cfgA (F := F) T).N) (h : ¬ t.val < 12 * T.tot) :
    lastLive T t = lastLive T ⟨t.val - 1, Nat.lt_of_le_of_lt (Nat.sub_le _ _) t.isLt⟩ := Fin.ext (by
  show min t.val (12 * T.tot - 1) = min (t.val - 1) (12 * T.tot - 1); omega)

/-- What the body leaves in the output block at a live point. -/
def outAt (c : Dev nD) (t : Fin (cfgA (F := F) T).N) : S512x512.Idx → Elt F .f32 :=
  outv (iblk T m ρ c (0 : Fin 5) t) (iblk T m ρ c (1 : Fin 5) t) (iblk T m ρ c (2 : Fin 5) t) (iblk T m ρ c (3 : Fin 5) t)

/-- The invariant: the body's halves of the tables. -/
def Phi (c : Dev nD) : sProp 𝕄 :=
  iprop((tbM0_0.view.loc (c : Thread nD τ) ↦{fullShare.right} T.T0) ∗ (tbM0_1.view.loc (c : Thread nD τ) ↦{fullShare.right} T.T1))

/-- The proof data of the one pipeline on core `c`. -/
def dats (_ : Fin 1) (c : Dev nD) : Dat τ (Elt F) Unit ℕ (UR sig nD τ) ℕ (cfgA (F := F) T) c where
  A w := (s₀ m ρ).mem (((cfgA (F := F) T).win w).arr.view.loc (c : Thread nD τ))
  after w t := match w with
    | ⟨0, _⟩ => iblk T m ρ c (0 : Fin 5) t
    | ⟨1, _⟩ => iblk T m ρ c (1 : Fin 5) t
    | ⟨2, _⟩ => iblk T m ρ c (2 : Fin 5) t
    | ⟨3, _⟩ => iblk T m ρ c (3 : Fin 5) t
    | ⟨4, _⟩ => outAt T m ρ c (lastLive T t)
  Φ t := Phi T c
  q _ := fullShare
  owed _ := 0

theorem after0_0 (c : Dev nD) (t : Fin (cfgA (F := F) T).N) : (dats T m ρ 0 c).after (0 : Fin 5) t = iblk T m ρ c (0 : Fin 5) t := rfl
theorem after0_1 (c : Dev nD) (t : Fin (cfgA (F := F) T).N) : (dats T m ρ 0 c).after (1 : Fin 5) t = iblk T m ρ c (1 : Fin 5) t := rfl
theorem after0_2 (c : Dev nD) (t : Fin (cfgA (F := F) T).N) : (dats T m ρ 0 c).after (2 : Fin 5) t = iblk T m ρ c (2 : Fin 5) t := rfl
theorem after0_3 (c : Dev nD) (t : Fin (cfgA (F := F) T).N) : (dats T m ρ 0 c).after (3 : Fin 5) t = iblk T m ρ c (3 : Fin 5) t := rfl
theorem after0_4 (c : Dev nD) (t : Fin (cfgA (F := F) T).N) : (dats T m ρ 0 c).after (4 : Fin 5) t = outAt T m ρ c (lastLive T t) := rfl

/-- An input window holds its block, fetched there or not. -/
theorem before0_0 (c : Dev nD) (t : Fin (cfgA (F := F) T).N) (d) : (dats T m ρ 0 c).before (0 : Fin 5) t d = iblk T m ρ c (0 : Fin 5) t :=
  ((dats T m ρ 0 c).before_in_eq_fetched (0 : Fin 5) rfl (fun _ => rfl) (fun _ _ _ => rfl) (fun t => by rw [after0_0]; unfold Dat.blockOf iblk; rfl) t d).trans
    (by unfold Dat.fetched Dat.blockOf iblk; rfl)
theorem before0_1 (c : Dev nD) (t : Fin (cfgA (F := F) T).N) (d) : (dats T m ρ 0 c).before (1 : Fin 5) t d = iblk T m ρ c (1 : Fin 5) t :=
  ((dats T m ρ 0 c).before_in_eq_fetched (1 : Fin 5) rfl (fun _ => rfl) (fun _ _ _ => rfl) (fun t => by rw [after0_1]; unfold Dat.blockOf iblk; rfl) t d).trans
    (by unfold Dat.fetched Dat.blockOf iblk; rfl)
theorem before0_2 (c : Dev nD) (t : Fin (cfgA (F := F) T).N) (d) : (dats T m ρ 0 c).before (2 : Fin 5) t d = iblk T m ρ c (2 : Fin 5) t :=
  ((dats T m ρ 0 c).before_in_eq_fetched (2 : Fin 5) rfl (fun _ => rfl) (fun _ _ _ => rfl) (fun t => by rw [after0_2]; unfold Dat.blockOf iblk; rfl) t d).trans
    (by unfold Dat.fetched Dat.blockOf iblk; rfl)
theorem before0_3 (c : Dev nD) (t : Fin (cfgA (F := F) T).N) (d) : (dats T m ρ 0 c).before (3 : Fin 5) t d = iblk T m ρ c (3 : Fin 5) t :=
  ((dats T m ρ 0 c).before_in_eq_fetched (3 : Fin 5) rfl (fun _ => rfl) (fun _ _ _ => rfl) (fun t => by rw [after0_3]; unfold Dat.blockOf iblk; rfl) t d).trans
    (by unfold Dat.fetched Dat.blockOf iblk; rfl)

/-- The output window holds, past the live blocks, what the last live point left (at a live point it holds nothing of use). -/
theorem before0_4 (c : Dev nD) (t : Fin (cfgA (F := F) T).N) (h : ¬ t.val < 12 * T.tot) (d) :
    (dats T m ρ 0 c).before (4 : Fin 5) t d = outAt T m ρ c (lastLive T t) := by
  rw [(dats T m ρ 0 c).before_out_traj (4 : Fin 5) rfl (fun _ _ => rfl) (fun t ht hi _ => ?_) t.val t rfl d]
  · rw [fresh4, if_neg (by simpa using h), after0_4, lastLive_idle T t h]
  · rw [idle4] at hi
    rw [after0_4, after0_4, lastLive_idle T t (by simpa using hi)]

/-- The body at point `t` on its staging memrefs, as the pipeline calls it. -/
abbrev bodyAt0 (t : Fin (cfgA (F := F) T).N) : Prog (TpuEff nD τ sig (Elt F) Λ₀ .tc) PUnit :=
  cc0_ffn2 (crd T t) (Memref.whole main_arg0) (Memref.isWhole_whole _) (Memref.whole main_arg1) (Memref.isWhole_whole _) (ms0_0 T t) (hs0_0 T t) (ms0_1 T t) (hs0_1 T t) (ms0_2 T t) (hs0_2 T t) (ms0_3 T t) (hs0_3 T t) (ms0_4 T t) (hs0_4 T t)

set_option maxHeartbeats 4000000 in
/-- The body's obligation at point `t`. -/
theorem sound_body (c : Dev nD) (t : Fin (cfgA (F := F) T).N) :
    iprop((dats T m ρ 0 c).Φ t.castSucc ∗ (dats T m ρ 0 c).owesAt () t.castSucc
        ∗ (∃ d, owns (c : Thread nD τ) (ms0_0 T t) fullShare ((dats T m ρ 0 c).before (0 : Fin 5) t d))
        ∗ (∃ d, owns (c : Thread nD τ) (ms0_1 T t) fullShare ((dats T m ρ 0 c).before (1 : Fin 5) t d))
        ∗ (∃ d, owns (c : Thread nD τ) (ms0_2 T t) fullShare ((dats T m ρ 0 c).before (2 : Fin 5) t d))
        ∗ (∃ d, owns (c : Thread nD τ) (ms0_3 T t) fullShare ((dats T m ρ 0 c).before (3 : Fin 5) t d))
        ∗ (∃ d, owns (c : Thread nD τ) (ms0_4 T t) fullShare ((dats T m ρ 0 c).before (4 : Fin 5) t d)))
      ⊢ wp frame (wpE (defs₀ (F := F)) Variants.none c none) Set.univ (bodyAt0 T t) fun _ =>
          iprop((dats T m ρ 0 c).Φ t.succ ∗ (dats T m ρ 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T m ρ 0 c).before w t d))
                  | true => owns (c : Thread nD τ) (((cfgA (F := F) T).win w).stage ((cfgA (F := F) T).slots t w)) fullShare ((dats T m ρ 0 c).after w t)
                | false => owns (c : Thread nD τ) (((cfgA (F := F) T).win w).stage ((cfgA (F := F) T).slots t w)) fullShare ((dats T m ρ 0 c).after w t)) := by
  rw [bigSep_W0]
  by_cases q0 : t.val < 12 * T.tot
  · have k0_h1 := (live_iff T t).2 q0
    rewrite [show (cfgA (F := F) T).idle (4 : Fin 5) ((cfgA (F := F) T).grid.coords t) = false from (idle4 T t).trans (by simpa using q0)]
    simp only [before0_0, before0_1, before0_2, before0_3, after0_0, after0_1, after0_2, after0_3, after0_4, lastLive_live T t q0]
    rewrite [show (dats T m ρ 0 c).Φ t.succ = Phi T c from rfl, show (dats T m ρ 0 c).Φ t.castSucc = Phi T c from rfl,
      show (dats T m ρ 0 c).owesAt () t.succ = (dats T m ρ 0 c).owesAt () t.castSucc from rfl]
    unfold Phi outAt
    iintro ⟨⟨HT0, HT1⟩, Ho, ⟨%d0, H0⟩, ⟨%d1, H1⟩, ⟨%d2, H2⟩, ⟨%d3, H3⟩, ⟨%d4, H4⟩⟩
    iapply (run_live c (crd T t) (ms0_0 T t) (hs0_0 T t) (ms0_1 T t) (hs0_1 T t) (ms0_2 T t) (hs0_2 T t) (ms0_3 T t) (hs0_3 T t) (ms0_4 T t) (hs0_4 T t) T.T0 T.T1 (iblk T m ρ c (0 : Fin 5) t) (iblk T m ρ c (1 : Fin 5) t) (iblk T m ρ c (2 : Fin 5) t) (iblk T m ρ c (3 : Fin 5) t) k0_h1 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, H4⟩
    isplitl [HT0 HT1]
    · isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    iexact H4
  · have k0_h1 := mt (live_iff T t).1 q0
    rewrite [show (cfgA (F := F) T).idle (4 : Fin 5) ((cfgA (F := F) T).grid.coords t) = true from (idle4 T t).trans (by simpa using q0)]
    cases f4 : ((cfgA (F := F) T).win (4 : Fin 5)).flush t <;>
    · simp only [before0_0, before0_1, before0_2, before0_3, before0_4 T m ρ c t q0, after0_0, after0_1, after0_2, after0_3, after0_4]
      rewrite [show (dats T m ρ 0 c).Φ t.succ = Phi T c from rfl, show (dats T m ρ 0 c).Φ t.castSucc = Phi T c from rfl,
        show (dats T m ρ 0 c).owesAt () t.succ = (dats T m ρ 0 c).owesAt () t.castSucc from rfl]
      unfold Phi
      iintro ⟨⟨HT0, HT1⟩, Ho, ⟨%d0, H0⟩, ⟨%d1, H1⟩, ⟨%d2, H2⟩, ⟨%d3, H3⟩, ⟨%d4, H4⟩⟩
      iapply (run_idle c (crd T t) (ms0_0 T t) (hs0_0 T t) (ms0_1 T t) (hs0_1 T t) (ms0_2 T t) (hs0_2 T t) (ms0_3 T t) (hs0_3 T t) (ms0_4 T t) (hs0_4 T t) T.T0 T.T1 (iblk T m ρ c (0 : Fin 5) t) (iblk T m ρ c (1 : Fin 5) t) (iblk T m ρ c (2 : Fin 5) t) (iblk T m ρ c (3 : Fin 5) t) k0_h1 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      iintro ⟨H0, H1, H2, H3, HT0, HT1, H4⟩
      isplitl [HT0 HT1]
      · isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      first | (iexists d4; iexact H4) | iexact H4

/-- The library's body obligation, at every point. -/
theorem body_obligation (c : Dev nD) : BodyObligation (dats T m ρ 0 c) (defs₀ (F := F)) Variants.none () Set.univ := fun t => by
  rw [bigSep_W0]
  exact sound_body T m ρ c t

/-- The rounds library's launch element. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

theorem share_eq (c : Dev nD) (w : Fin (cfgA (F := F) T).W) : (dats T m ρ 0 c).share w = fullShare := by unfold Dat.share; split <;> rfl

/-- The tables as the launch hands them to the region, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant at the first point from the tables; -/
theorem phi0_intro (c : Dev nD) :
    iprop(BI.emp ∗ Pipeline.prefHeld pre0 c (fun _ => fullShare.right) (adm T).1 ∗ Pipeline.scopedRest spec0 c) ⊢ (dats T m ρ 0 c).Φ 0 := by
  rw [prefHeld_eq, scopedRest0_eq, show (dats T m ρ 0 c).Φ 0 = Phi T c from rfl]
  unfold Phi
  iintro ⟨-, ⟨HT0, HT1⟩, -⟩
  isplitl [HT0]
  · iexact HT0
  iexact HT1

/-- at the last point the tables are let go. -/
theorem phiN_exit (c : Dev nD) : (dats T m ρ 0 c).Φ (Fin.last (cfgA (F := F) T).N) ⊢ iprop(BI.emp ∗ Pipeline.scopedRest spec0 c) := by
  rw [scopedRest0_eq, show (dats T m ρ 0 c).Φ (Fin.last (cfgA (F := F) T).N) = Phi T c from rfl]
  unfold Phi
  iintro ⟨-, -⟩
  isplitr; · iempintro
  iempintro

/-- Every array ends at what the pipeline computes, every table at what the pipeline ran at. -/
def QC : PUnit × MemSt nD τ sig (Elt F) → Prop := fun r =>
  ∀ c : Dev nD, (∀ w : Fin (cfgA (F := F) T).W, r.2.mem (((cfgA (F := F) T).win w).arr.view.loc (c : Thread nD τ)) = (dats T m ρ 0 c).arrAt w (cfgA (F := F) T).N)
    ∧ ∀ j, r.2.mem ((c : Thread nD τ).loc (pre0.ref j)) = (adm (F := F) T).1 j

/-- The launch memory holds the tables `T`. -/
def Holds : Prop :=
  (∀ c : Dev nD, m ((c : Thread nD τ).loc main_arg0) = T.T0) ∧ (∀ c : Dev nD, m ((c : Thread nD τ).loc main_arg1) = T.T1)

theorem V_pre (hp : Holds T m) (c : Dev nD) (j : Fin 2) : m ((c : Thread nD τ).loc (pre0.ref j)) = (adm T).1 j := by
  fin_cases j
  · exact hp.1 c
  · exact hp.2 c

set_option backward.isDefEq.respectTransparency.types false in
set_option maxHeartbeats 4000000 in
/-- From any memory holding admissible tables every weakly fair execution terminates, each array ends at the computed
    contents and every semaphore counter at zero. -/
theorem run_main (hp : Holds T m) : θ_run (defs (F := F)) (onTc (τ := τ) (main (F := F))) (s₀ m ρ) (fun r => QC T m ρ r ∧ r.2.sem = fun _ => 0) :=
  Pipeline.θ_run_region_noSem_pf_quiescent pcfgs (fun _ => adm T) (dats T m ρ) () ((launch0 (F := F)).cellOf_inj fun _ => adm T) (0 : Fin 1)
    (launch0 (F := F)).win.to₀ (launch0 (F := F)).pre EP defs₀ Variants.none m ρ main
    (hbody := fun c => (body_obligation T m ρ c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T m ρ) 0 (launch0 (F := F)).win.arr_inj c (launch0 (F := F)).arr_whole
      (share_eq T m ρ c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T m ρ)
    (hout := phiN_exit T m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The frame on admissible tables: the arguments end unchanged, the counters at zero. -/
theorem frame (hp : Holds T m) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ hz => ⟨fun c =>
    have h := hz.1
    ⟨((h c).2 0).trans (hp.1 c).symm, ((h c).2 1).trans (hp.2 c).symm, ((h c).1 (0 : Fin 5)).trans ((dats T m ρ 0 c).arrAt_in (0 : Fin 5) rfl _), ((h c).1 (1 : Fin 5)).trans ((dats T m ρ 0 c).arrAt_in (1 : Fin 5) rfl _), ((h c).1 (2 : Fin 5)).trans ((dats T m ρ 0 c).arrAt_in (2 : Fin 5) rfl _), ((h c).1 (3 : Fin 5)).trans ((dats T m ρ 0 c).arrAt_in (3 : Fin 5) rfl _)⟩, hz.2⟩) (run_main T m ρ hp)

end Cert.DownIdeal.Hand

end
-- ==== Proof.Words.lean ====
/- The tables' precondition and the mask, as words: what "all of these comparisons are one" says, entry by entry. -/
module

public import Idealize.ShloMosaic.PureOps
public import Idealize.ShloMosaic.Lib.WordCmp
public import Idealize.ShloMosaic.Lib.Tactic.WordOmega
public import Idealize.ShloMosaic.Lib.Pipeline.ValueKit

@[expose] public section

noncomputable section

namespace Cert.Hand

open Idealize.ShloMosaic

theorem andi_one (a b : BitVec 1) : IntOp.andi a b = 1#1 ↔ a = 1#1 ∧ b = 1#1 := by revert a b; decide

theorem foldl_andi_one {α : Type} (f : α → BitVec 1) (l : List α) (v : BitVec 1)
    (h : l.foldl (fun r n => IntOp.andi r (f n)) v = 1#1) : ∀ n ∈ l, f n = 1#1 := by
  induction l generalizing v with
  | nil => simp
  | cons a l ih =>
    intro n hn
    have hstep : ∀ (l : List α) (v : BitVec 1), l.foldl (fun r n => IntOp.andi r (f n)) v = 1#1 → v = 1#1 := by
      intro l
      induction l with
      | nil => intro v hv; exact hv
      | cons b l ih => intro v hv; exact ((andi_one _ _).1 (ih _ hv)).1
    rcases List.mem_cons.1 hn with rfl | hn
    · exact ((andi_one _ _).1 (hstep _ _ h)).2
    · exact ih _ h n hn

/-- A conjunction over every axis is one only if every entry is. -/
theorem reduce_andi_one {s u : Shape} {axes : List (Fin s.rank)} (x : s.Idx → BitVec 1) (v : u.Idx → BitVec 1)
    (h : s.ReducesTo axes ⟨0, ![]⟩) (hu : 0 < u.numel) (j : (⟨0, ![]⟩ : Shape).Idx)
    (e : Host.reduce IntOp.andi x v h hu j = 1#1) (i : s.Idx) : x i = 1#1 := by
  unfold Host.reduce at e
  have := foldl_andi_one (fun n => x (s.rowMajor.symm n)) _ _ e (s.rowMajor i) (by
    rw [List.mem_filter]
    exact ⟨List.mem_finRange _, by rw [decide_eq_true_eq]; funext a; exact a.elim0⟩)
  simpa using this

theorem lt_four (w : BitVec 32) (h0 : IntOp.cmpi CmpIPredicate.sge w 0#32 = 1#1) (h1 : IntOp.cmpi CmpIPredicate.slt w 4#32 = 1#1) :
    w.toNat < 4 := by
  word_omega

theorem ge_one (w : BitVec 32) (h0 : IntOp.cmpi CmpIPredicate.sge w 1#32 = 1#1) : 1 ≤ w.toNat ∧ w.toNat < 2 ^ 31 := by
  constructor <;> word_omega

/-- The mask's comparison, for a block index. -/
theorem lt_total (n : ℕ) (hn : n < 10) (w : BitVec 32) (h2 : w.toNat < 2 ^ 31)
    (h : IntOp.cmpi CmpIPredicate.slt (BitVec.ofNat 32 n) w = 1#1) : n < w.toNat := by
  word_omega

end Cert.Hand

end
-- ==== Proof.Tables.lean ====
/- What the tables' precondition and the masks say, entry by entry. -/
module

public import proofs.«01_k».proof.Proof.Words
public import proofs.«01_k».proof.Proof.Gen.Pre_pre1
public import proofs.«01_k».proof.Proof.Gen.Pre_pre2
public import proofs.«01_k».proof.Proof.Gen.On_on1
public import proofs.«01_k».proof.Proof.Gen.On_on2

@[expose] public section

set_option maxRecDepth 16384

noncomputable section

namespace Cert.Hand

open Idealize.ShloMosaic

/-- Under `pre1` every expert index is below 4 and the number of live blocks is at least 1. -/
theorem pre1_tables {F : FTy → Type} [FloatOps F] {a0 a1 a2 a3 a4 a5 a6 a7}
    (h : Cert.Pre_pre1.fn (F := F) a0 a1 a2 a3 a4 a5 a6 a7 = fun _ => 1#1) :
    (∀ x, (a0 x).toNat < 4) ∧ ∀ x, 1 ≤ (a1 x).toNat ∧ (a1 x).toNat < 2 ^ 31 := by
  have e := congrFun h (fun a => a.elim0)
  simp only [Cert.Pre_pre1.fn, andi, andi_one] at e
  obtain ⟨⟨e0, e1⟩, e2⟩ := e
  refine ⟨fun x => lt_four _ ?_ ?_, fun x => ge_one _ ?_⟩
  · exact reduce_andi_one _ _ _ _ _ e0 x
  · exact reduce_andi_one _ _ _ _ _ e1 x
  · exact reduce_andi_one _ _ _ _ _ e2 x

/-- Under `pre2` every expert index is below 4 and the number of live blocks is at least 1. -/
theorem pre2_tables {F : FTy → Type} [FloatOps F] {a0 a1 a2 a3 a4 a5}
    (h : Cert.Pre_pre2.fn (F := F) a0 a1 a2 a3 a4 a5 = fun _ => 1#1) :
    (∀ x, (a0 x).toNat < 4) ∧ ∀ x, 1 ≤ (a1 x).toNat ∧ (a1 x).toNat < 2 ^ 31 := by
  have e := congrFun h (fun a => a.elim0)
  simp only [Cert.Pre_pre2.fn, andi, andi_one] at e
  obtain ⟨⟨e0, e1⟩, e2⟩ := e
  refine ⟨fun x => lt_four _ ?_ ?_, fun x => ge_one _ ?_⟩
  · exact reduce_andi_one _ _ _ _ _ e0 x
  · exact reduce_andi_one _ _ _ _ _ e1 x
  · exact reduce_andi_one _ _ _ _ _ e2 x

/-- Of the activation the mask names only rows of live blocks. -/
theorem on1_live_act {F : FTy → Type} [FloatOps F] {a0 a1 a2 a3 a4 a5 a6 a7} (r : Fin 5120) (n : Fin 9216)
    (ha : ∀ x, 1 ≤ (a1 x).toNat ∧ (a1 x).toNat < 2 ^ 31)
    (h : (Cert.On_on1.fn (F := F) a0 a1 a2 a3 a4 a5 a6 a7).1 (ix2 r n) = 1#1) : r.val / 512 < (a1 (ix1 0)).toNat := by
  pointwise [Cert.On_on1.fn] at h
  exact lt_total _ (by omega) _ (ha _).2 h

/-- Of the magnitudes the mask names only rows of live blocks. -/
theorem on1_live_amax {F : FTy → Type} [FloatOps F] {a0 a1 a2 a3 a4 a5 a6 a7} (r : Fin 5120) (n : Fin 128)
    (ha : ∀ x, 1 ≤ (a1 x).toNat ∧ (a1 x).toNat < 2 ^ 31)
    (h : (Cert.On_on1.fn (F := F) a0 a1 a2 a3 a4 a5 a6 a7).2 (ix2 r n) = 1#1) : r.val / 512 < (a1 (ix1 0)).toNat := by
  pointwise [Cert.On_on1.fn] at h
  exact lt_total _ (by omega) _ (ha _).2 h

/-- Of the result the mask names only rows of live blocks. -/
theorem on2_live {F : FTy → Type} [FloatOps F] {a0 a1 a2 a3 a4 a5} (r : Fin 5120) (n : Fin 6144)
    (ha : ∀ x, 1 ≤ (a1 x).toNat ∧ (a1 x).toNat < 2 ^ 31)
    (h : (Cert.On_on2.fn (F := F) a0 a1 a2 a3 a4 a5) (ix2 r n) = 1#1) : r.val / 512 < (a1 (ix1 0)).toNat := by
  pointwise [Cert.On_on2.fn] at h
  exact lt_total _ (by omega) _ (ha _).2 h

end Cert.Hand

end
-- ==== Proof.Up.Admit.lean ====
/- The precondition of `Up` puts admissible tables in the launch memory; hence its frame. -/
module

public import proofs.«01_k».proof.Defs
public import proofs.«01_k».proof.Proof.Up.Launch
public import proofs.«01_k».proof.Proof.Tables

@[expose] public section

set_option maxRecDepth 16384

noncomputable section

namespace Cert.Up.Hand

open Cert.Up Cert.Up.Gen
open Idealize.ShloMosaic Idealize.ShloMosaic.TcCoe Idealize.SL.Sem

/-- Under the precondition the launch memory holds some admissible tables. -/
theorem exists_tab (m : (ℓ : Loc nD τ sig) → Buf (Elt Bits) ℓ) (h : Cert.Pre_Up m) : ∃ T : Tab, Holds T m := by
  have h0 := Cert.Hand.pre1_tables (h ⟨0, by decide⟩)
  have hc : ∀ c : Dev nD, c = ⟨0, by decide⟩ := by decide
  refine ⟨⟨_, _, h0.1, fun x => (h0.2 x).1, fun x => (h0.2 x).2⟩, fun c => ?_, fun c => ?_⟩ <;> rw [hc c]

/-- The program runs, its arguments end unchanged and every semaphore counter at zero. -/
theorem quiescent : Cert.quiescent_Up := fun m ρ h => by
  obtain ⟨T, hT⟩ := exists_tab m h
  exact frame T m ρ hT

end Cert.Up.Hand

end
-- ==== Proof.UpIdeal.Admit.lean ====
/- The precondition of `UpIdeal` puts admissible tables in the launch memory; hence its frame. -/
module

public import proofs.«01_k».proof.Defs
public import proofs.«01_k».proof.Proof.UpIdeal.Launch
public import proofs.«01_k».proof.Proof.Tables

@[expose] public section

set_option maxRecDepth 16384

noncomputable section

namespace Cert.UpIdeal.Hand

open Cert.UpIdeal Cert.UpIdeal.Gen
open Idealize.ShloMosaic Idealize.ShloMosaic.TcCoe Idealize.SL.Sem

/-- Under the precondition the launch memory holds some admissible tables. -/
theorem exists_tab (m : (ℓ : Loc nD τ sig) → Buf (Elt Ideal) ℓ) (h : Cert.Pre_UpIdeal m) : ∃ T : Tab, Holds T m := by
  have h0 := Cert.Hand.pre1_tables (h ⟨0, by decide⟩)
  have hc : ∀ c : Dev nD, c = ⟨0, by decide⟩ := by decide
  refine ⟨⟨_, _, h0.1, fun x => (h0.2 x).1, fun x => (h0.2 x).2⟩, fun c => ?_, fun c => ?_⟩ <;> rw [hc c]

/-- The program runs, its arguments end unchanged and every semaphore counter at zero. -/
theorem quiescent : Cert.quiescent_UpIdeal := fun m ρ h => by
  obtain ⟨T, hT⟩ := exists_tab m h
  exact frame T m ρ hT

end Cert.UpIdeal.Hand

end
-- ==== Proof.Down.Admit.lean ====
/- The precondition of `Down` puts admissible tables in the launch memory; hence its frame. -/
module

public import proofs.«01_k».proof.Defs
public import proofs.«01_k».proof.Proof.Down.Launch
public import proofs.«01_k».proof.Proof.Tables

@[expose] public section

set_option maxRecDepth 16384

noncomputable section

namespace Cert.Down.Hand

open Cert.Down Cert.Down.Gen
open Idealize.ShloMosaic Idealize.ShloMosaic.TcCoe Idealize.SL.Sem

/-- Under the precondition the launch memory holds some admissible tables. -/
theorem exists_tab (m : (ℓ : Loc nD τ sig) → Buf (Elt Bits) ℓ) (h : Cert.Pre_Down m) : ∃ T : Tab, Holds T m := by
  have h0 := Cert.Hand.pre2_tables (h ⟨0, by decide⟩)
  have hc : ∀ c : Dev nD, c = ⟨0, by decide⟩ := by decide
  refine ⟨⟨_, _, h0.1, fun x => (h0.2 x).1, fun x => (h0.2 x).2⟩, fun c => ?_, fun c => ?_⟩ <;> rw [hc c]

/-- The program runs, its arguments end unchanged and every semaphore counter at zero. -/
theorem quiescent : Cert.quiescent_Down := fun m ρ h => by
  obtain ⟨T, hT⟩ := exists_tab m h
  exact frame T m ρ hT

end Cert.Down.Hand

end
-- ==== Proof.DownIdeal.Admit.lean ====
/- The precondition of `DownIdeal` puts admissible tables in the launch memory; hence its frame. -/
module

public import proofs.«01_k».proof.Defs
public import proofs.«01_k».proof.Proof.DownIdeal.Launch
public import proofs.«01_k».proof.Proof.Tables

@[expose] public section

set_option maxRecDepth 16384

noncomputable section

namespace Cert.DownIdeal.Hand

open Cert.DownIdeal Cert.DownIdeal.Gen
open Idealize.ShloMosaic Idealize.ShloMosaic.TcCoe Idealize.SL.Sem

/-- Under the precondition the launch memory holds some admissible tables. -/
theorem exists_tab (m : (ℓ : Loc nD τ sig) → Buf (Elt Ideal) ℓ) (h : Cert.Pre_DownIdeal m) : ∃ T : Tab, Holds T m := by
  have h0 := Cert.Hand.pre2_tables (h ⟨0, by decide⟩)
  have hc : ∀ c : Dev nD, c = ⟨0, by decide⟩ := by decide
  refine ⟨⟨_, _, h0.1, fun x => (h0.2 x).1, fun x => (h0.2 x).2⟩, fun c => ?_, fun c => ?_⟩ <;> rw [hc c]

/-- The program runs, its arguments end unchanged and every semaphore counter at zero. -/
theorem quiescent : Cert.quiescent_DownIdeal := fun m ρ h => by
  obtain ⟨T, hT⟩ := exists_tab m h
  exact frame T m ρ hT

end Cert.DownIdeal.Hand

end
-- ==== Proof.UpRefIdeal.Frame.lean ====
/- The frame of the reference `UpRefIdeal`, which declares no semaphore. -/
module

public import proofs.«01_k».proof.Defs
public import proofs.«01_k».proof.Proof.Gen.UpRefIdeal.Run
public import Idealize.ShloMosaic.Lib.Quiescent

@[expose] public section

set_option maxRecDepth 16384

noncomputable section

namespace Cert.UpRefIdeal.Hand

open Cert.UpRefIdeal
open Idealize.ShloMosaic Idealize.ShloMosaic.TcCoe Idealize.SL.Sem

/-- The reference runs, its arguments end unchanged and every semaphore counter at zero, whatever its memory. -/
theorem quiescent : Cert.quiescent_UpRefIdeal := fun m ρ _ =>
  (θ_run defs _ _).mono (fun r h => ⟨fun c => (h c).2.2, sem_eq_zero_of_no_sems (by decide) r.2⟩) (Value.run m ρ)

end Cert.UpRefIdeal.Hand

end
-- ==== Proof.DownRefIdeal.Frame.lean ====
/- The frame of the reference `DownRefIdeal`, which declares no semaphore. -/
module

public import proofs.«01_k».proof.Defs
public import proofs.«01_k».proof.Proof.Gen.DownRefIdeal.Run
public import Idealize.ShloMosaic.Lib.Quiescent

@[expose] public section

set_option maxRecDepth 16384

noncomputable section

namespace Cert.DownRefIdeal.Hand

open Cert.DownRefIdeal
open Idealize.ShloMosaic Idealize.ShloMosaic.TcCoe Idealize.SL.Sem

/-- The reference runs, its arguments end unchanged and every semaphore counter at zero, whatever its memory. -/
theorem quiescent : Cert.quiescent_DownRefIdeal := fun m ρ _ =>
  (θ_run defs _ _).mono (fun r h => ⟨fun c => (h c).2, sem_eq_zero_of_no_sems (by decide) r.2⟩) (Value.run m ρ)

end Cert.DownRefIdeal.Hand

end
-- ==== Proof.Nib.lean ====
/- Two int4 weights in a byte: the one word both programs compute for the nibble of a row, whichever way they spell
   the choice between the low and the high one. -/
module

public import Idealize.ShloMosaic.PureOps
public import Idealize.ShloMosaic.PureOps.Ideal

@[expose] public section

noncomputable section

namespace Cert.Hand

open Idealize.ShloMosaic

/-- Row `p`'s nibble of the packed byte `b`, sign extended: the low one on an even row, the high one on an odd row. -/
def nib (b : BitVec 8) (p : ℕ) : BitVec 32 :=
  (b.setWidth 32 <<< (if p % 2 = 0 then 28 else 24)).sshiftRight 28

/-- The kernel's spelling: a select on the row's parity, then one shift. -/
theorem nib_select (b : BitVec 8) (p : ℕ) :
    IntOp.shrsi ArithUnit.vector
      (Scalar.select (IntOp.cmpi CmpIPredicate.eq (BitVec.ofNat 32 (p % 2)) 0#32)
        (IntOp.shli ArithUnit.vector (BitVec.setWidth 32 b) 28#32)
        (IntOp.shli ArithUnit.vector (BitVec.setWidth 32 b) 24#32)) 28#32 = nib b p := by
  unfold nib
  rcases Nat.mod_two_eq_zero_or_one p with h | h <;> rw [h] <;> rfl

/-- The reference's spelling: both shifts, then the choice. -/
theorem nib_ite (b : BitVec 8) (p : ℕ) :
    (if h : p % 2 < 1 then
      IntOp.shrsi ArithUnit.host (IntOp.shli ArithUnit.host (BitVec.setWidth 32 b) 28#32) 28#32
    else IntOp.shrsi ArithUnit.host (IntOp.shli ArithUnit.host (BitVec.setWidth 32 b) 24#32) 28#32) = nib b p := by
  unfold nib
  rcases Nat.mod_two_eq_zero_or_one p with h | h <;> simp only [h] <;> rfl

/-- A select on an expert's word being `k`. -/
theorem select_eq {α : Type} (a k : BitVec 32) (x y : α) :
    Scalar.select (IntOp.cmpi CmpIPredicate.eq a k) x y = if a = k then x else y := by
  unfold IntOp.cmpi Scalar.select
  by_cases h : a = k
  · subst h; simp
  · have hb : (a == k) = false := by simpa using h
    simp [h, hb]

/-- A chain of four selects on an expert's word picks the expert's value. -/
theorem select_expert {α : Type} (a : BitVec 32) (ha : a.toNat < 4) (f : Fin 4 → α) (z : α) :
    Scalar.select (IntOp.cmpi CmpIPredicate.eq a 3#32) (f 3)
      (Scalar.select (IntOp.cmpi CmpIPredicate.eq a 2#32) (f 2)
        (Scalar.select (IntOp.cmpi CmpIPredicate.eq a 1#32) (f 1)
          (Scalar.select (IntOp.cmpi CmpIPredicate.eq a 0#32) (f 0) z))) = f ⟨a.toNat, ha⟩ := by
  obtain ⟨v, rfl⟩ : ∃ v : Fin 4, a = BitVec.ofNat 32 v.val :=
    ⟨⟨a.toNat, ha⟩, by simp⟩
  fin_cases v <;> simp [select_eq]

end Cert.Hand

end
-- ==== Proof.UpRefIdeal.Point.lean ====
/- The first feed-forward reference, entry by entry: the gated product of the row with its block's expert, and the
   largest magnitude of each row over the columns of one residue mod 128. -/
module

public import proofs.«01_k».proof.Proof.Gen.UpRefIdeal.Run
public import proofs.«01_k».proof.Proof.Nib
public import proofs.«01_k».proof.Proof.Gen.UpRefIdeal
public import Idealize.ShloMosaic.Lib.Pipeline.ValueKit

@[expose] public section

set_option maxRecDepth 16384

noncomputable section

namespace Cert.Hand

open Idealize.ShloMosaic

/-- Row `r`, column `n` of a product through expert `e`, scaled. -/
def lin (X0 : FVec Ideal ⟨2, ![5120, 6144]⟩ .bf16) (X1 : FVec Ideal ⟨2, ![5120, 128]⟩ .f32)
    (W : IVec ⟨3, ![4, 3072, 9216]⟩ 8) (S : FVec Ideal ⟨3, ![4, 1, 9216]⟩ .f32)
    (e : Fin 4) (r : Fin 5120) (n : Fin 9216) : EReal :=
  (∑ k : Fin 6144, X0 (ix2 r k) * (FloatOps.sitofp .bf16 (nib (W (ix3 e ⟨k.val / 2, by omega⟩ n)) k.val) : Ideal .bf16))
    * X1 (ix2 r 0) * S (ix3 e 0 n)

/-- The same with the nibble in the reference's spelling. -/
def linHost (X0 : FVec Ideal ⟨2, ![5120, 6144]⟩ .bf16) (X1 : FVec Ideal ⟨2, ![5120, 128]⟩ .f32)
    (W : IVec ⟨3, ![4, 3072, 9216]⟩ 8) (S : FVec Ideal ⟨3, ![4, 1, 9216]⟩ .f32)
    (e : Fin 4) (r : Fin 5120) (n : Fin 9216) : EReal :=
  (∑ k : Fin 6144, X0 (ix2 r k) * (FloatOps.sitofp .bf16
      (if h : k.val % 2 < 1 then
        IntOp.shrsi ArithUnit.host (IntOp.shli ArithUnit.host (BitVec.setWidth 32 (W (ix3 e ⟨k.val / 2, by omega⟩ n))) 28#32) 28#32
      else IntOp.shrsi ArithUnit.host (IntOp.shli ArithUnit.host (BitVec.setWidth 32 (W (ix3 e ⟨k.val / 2, by omega⟩ n))) 24#32) 28#32) :
        Ideal .bf16))
    * X1 (ix2 r 0) * S (ix3 e 0 n)

theorem linHost_eq (X0 : FVec Ideal ⟨2, ![5120, 6144]⟩ .bf16) (X1 : FVec Ideal ⟨2, ![5120, 128]⟩ .f32)
    (W : IVec ⟨3, ![4, 3072, 9216]⟩ 8) (S : FVec Ideal ⟨3, ![4, 1, 9216]⟩ .f32)
    (e : Fin 4) (r : Fin 5120) (n : Fin 9216) : linHost X0 X1 W S e r n = lin X0 X1 W S e r n := by
  refine congrArg (fun z : EReal => z * X1 (ix2 r 0) * S (ix3 e 0 n)) (Finset.sum_congr rfl fun k _ => ?_)
  exact congrArg (fun w : BitVec 32 => (X0 (ix2 r k) : EReal) * (FloatOps.sitofp .bf16 w : Ideal .bf16))
    (nib_ite (W (ix3 e ⟨k.val / 2, by omega⟩ n)) k.val)

/-- The gated unit: `g · 1 / (1 + exp (-g)) · u`. -/
def gated (g u : EReal) : EReal := g * Ideal.div 1 (1 + Ideal.exp (-g)) * u

/-- Row `r`, column `n` of the activation through expert `e`. -/
def up (X0 : FVec Ideal ⟨2, ![5120, 6144]⟩ .bf16) (X1 : FVec Ideal ⟨2, ![5120, 128]⟩ .f32)
    (W1 W3 : IVec ⟨3, ![4, 3072, 9216]⟩ 8) (S1 S3 : FVec Ideal ⟨3, ![4, 1, 9216]⟩ .f32)
    (e : Fin 4) (r : Fin 5120) (n : Fin 9216) : EReal :=
  gated (lin X0 X1 W1 S1 e r n) (lin X0 X1 W3 S3 e r n)

/-- The largest magnitude among a row's entries at the columns congruent to `n` mod 128. -/
def rowMax (A : Fin 9216 → EReal) (n : Fin 128) : EReal :=
  (Finset.univ : Finset (Fin 72)).fold max (Ideal.ofBits .f32 0xFF800000#32)
    fun k => (FloatOps.absf (A ⟨k.val * 128 + n.val, by omega⟩ : Ideal .f32) : Ideal .f32)

end Cert.Hand

namespace Cert.UpRefIdeal.Hand

open Idealize.ShloMosaic Idealize.ShloMosaic.TcCoe Idealize.SL.Sem
open Cert.UpRefIdeal Cert.UpRefIdeal.Gen Cert.Hand Value

/-- The row magnitudes of an activation. -/
theorem amax_apply (A : FVec Ideal S5120x9216 .f32) (i : Fin 5120) (n : Fin 128) :
    (Host.reduce (FloatOps.maximumf (F := Ideal) (φ := .f32)) (shapeCast S5120x72x128 (Host.absf A) shapeCasts_S5120x9216_S5120x72x128)
      (constant (F := Ideal) S_ .f32 0xFF800000#32) reducesTo_S5120x72x128_S5120x128_d1 h_S_ (ix2 i n) : EReal) = rowMax (fun k => A (ix2 i k)) n := by
  pointwise
  rfl

/-- The reference's run, entry by entry, where every row's expert is one of the four. -/
theorem run_apply (m : (ℓ : Loc nD τ sig) → Buf (Elt Ideal) ℓ) (ρ : Dev nD → PrngReg)
    (he : ∀ (c : Dev nD) i, (m ((c : Thread nD τ).loc main_arg0) i).toNat < 4) :
    θ_run defs (onTc (τ := τ) (main (F := Ideal))) ⟨m, fun _ => 0, ρ⟩ fun r => ∀ c : Dev nD,
    (∀ (i : Fin 5120) (n : Fin 9216), (r.2.mem ((c.tc : Thread nD τ).loc main_v224) (ix2 i n) : EReal)
        = up (m ((c : Thread nD τ).loc main_arg2)) (m ((c : Thread nD τ).loc main_arg3)) (m ((c : Thread nD τ).loc main_arg4)) (m ((c : Thread nD τ).loc main_arg5))
          (m ((c : Thread nD τ).loc main_arg6)) (m ((c : Thread nD τ).loc main_arg7)) ⟨_, he c (ix1 ⟨i.val / 512, by omega⟩)⟩ i n)
    ∧ (∀ (i : Fin 5120) (n : Fin 128), (r.2.mem ((c.tc : Thread nD τ).loc main_v227) (ix2 i n) : EReal)
        = rowMax (fun k => r.2.mem ((c.tc : Thread nD τ).loc main_v224) (ix2 i k)) n) := by
  refine (θ_run defs _ _).mono (fun r h c => ⟨fun i n => ?_, fun i n => ?_⟩) (Value.run m ρ)
  · refine (congrFun (h c).1 (ix2 i n)).trans ?_
    clear h
    pointwise [res_main_v3, res_main_v24, res_main_v27, res_main_v59, res_main_v80, res_main_v83, res_main_v115, res_main_v136, res_main_v139, res_main_v168, res_main_v171, res_main_v192, res_main_v195]
    refine (select_expert _ (he c (ix1 ⟨i.val / 512, by omega⟩)) (fun e => gated
      (linHost (m ((c : Thread nD τ).loc main_arg2)) (m ((c : Thread nD τ).loc main_arg3)) (m ((c : Thread nD τ).loc main_arg4)) (m ((c : Thread nD τ).loc main_arg6)) e i n)
      (linHost (m ((c : Thread nD τ).loc main_arg2)) (m ((c : Thread nD τ).loc main_arg3)) (m ((c : Thread nD τ).loc main_arg5)) (m ((c : Thread nD τ).loc main_arg7)) e i n)) 0).trans ?_
    unfold up
    rw [← linHost_eq, ← linHost_eq]
  · refine (congrFun (((h c).2.1).trans (congrArg (fun A : FVec Ideal S5120x9216 .f32 => Host.reduce FloatOps.maximumf
      (shapeCast S5120x72x128 (Host.absf A) shapeCasts_S5120x9216_S5120x72x128) (constant (F := Ideal) S_ .f32 0xFF800000#32)
      reducesTo_S5120x72x128_S5120x128_d1 h_S_) (h c).1.symm)) (ix2 i n)).trans ?_
    exact amax_apply _ i n

end Cert.UpRefIdeal.Hand

end
-- ==== Proof.UpIdeal.Value.lean ====
/- The first feed-forward kernel's results on any admissible tables: in the live blocks the first array holds the gated
   product of each row with its block's expert, and the second the largest magnitude of each row over the columns of one
   residue mod 128. -/
module

public import proofs.«01_k».proof.Proof.UpIdeal.Launch
public import proofs.«01_k».proof.Proof.UpRefIdeal.Point
public import Idealize.ShloMosaic.Lib.Pipeline.ValueKit

@[expose] public section

set_option maxRecDepth 16384

noncomputable section

namespace Cert.UpIdeal.Hand

open Cert.UpIdeal Cert.UpIdeal.Gen Cert.Hand
open Idealize.ShloMosaic
open Idealize.ShloMosaic.TcCoe Idealize.ShloMosaic.Tactic
open Idealize.ShloMosaic.Pipeline (Dat Cfg Window)

variable (T : Tab)
variable (m : (ℓ : Loc nD τ sig) → Buf (Elt Ideal) ℓ) (ρ : Dev nD → PrngReg)

/-- One block's scaled product, entry by entry. -/
def linBlk (x0 : FVec Ideal S512x6144 .bf16) (x1 : FVec Ideal S512x128 .f32) (w : IVec S1x3072x256 8) (s : FVec Ideal S1x1x256 .f32)
    (r : Fin 512) (n : Fin 256) : EReal :=
  (∑ k : Fin 6144, x0 (ix2 r k) * (FloatOps.sitofp .bf16 (nib (w (ix3 0 ⟨k.val / 2, by omega⟩ n)) k.val) : Ideal .bf16))
    * x1 (ix2 r 0) * s (ix3 0 0 n)

/-- The same in the kernel's spelling. -/
def linKer (x0 : FVec Ideal S512x6144 .bf16) (x1 : FVec Ideal S512x128 .f32) (w : IVec S1x3072x256 8) (s : FVec Ideal S1x1x256 .f32)
    (r : Fin 512) (n : Fin 256) : EReal :=
  (∑ k : Fin 6144, x0 (ix2 r k) * (FloatOps.sitofp .bf16 (IntOp.shrsi ArithUnit.vector
      (Scalar.select (IntOp.cmpi CmpIPredicate.eq (BitVec.ofNat 32 (k.val % 2)) 0#32)
        (IntOp.shli ArithUnit.vector (BitVec.setWidth 32 (w (ix3 0 ⟨k.val / 2, by omega⟩ n))) 28#32)
        (IntOp.shli ArithUnit.vector (BitVec.setWidth 32 (w (ix3 0 ⟨k.val / 2, by omega⟩ n))) 24#32)) 28#32) : Ideal .bf16))
    * VecWindow.window x1 ![0, 0] S512x1.size inb_S512x128_S512x1_0_0 (ix2 r 0) * s (ix3 0 0 n)

theorem linKer_eq (x0 : FVec Ideal S512x6144 .bf16) (x1 : FVec Ideal S512x128 .f32) (w : IVec S1x3072x256 8) (s : FVec Ideal S1x1x256 .f32)
    (r : Fin 512) (n : Fin 256) : linKer x0 x1 w s r n = linBlk x0 x1 w s r n := by
  refine congrArg₂ (fun a b : EReal => a * b * s (ix3 0 0 n)) (Finset.sum_congr rfl fun k _ => ?_) ?_
  · exact congrArg (fun z : BitVec 32 => (x0 (ix2 r k) : EReal) * (FloatOps.sitofp .bf16 z : Ideal .bf16))
      (nib_select (w (ix3 0 ⟨k.val / 2, by omega⟩ n)) k.val)
  · refine congrArg x1 ?_
    funext a; fin_cases a <;> apply Fin.ext <;> simp [ix2]

/-- One block's activations, entry by entry. -/
theorem actv_apply (x0 : FVec Ideal S512x6144 .bf16) (x1 : FVec Ideal S512x128 .f32) (x2 x3 : IVec S1x3072x256 8) (x4 x5 : FVec Ideal S1x1x256 .f32)
    (r : Fin 512) (n : Fin 256) :
    (actv (F := Ideal) x0 x1 x2 x3 x4 x5 (ix2 r n) : EReal) = gated (linBlk x0 x1 x2 x4 r n) (linBlk x0 x1 x3 x5 r n) := by
  unfold actv gv
  pointwise [k0_pay1, k0_pay3, k0_pay4, k0_pay5, k0_pay6, k0_pay7]
  refine Eq.trans ?_ (congrArg₂ gated (linKer_eq x0 x1 x2 x4 r n) (linKer_eq x0 x1 x3 x5 r n))
  rfl

/-- One step of the row maxima, entry by entry. -/
theorem amaxv_apply (i : grid0.Coords) (x0 : FVec Ideal S512x6144 .bf16) (x1 : FVec Ideal S512x128 .f32) (x2 x3 : IVec S1x3072x256 8) (x4 x5 : FVec Ideal S1x1x256 .f32)
    (y : FVec Ideal S512x128 .f32) (r : Fin 512) (n : Fin 128) :
    (amaxv (F := Ideal) i x0 x1 x2 x3 x4 x5 y (ix2 r n) : EReal)
      = Scalar.select (Scalar.cmpi .eq (BitVec.ofNat 32 (i 1).val) 0#32)
          (max (FloatOps.absf (actv (F := Ideal) x0 x1 x2 x3 x4 x5 (ix2 r ⟨n.val, by omega⟩)) : Ideal .f32)
            (FloatOps.absf (actv (F := Ideal) x0 x1 x2 x3 x4 x5 (ix2 r ⟨128 + n.val, by omega⟩)) : Ideal .f32) : EReal)
          (max (max (FloatOps.absf (actv (F := Ideal) x0 x1 x2 x3 x4 x5 (ix2 r ⟨n.val, by omega⟩)) : Ideal .f32)
            (FloatOps.absf (actv (F := Ideal) x0 x1 x2 x3 x4 x5 (ix2 r ⟨128 + n.val, by omega⟩)) : Ideal .f32) : EReal) (y (ix2 r n))) := by
  unfold amaxv k0_pay2
  have e : k0_pay1 (F := Ideal) x0 (VecWindow.window x1 ![0, 0] S512x1.size inb_S512x128_S512x1_0_0) (gv (F := Ideal) x0 x1 x2 x4) k0_pay5 (k0_pay6 x3) (k0_pay7 x3) x5
    = actv (F := Ideal) x0 x1 x2 x3 x4 x5 := rfl
  rw [e]
  generalize actv (F := Ideal) x0 x1 x2 x3 x4 x5 = z
  pointwise

/-- Window 0's block at a point. -/
theorem index0 (t : Fin (cfgA (F := Ideal) T).N) : ((cfgA (F := Ideal) T).win (0 : Fin 8)).index t
    = ![min (t.val / 36) (T.tot - 1), 0] := by
  show cc0_transform_0 inb_S1_S1_0 numel1_S1 (pfN (F := Ideal) T) (grid0.coords t) = _
  rw [tr0, crd0]

/-- Window 1's block at a point. -/
theorem index1 (t : Fin (cfgA (F := Ideal) T).N) : ((cfgA (F := Ideal) T).win (1 : Fin 8)).index t
    = ![min (t.val / 36) (T.tot - 1), 0] := by
  show cc0_transform_1 inb_S1_S1_0 numel1_S1 (pfN (F := Ideal) T) (grid0.coords t) = _
  rw [tr1, crd0]

/-- Window 2's block at a point. -/
theorem index2 (t : Fin (cfgA (F := Ideal) T).N) : ((cfgA (F := Ideal) T).win (2 : Fin 8)).index t
    = ![T.exp (grid0.coords t 0), 0, if t.val / 36 < T.tot then t.val % 36 else 35] := by
  show cc0_transform_2 k0_off1_inb numel1_S1 inb_S1_S1_0 (pfN (F := Ideal) T) (grid0.coords t) = _
  rw [tr2, crd0, crd1]

/-- Window 3's block at a point. -/
theorem index3 (t : Fin (cfgA (F := Ideal) T).N) : ((cfgA (F := Ideal) T).win (3 : Fin 8)).index t
    = ![T.exp (grid0.coords t 0), 0, if t.val / 36 < T.tot then t.val % 36 else 35] := by
  show cc0_transform_3 k0_off1_inb numel1_S1 inb_S1_S1_0 (pfN (F := Ideal) T) (grid0.coords t) = _
  rw [tr3, crd0, crd1]

/-- Window 4's block at a point. -/
theorem index4 (t : Fin (cfgA (F := Ideal) T).N) : ((cfgA (F := Ideal) T).win (4 : Fin 8)).index t
    = ![T.exp (grid0.coords t 0), 0, if t.val / 36 < T.tot then t.val % 36 else 35] := by
  show cc0_transform_4 k0_off1_inb numel1_S1 inb_S1_S1_0 (pfN (F := Ideal) T) (grid0.coords t) = _
  rw [tr4, crd0, crd1]

/-- Window 5's block at a point. -/
theorem index5 (t : Fin (cfgA (F := Ideal) T).N) : ((cfgA (F := Ideal) T).win (5 : Fin 8)).index t
    = ![T.exp (grid0.coords t 0), 0, if t.val / 36 < T.tot then t.val % 36 else 35] := by
  show cc0_transform_5 k0_off1_inb numel1_S1 inb_S1_S1_0 (pfN (F := Ideal) T) (grid0.coords t) = _
  rw [tr5, crd0, crd1]

/-- The expert of row `r`. -/
def Tab.rowExp (T : Tab) (r : Fin 5120) : Fin 4 := ⟨T.exp ⟨r.val / 512, by omega⟩, T.exp_lt _⟩

/-- What the activations hold at an index of a live block. -/
def G (c : Dev nD) (r : Fin 5120) (n : Fin 9216) : EReal :=
  up (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (T.rowExp r) r n

theorem G_congr (c : Dev nD) (r r' : Fin 5120) (n n' : Fin 9216) (h0 : r.val = r'.val) (h1 : n.val = n'.val) :
    G T m c r n = G T m c r' n' := by
  rw [Fin.ext h0, Fin.ext h1]

/-- A live point's activations, entry by entry. -/
theorem actAt_apply (c : Dev nD) (t : Fin (cfgA (F := Ideal) T).N) (hl : t.val < 36 * T.tot) (r : Fin 512) (n : Fin 256) :
    (actAt T m ρ c t (ix2 r n) : EReal)
      = G T m c ⟨t.val / 36 * 512 + r.val, by have : t.val < 360 := t.isLt; omega⟩ ⟨t.val % 36 * 256 + n.val, by omega⟩ := by
  have ht : t.val < 360 := t.isLt
  have hb : t.val / 36 < T.tot := by omega
  have e0 := index0 T t
  have e1 := index1 T t
  have e2 := index2 T t
  have e3 := index3 T t
  have e4 := index4 T t
  have e5 := index5 T t
  rw [if_pos hb] at e2 e3 e4 e5
  have hx : T.exp (grid0.coords t 0) = T.exp ⟨t.val / 36, by omega⟩ := by
    congr 1; exact Fin.ext (crd0 t)
  rw [hx] at e2 e3 e4 e5
  have hr : T.rowExp ⟨t.val / 36 * 512 + r.val, by omega⟩ = ⟨T.exp ⟨t.val / 36, by omega⟩, T.exp_lt _⟩ := by
    unfold Tab.rowExp
    apply Fin.ext
    show T.exp _ = T.exp _
    congr 1
    apply Fin.ext
    show (t.val / 36 * 512 + r.val) / 512 = t.val / 36
    omega
  unfold actAt
  refine (actv_apply _ _ _ _ _ _ r n).trans ?_
  have q0 : ∀ k : Fin 6144, iblk T m ρ c (0 : Fin 8) t (ix2 r k)
      = m ((c : Thread nD τ).loc main_arg2) (ix2 ⟨t.val / 36 * 512 + r.val, by omega⟩ k) := fun k => by
    blk_point [iblk, e0]
  have q1 : iblk T m ρ c (1 : Fin 8) t (ix2 r 0)
      = m ((c : Thread nD τ).loc main_arg3) (ix2 ⟨t.val / 36 * 512 + r.val, by omega⟩ 0) := by
    blk_point [iblk, e1]
  have q2 : ∀ k : Fin 3072, iblk T m ρ c (2 : Fin 8) t (ix3 0 k n)
      = m ((c : Thread nD τ).loc main_arg4) (ix3 (T.rowExp ⟨t.val / 36 * 512 + r.val, by omega⟩) k ⟨t.val % 36 * 256 + n.val, by omega⟩) := fun k => by
    rw [hr]; blk_point [iblk, e2]
  have q3 : ∀ k : Fin 3072, iblk T m ρ c (3 : Fin 8) t (ix3 0 k n)
      = m ((c : Thread nD τ).loc main_arg5) (ix3 (T.rowExp ⟨t.val / 36 * 512 + r.val, by omega⟩) k ⟨t.val % 36 * 256 + n.val, by omega⟩) := fun k => by
    rw [hr]; blk_point [iblk, e3]
  have q4 : iblk T m ρ c (4 : Fin 8) t (ix3 0 0 n)
      = m ((c : Thread nD τ).loc main_arg6) (ix3 (T.rowExp ⟨t.val / 36 * 512 + r.val, by omega⟩) 0 ⟨t.val % 36 * 256 + n.val, by omega⟩) := by
    rw [hr]; blk_point [iblk, e4]
  have q5 : iblk T m ρ c (5 : Fin 8) t (ix3 0 0 n)
      = m ((c : Thread nD τ).loc main_arg7) (ix3 (T.rowExp ⟨t.val / 36 * 512 + r.val, by omega⟩) 0 ⟨t.val % 36 * 256 + n.val, by omega⟩) := by
    rw [hr]; blk_point [iblk, e5]
  refine congrArg₂ gated ?_ ?_
  · refine congrArg₂ (fun a b : EReal => a * b) (congrArg₂ (fun a b : EReal => a * b) (Finset.sum_congr rfl fun k _ => ?_) q1) q4
    exact congrArg₂ (fun (a : EReal) (b : BitVec 8) => a * (FloatOps.sitofp .bf16 (nib b k.val) : Ideal .bf16)) (q0 k) (q2 _)
  · refine congrArg₂ (fun a b : EReal => a * b) (congrArg₂ (fun a b : EReal => a * b) (Finset.sum_congr rfl fun k _ => ?_) q1) q5
    exact congrArg₂ (fun (a : EReal) (b : BitVec 8) => a * (FloatOps.sitofp .bf16 (nib b k.val) : Ideal .bf16)) (q0 k) (q3 _)

/-- The written-back blocks of the activations are those of the live blocks of rows. -/
theorem covers6 : ((cfgA (F := Ideal) T).win (6 : Fin 8)).CoversWhere (fun β => β (0 : Fin 2) < T.tot) := by
  have ht := T.tot_pos
  refine ⟨fun a => by fin_cases a; exact (by decide : 0 < 512); exact (by decide : 0 < 256), fun t hf => ⟨?_, fun a => .inl ?_⟩, fun β hβ => ?_⟩
  · rw [index6]; show min _ _ < _; omega
  · rfl
  · have h0 : (β (0 : Fin 2)).val < 10 := Nat.lt_of_lt_of_eq (β (0 : Fin 2)).isLt (show (5120 + 512 - 1) / 512 = 10 from rfl)
    have h1 : (β (1 : Fin 2)).val < 36 := Nat.lt_of_lt_of_eq (β (1 : Fin 2)).isLt (show (9216 + 256 - 1) / 256 = 36 from rfl)
    have hβ' : (β (0 : Fin 2)).val < T.tot := hβ
    by_cases hlast : 36 * (β (0 : Fin 2)).val + (β (1 : Fin 2)).val + 1 < 36 * T.tot
    · refine ⟨⟨36 * (β (0 : Fin 2)).val + (β (1 : Fin 2)).val, by show _ < 360; omega⟩, fun a => ?_, ?_⟩
      · rw [index6]
        fin_cases a
        · show min _ _ = _; simp only; show _ = (β (0 : Fin 2)).val; omega
        · show (if _ then _ else _) = _; simp only; rw [if_pos (by omega)]; show _ = (β (1 : Fin 2)).val; omega
      · rw [flush6]; simp only [decide_eq_true_eq]; omega
    · refine ⟨⟨359, by show _ < 360; omega⟩, fun a => ?_, ?_⟩
      · rw [index6]
        fin_cases a
        · show min (359 / 36) (T.tot - 1) = (β (0 : Fin 2)).val; omega
        · show (if 359 / 36 < T.tot then 359 % 36 else 35) = (β (1 : Fin 2)).val; split <;> omega
      · rw [flush6]; simp

/-- The activations after the run: in the live blocks, the reference's entries. -/
theorem final6 (c : Dev nD) (i : S5120x9216.Idx) (hi : (i 0).val / 512 < T.tot) :
    ((dats T m ρ 0 c).arrAt (6 : Fin 8) (cfgA (F := Ideal) T).N i : EReal) = G T m c (i 0) (i 1) := by
  have ht := T.tot_pos
  refine ((dats T m ρ 0 c).arrAt_apply_of_coversWhere (6 : Fin 8) (fun i : S5120x9216.Idx => G T m c (i 0) (i 1))
    (P := fun i : S5120x9216.Idx => (i 0).val / 512 < T.tot)
    (fun β => β (0 : Fin 2) < T.tot) (covers6 T) (fun t hf y => ?_) (fun j => Iff.rfl) i).trans (if_pos hi)
  rw [flush6] at hf
  have hf' : t.val + 1 = 360 ∨ t.val + 1 < 36 * T.tot := by simpa using hf
  have hN : t.val < 360 := t.isLt
  have hs : (lastLive T t).val = min t.val (36 * T.tot - 1) := rfl
  have e6 := index6 T t
  have key := actAt_apply T m ρ c (lastLive T t) (by omega) (y 0) (y 1)
  have hy : y = ix2 (y 0) (y 1) := by funext a; fin_cases a <;> rfl
  blk_simp
  rw [after0_6]
  refine ((congrArg (actAt T m ρ c (lastLive T t)) hy).trans key).trans (G_congr T m c _ _ _ _ ?_ ?_)
  · show (lastLive T t).val / 36 * 512 + (y 0).val = _
    blk_simp
    rw [e6]
    show _ = min (t.val / 36) (T.tot - 1) * 512 + (y 0).val
    omega
  · show (lastLive T t).val % 36 * 256 + (y 1).val = _
    blk_simp
    rw [e6]
    show _ = (if t.val / 36 < T.tot then t.val % 36 else 35) * 256 + (y 1).val
    split <;> omega

/-- The bits the row maxima start from are those of the least value. -/
theorem init_bot : (Ideal.ofBits .f32 0xFF800000#32 : EReal) = ⊥ := by
  simp [Ideal.ofBits, Ideal.ieee]

/-- The magnitude of an entry of a live row at a column (zero past the last one). -/
def mag (c : Dev nD) (r : Fin 5120) (k : ℕ) : EReal :=
  if h : k < 9216 then (FloatOps.absf (G T m c r ⟨k, h⟩ : Ideal .f32) : Ideal .f32) else 0

/-- A value is below the row maxima's bound exactly where every magnitude met so far is. -/
theorem amaxAt_le (c : Dev nD) (b : ℕ) (hb : b < T.tot) (r : Fin 512) (n : Fin 128) (z : EReal) :
    ∀ (j : ℕ) (hj : j < 36) (t : Fin (cfgA (F := Ideal) T).N) (ht : t.val = 36 * b + j),
      ((amaxAt T m ρ c t (ix2 r n) : EReal) ≤ z
        ↔ ∀ k, k < 2 * (j + 1) → mag T m c ⟨b * 512 + r.val, by have : t.val < 360 := t.isLt; omega⟩ (k * 128 + n.val) ≤ z) := by
  have first : ∀ (j : ℕ) (hj : j < 36) (t : Fin (cfgA (F := Ideal) T).N) (ht : t.val = 36 * b + j) (y : FVec Ideal S512x128 .f32),
      (amaxStep T m ρ c t y (ix2 r n) : EReal) = Scalar.select (Scalar.cmpi .eq (BitVec.ofNat 32 j) 0#32)
        (max (mag T m c ⟨b * 512 + r.val, by have : t.val < 360 := t.isLt; omega⟩ ((2 * j) * 128 + n.val))
          (mag T m c ⟨b * 512 + r.val, by have : t.val < 360 := t.isLt; omega⟩ ((2 * j + 1) * 128 + n.val)))
        (max (max (mag T m c ⟨b * 512 + r.val, by have : t.val < 360 := t.isLt; omega⟩ ((2 * j) * 128 + n.val))
          (mag T m c ⟨b * 512 + r.val, by have : t.val < 360 := t.isLt; omega⟩ ((2 * j + 1) * 128 + n.val))) (y (ix2 r n))) := by
    intro j hj t ht y
    have hN : t.val < 360 := t.isLt
    have hc : (crd (F := Ideal) T t 1).val = j := (crd1 t).trans (by omega)
    have a0 := actAt_apply T m ρ c t (by omega) r ⟨n.val, by omega⟩
    have a1 := actAt_apply T m ρ c t (by omega) r ⟨128 + n.val, by omega⟩
    have m0 : (FloatOps.absf (actAt T m ρ c t (ix2 r ⟨n.val, by omega⟩) : Ideal .f32) : Ideal .f32)
        = mag T m c ⟨b * 512 + r.val, by omega⟩ ((2 * j) * 128 + n.val) := by
      unfold mag
      rw [dif_pos (by omega)]
      exact congrArg (FloatOps.absf (F := Ideal) (φ := .f32)) (a0.trans (G_congr T m c _ _ _ _ (by show t.val / 36 * 512 + r.val = b * 512 + r.val; omega)
        (by show t.val % 36 * 256 + n.val = 2 * j * 128 + n.val; omega)))
    have m1 : (FloatOps.absf (actAt T m ρ c t (ix2 r ⟨128 + n.val, by omega⟩) : Ideal .f32) : Ideal .f32)
        = mag T m c ⟨b * 512 + r.val, by omega⟩ ((2 * j + 1) * 128 + n.val) := by
      unfold mag
      rw [dif_pos (by omega)]
      exact congrArg (FloatOps.absf (F := Ideal) (φ := .f32)) (a1.trans (G_congr T m c _ _ _ _ (by show t.val / 36 * 512 + r.val = b * 512 + r.val; omega)
        (by show t.val % 36 * 256 + (128 + n.val) = (2 * j + 1) * 128 + n.val; omega)))
    refine (amaxv_apply (crd T t) _ _ _ _ _ _ y r n).trans ?_
    rw [hc, ← m0, ← m1]
    rfl
  intro j
  induction j with
  | zero =>
    intro hj t ht
    have h := first 0 hj t ht (fun _ => 0)
    rw [amaxAt_first T m ρ c t (by omega)] at h
    rw [h]
    have e : Scalar.cmpi .eq (BitVec.ofNat 32 0) 0#32 = 1#1 := by decide
    rw [e]
    show max _ _ ≤ z ↔ _
    rw [max_le_iff]
    constructor
    · intro hh k hk
      have : k = 0 ∨ k = 1 := by omega
      rcases this with rfl | rfl
      · exact hh.1
      · exact hh.2
    · intro hh
      exact ⟨hh 0 (by omega), hh 1 (by omega)⟩
  | succ j ih =>
    intro hj t ht
    have hN : t.val < 360 := t.isLt
    have h := first (j + 1) hj t ht (amaxAt T m ρ c ⟨t.val - 1, Nat.lt_of_le_of_lt (Nat.sub_le _ _) t.isLt⟩)
    rw [amaxAt_step T m ρ c t (by omega)] at h
    rw [h]
    have e : Scalar.cmpi .eq (BitVec.ofNat 32 (j + 1)) 0#32 = 0#1 := by
      have : ∀ q : Fin 36, q.val ≠ 0 → Scalar.cmpi .eq (BitVec.ofNat 32 q.val) 0#32 = 0#1 := by decide
      exact this ⟨j + 1, hj⟩ (by simp)
    rw [e]
    show max (max _ _) _ ≤ z ↔ _
    rw [max_le_iff, max_le_iff, ih (by omega) ⟨t.val - 1, _⟩ (by show t.val - 1 = _; omega)]
    constructor
    · intro hh k hk
      by_cases hk' : k < 2 * (j + 1)
      · exact hh.2 k hk'
      · have : k = 2 * (j + 1) ∨ k = 2 * (j + 1) + 1 := by omega
        rcases this with rfl | rfl
        · exact hh.1.1
        · exact hh.1.2
    · intro hh
      exact ⟨⟨hh _ (by omega), hh _ (by omega)⟩, fun k hk => hh k (by omega)⟩

/-- At the last column block the row maxima are the row's. -/
theorem amaxAt_apply (c : Dev nD) (t : Fin (cfgA (F := Ideal) T).N) (hl : t.val < 36 * T.tot) (h35 : t.val % 36 = 35) (r : Fin 512) (n : Fin 128) :
    (amaxAt T m ρ c t (ix2 r n) : EReal)
      = rowMax (G T m c ⟨t.val / 36 * 512 + r.val, by have : t.val < 360 := t.isLt; omega⟩) n := by
  refine eq_of_forall_ge_iff fun z => ?_
  rw [amaxAt_le T m ρ c (t.val / 36) (by omega) r n z 35 (by omega) t (by omega)]
  unfold rowMax
  rw [Finset.fold_max_le, init_bot]
  constructor
  · intro h
    refine ⟨bot_le, fun k _ => ?_⟩
    have := h k.val (by omega)
    unfold mag at this
    rw [dif_pos (by omega)] at this
    exact this
  · intro h k hk
    unfold mag
    rw [dif_pos (by omega)]
    exact h.2 ⟨k, by omega⟩ (Finset.mem_univ _)

/-- The written-back blocks of the row maxima are those of the live blocks of rows. -/
theorem covers7 : ((cfgA (F := Ideal) T).win (7 : Fin 8)).CoversWhere (fun β => β (0 : Fin 2) < T.tot) := by
  have ht := T.tot_pos
  refine ⟨fun a => by fin_cases a; exact (by decide : 0 < 512); exact (by decide : 0 < 128), fun t hf => ⟨?_, fun a => .inl ?_⟩, fun β hβ => ?_⟩
  · rw [index7]; show min _ _ < _; omega
  · rfl
  · have h0 : (β (0 : Fin 2)).val < 10 := Nat.lt_of_lt_of_eq (β (0 : Fin 2)).isLt (show (5120 + 512 - 1) / 512 = 10 from rfl)
    have h1 : (β (1 : Fin 2)).val < 1 := Nat.lt_of_lt_of_eq (β (1 : Fin 2)).isLt (show (128 + 128 - 1) / 128 = 1 from rfl)
    have hβ' : (β (0 : Fin 2)).val < T.tot := hβ
    by_cases hlast : 36 * (β (0 : Fin 2)).val + 35 + 1 < 36 * T.tot
    · refine ⟨⟨36 * (β (0 : Fin 2)).val + 35, by show _ < 360; omega⟩, fun a => ?_, ?_⟩
      · rw [index7]
        fin_cases a
        · show min _ _ = _; simp only; show _ = (β (0 : Fin 2)).val; omega
        · show 0 = (β (1 : Fin 2)).val; omega
      · rw [flush7]; simp only [decide_eq_true_eq]; omega
    · refine ⟨⟨359, by show _ < 360; omega⟩, fun a => ?_, ?_⟩
      · rw [index7]
        fin_cases a
        · show min (359 / 36) (T.tot - 1) = (β (0 : Fin 2)).val; omega
        · show 0 = (β (1 : Fin 2)).val; omega
      · rw [flush7]; simp

/-- The row maxima after the run: in the live blocks, those of the activations. -/
theorem final7 (c : Dev nD) (i : S5120x128.Idx) (hi : (i 0).val / 512 < T.tot) :
    ((dats T m ρ 0 c).arrAt (7 : Fin 8) (cfgA (F := Ideal) T).N i : EReal) = rowMax (G T m c (i 0)) (i 1) := by
  have ht := T.tot_pos
  refine ((dats T m ρ 0 c).arrAt_apply_of_coversWhere (7 : Fin 8) (fun i : S5120x128.Idx => rowMax (G T m c (i 0)) (i 1))
    (P := fun i : S5120x128.Idx => (i 0).val / 512 < T.tot)
    (fun β => β (0 : Fin 2) < T.tot) (covers7 T) (fun t hf y => ?_) (fun j => Iff.rfl) i).trans (if_pos hi)
  rw [flush7] at hf
  have hf' : t.val + 1 = 360 ∨ (t.val + 1 < 36 * T.tot ∧ (t.val + 1) % 36 = 0) := by simpa using hf
  have hN : t.val < 360 := t.isLt
  have hs : (lastLive T t).val = min t.val (36 * T.tot - 1) := rfl
  have e7 := index7 T t
  have key := amaxAt_apply T m ρ c (lastLive T t) (by omega) (by omega) (y 0) (y 1)
  have hy : y = ix2 (y 0) (y 1) := by funext a; fin_cases a <;> rfl
  blk_simp
  rw [after0_7]
  refine ((congrArg (amaxAt T m ρ c (lastLive T t)) hy).trans key).trans (congrArg₂ (fun a b => rowMax (G T m c a) b) (Fin.ext ?_) (Fin.ext ?_))
  · show (lastLive T t).val / 36 * 512 + (y 0).val = _
    blk_simp
    rw [e7]
    show _ = min (t.val / 36) (T.tot - 1) * 512 + (y 0).val
    omega
  · show (y 1).val = _
    blk_simp
    rw [e7]
    show _ = 0 * 128 + (y 1).val
    omega

end Cert.UpIdeal.Hand

end
-- ==== Proof.UpAlgebraic.lean ====
/- The first feed-forward kernel against its reference: the activations and the row magnitudes are equal on every row of
   a live block. -/
module

public import proofs.«01_k».proof.Proof.UpIdeal.Admit
public import proofs.«01_k».proof.Proof.UpIdeal.Value
public import proofs.«01_k».proof.Proof.UpRefIdeal.Point
public import proofs.«01_k».proof.Proof.Gen.UpRefIdeal

@[expose] public section

set_option maxRecDepth 16384

noncomputable section

namespace Cert.Hand

open Idealize.ShloMosaic Idealize.ShloMosaic.TcCoe Idealize.SL.Sem

/-- The claim: both programs run, keep their arguments, and agree wherever the masks say so. -/
theorem up_algebraic : Cert.algebraic_UpIdeal_UpRefIdeal_on_on1 := by
  intro m ρ m' ρ' hpre hag
  obtain ⟨T, hT⟩ := Cert.UpIdeal.Hand.exists_tab m hpre
  have h0 : ∀ c : Dev Cert.UpIdeal.nD, T.T0 = m' ((c : Thread Cert.UpRefIdeal.nD Cert.UpRefIdeal.τ).loc Cert.UpRefIdeal.main_arg0) :=
    fun c => (hT.1 c).symm.trans (hag c).1.symm
  have he : ∀ (c : Dev Cert.UpIdeal.nD) i, (m' ((c : Thread Cert.UpRefIdeal.nD Cert.UpRefIdeal.τ).loc Cert.UpRefIdeal.main_arg0) i).toNat < 4 :=
    fun c i => by rw [← h0 c]; exact T.h0 _
  have hG : ∀ (c : Dev Cert.UpIdeal.nD) (r : Fin 5120) (n : Fin 9216),
      up (m' ((c : Thread Cert.UpRefIdeal.nD Cert.UpRefIdeal.τ).loc Cert.UpRefIdeal.main_arg2))
        (m' ((c : Thread Cert.UpRefIdeal.nD Cert.UpRefIdeal.τ).loc Cert.UpRefIdeal.main_arg3))
        (m' ((c : Thread Cert.UpRefIdeal.nD Cert.UpRefIdeal.τ).loc Cert.UpRefIdeal.main_arg4))
        (m' ((c : Thread Cert.UpRefIdeal.nD Cert.UpRefIdeal.τ).loc Cert.UpRefIdeal.main_arg5))
        (m' ((c : Thread Cert.UpRefIdeal.nD Cert.UpRefIdeal.τ).loc Cert.UpRefIdeal.main_arg6))
        (m' ((c : Thread Cert.UpRefIdeal.nD Cert.UpRefIdeal.τ).loc Cert.UpRefIdeal.main_arg7))
        ⟨_, he c (ix1 ⟨r.val / 512, by omega⟩)⟩ r n = Cert.UpIdeal.Hand.G T m c r n := fun c r n => by
    have hx : T.rowExp r = ⟨_, he c (ix1 ⟨r.val / 512, by omega⟩)⟩ := by
      apply Fin.ext
      show (T.T0 (Cert.UpIdeal.Hand.ix10 ⟨r.val / 512, _⟩)).toNat = _
      rw [h0 c]
      refine congrArg (fun j => (m' ((c : Thread Cert.UpRefIdeal.nD Cert.UpRefIdeal.τ).loc Cert.UpRefIdeal.main_arg0) j).toNat) ?_
      funext a; fin_cases a; rfl
    unfold Cert.UpIdeal.Hand.G
    rw [← (hag c).2.2.1, ← (hag c).2.2.2.1, ← (hag c).2.2.2.2.1, ← (hag c).2.2.2.2.2.1, ← (hag c).2.2.2.2.2.2.1, ← (hag c).2.2.2.2.2.2.2]
    exact congrArg (fun e => up _ _ _ _ _ _ e r n) hx.symm
  have live : ∀ (c : Dev Cert.UpIdeal.nD) (r : Fin 5120),
      r.val / 512 < (m ((c : Thread Cert.UpIdeal.nD Cert.UpIdeal.τ).loc Cert.UpIdeal.main_arg1) (ix1 0)).toNat → r.val / 512 < T.tot := fun c r h => by
    rw [hT.2 c] at h
    exact Nat.lt_of_lt_of_eq h (congrArg (fun j => (T.T1 j).toNat) (Cert.UpIdeal.Hand.idx1_eq (ix1 0)))
  refine ⟨fun c => fun i : Cert.UpIdeal.S5120x9216.Idx => Cert.UpIdeal.Hand.G T m c (i 0) (i 1),
    fun c => fun i : Cert.UpIdeal.S5120x128.Idx => rowMax (Cert.UpIdeal.Hand.G T m c (i 0)) (i 1), ?_, ?_⟩
  · refine (θ_run Cert.UpIdeal.defs _ _).mono (fun r hz c => ?_) (θ_run_and (Cert.UpIdeal.Hand.run_main T m ρ hT) (Cert.UpIdeal.Hand.frame T m ρ hT))
    refine ⟨fun i hi => ?_, fun i hi => ?_, hz.2.1 c⟩
    · obtain ⟨r0, n, rfl⟩ : ∃ (r0 : Fin 5120) (n : Fin 9216), i = ix2 r0 n := ⟨i 0, i 1, by funext a; fin_cases a <;> rfl⟩
      have hlive := live c r0 (on1_live_act r0 n (fun x => by rw [hT.2 c]; exact ⟨T.h1 x, T.h2 x⟩) hi)
      exact (congrFun ((hz.1.1 c).1 (6 : Fin 8)) (ix2 r0 n)).trans (Cert.UpIdeal.Hand.final6 T m ρ c (ix2 r0 n) hlive)
    · obtain ⟨r0, n, rfl⟩ : ∃ (r0 : Fin 5120) (n : Fin 128), i = ix2 r0 n := ⟨i 0, i 1, by funext a; fin_cases a <;> rfl⟩
      have hlive := live c r0 (on1_live_amax r0 n (fun x => by rw [hT.2 c]; exact ⟨T.h1 x, T.h2 x⟩) hi)
      exact (congrFun ((hz.1.1 c).1 (7 : Fin 8)) (ix2 r0 n)).trans (Cert.UpIdeal.Hand.final7 T m ρ c (ix2 r0 n) hlive)
  · refine (θ_run Cert.UpRefIdeal.defs _ _).mono (fun r h c => ?_)
      (θ_run_and (Cert.UpRefIdeal.Hand.run_apply m' ρ' he) (Cert.UpRefIdeal.Value.run m' ρ'))
    have hA : ∀ (r0 : Fin 5120) (n : Fin 9216), (r.2.mem ((c.tc : Thread Cert.UpRefIdeal.nD Cert.UpRefIdeal.τ).loc Cert.UpRefIdeal.main_v224) (ix2 r0 n) : EReal)
        = Cert.UpIdeal.Hand.G T m c r0 n := fun r0 n => ((h.1 c).1 r0 n).trans (hG c r0 n)
    refine ⟨fun i _ => ?_, fun i _ => ?_, (h.2 c).2.2⟩
    · obtain ⟨r0, n, rfl⟩ : ∃ (r0 : Fin 5120) (n : Fin 9216), i = ix2 r0 n := ⟨i 0, i 1, by funext a; fin_cases a <;> rfl⟩
      exact hA r0 n
    · obtain ⟨r0, n, rfl⟩ : ∃ (r0 : Fin 5120) (n : Fin 128), i = ix2 r0 n := ⟨i 0, i 1, by funext a; fin_cases a <;> rfl⟩
      exact ((h.1 c).2 r0 n).trans (congrArg (fun A => rowMax A n) (funext fun k => hA r0 k))

end Cert.Hand

end
-- ==== Proof.DownRefIdeal.Point.lean ====
/- The second feed-forward reference, entry by entry: the row's product with its block's expert, scaled. -/
module

public import proofs.«01_k».proof.Proof.Gen.DownRefIdeal.Run
public import proofs.«01_k».proof.Proof.Nib
public import Idealize.ShloMosaic.Lib.Pipeline.ValueKit

@[expose] public section

set_option maxRecDepth 16384

noncomputable section

namespace Cert.Hand

open Idealize.ShloMosaic

/-- Row `r`, column `n` of the down product through expert `e`. -/
def down (X0 : FVec Ideal ⟨2, ![5120, 9216]⟩ .bf16) (X1 : FVec Ideal ⟨2, ![5120, 128]⟩ .f32)
    (X2 : IVec ⟨3, ![4, 4608, 6144]⟩ 8) (X3 : FVec Ideal ⟨3, ![4, 1, 6144]⟩ .f32)
    (e : Fin 4) (r : Fin 5120) (n : Fin 6144) : EReal :=
  (∑ k : Fin 9216, X0 (ix2 r k) * (FloatOps.sitofp .bf16 (nib (X2 (ix3 e ⟨k.val / 2, by omega⟩ n)) k.val) : Ideal .bf16))
    * X1 (ix2 r 0) * X3 (ix3 e 0 n)

/-- The same with the nibble in the reference's spelling. -/
def downHost (X0 : FVec Ideal ⟨2, ![5120, 9216]⟩ .bf16) (X1 : FVec Ideal ⟨2, ![5120, 128]⟩ .f32)
    (X2 : IVec ⟨3, ![4, 4608, 6144]⟩ 8) (X3 : FVec Ideal ⟨3, ![4, 1, 6144]⟩ .f32)
    (e : Fin 4) (r : Fin 5120) (n : Fin 6144) : EReal :=
  (∑ k : Fin 9216, X0 (ix2 r k) * (FloatOps.sitofp .bf16
      (if h : k.val % 2 < 1 then
        IntOp.shrsi ArithUnit.host (IntOp.shli ArithUnit.host (BitVec.setWidth 32 (X2 (ix3 e ⟨k.val / 2, by omega⟩ n))) 28#32) 28#32
      else IntOp.shrsi ArithUnit.host (IntOp.shli ArithUnit.host (BitVec.setWidth 32 (X2 (ix3 e ⟨k.val / 2, by omega⟩ n))) 24#32) 28#32) :
        Ideal .bf16))
    * X1 (ix2 r 0) * X3 (ix3 e 0 n)

theorem downHost_eq (X0 : FVec Ideal ⟨2, ![5120, 9216]⟩ .bf16) (X1 : FVec Ideal ⟨2, ![5120, 128]⟩ .f32)
    (X2 : IVec ⟨3, ![4, 4608, 6144]⟩ 8) (X3 : FVec Ideal ⟨3, ![4, 1, 6144]⟩ .f32)
    (e : Fin 4) (r : Fin 5120) (n : Fin 6144) : downHost X0 X1 X2 X3 e r n = down X0 X1 X2 X3 e r n := by
  refine congrArg (fun z : EReal => z * X1 (ix2 r 0) * X3 (ix3 e 0 n)) (Finset.sum_congr rfl fun k _ => ?_)
  exact congrArg (fun w : BitVec 32 => (X0 (ix2 r k) : EReal) * (FloatOps.sitofp .bf16 w : Ideal .bf16))
    (nib_ite (X2 (ix3 e ⟨k.val / 2, by omega⟩ n)) k.val)

end Cert.Hand

namespace Cert.DownRefIdeal.Hand

open Idealize.ShloMosaic Idealize.ShloMosaic.TcCoe Idealize.SL.Sem
open Cert.DownRefIdeal Cert.Hand

/-- An entry of the reference's result, where the row's expert is one of the four. -/
theorem ref_apply (m : (ℓ : Loc nD τ sig) → Buf (Elt Ideal) ℓ) (c : Dev nD) (r : Fin 5120) (n : Fin 6144)
    (he : (m ((c : Thread nD τ).loc main_arg0) (ix1 ⟨r.val / 512, by omega⟩)).toNat < 4) :
    (Value.res_main_v120 m c : FVec Ideal S5120x6144 .f32) (ix2 r n)
      = down (m ((c : Thread nD τ).loc main_arg2)) (m ((c : Thread nD τ).loc main_arg3)) (m ((c : Thread nD τ).loc main_arg4))
          (m ((c : Thread nD τ).loc main_arg5)) ⟨_, he⟩ r n := by
  pointwise [Value.res_main_v120]
  exact (select_expert _ he (fun e => downHost (m ((c : Thread nD τ).loc main_arg2)) (m ((c : Thread nD τ).loc main_arg3)) (m ((c : Thread nD τ).loc main_arg4))
          (m ((c : Thread nD τ).loc main_arg5)) e r n) 0).trans (downHost_eq _ _ _ _ _ _ _)

end Cert.DownRefIdeal.Hand

end
-- ==== Proof.DownIdeal.Value.lean ====
/- The second feed-forward kernel's result on any admissible tables: in the live blocks the array holds, row by row, the
   row's product with its block's expert, scaled. -/
module

public import proofs.«01_k».proof.Proof.DownIdeal.Launch
public import proofs.«01_k».proof.Proof.DownRefIdeal.Point
public import Idealize.ShloMosaic.Lib.Pipeline.ValueKit

@[expose] public section

set_option maxRecDepth 16384

noncomputable section

namespace Cert.DownIdeal.Hand

open Cert.DownIdeal Cert.DownIdeal.Gen Cert.Hand
open Idealize.ShloMosaic
open Idealize.ShloMosaic.TcCoe Idealize.ShloMosaic.Tactic
open Idealize.ShloMosaic.Pipeline (Dat Cfg Window)

variable (T : Tab)
variable (m : (ℓ : Loc nD τ sig) → Buf (Elt Ideal) ℓ) (ρ : Dev nD → PrngReg)

/-- One block's payload, entry by entry. -/
theorem outv_apply (x0 : FVec Ideal S512x9216 .bf16) (x1 : FVec Ideal S512x128 .f32) (x2 : IVec S1x4608x512 8) (x3 : FVec Ideal S1x1x512 .f32)
    (r n : Fin 512) :
    (outv (F := Ideal) x0 x1 x2 x3 (ix2 r n) : EReal)
      = (∑ k : Fin 9216, x0 (ix2 r k) * (FloatOps.sitofp .bf16 (nib (x2 (ix3 0 ⟨k.val / 2, by omega⟩ n)) k.val) : Ideal .bf16))
          * x1 (ix2 r 0) * x3 (ix3 0 0 n) := by
  unfold outv
  pointwise [k0_pay1]
  refine congrArg₂ (fun a b : EReal => a * b * x3 (ix3 0 0 n)) (Finset.sum_congr rfl fun k _ => ?_) ?_
  · exact congrArg (fun w : BitVec 32 => (x0 (ix2 r k) : EReal) * (FloatOps.sitofp .bf16 w : Ideal .bf16))
      (nib_select (x2 (ix3 0 ⟨k.val / 2, by omega⟩ n)) k.val)
  · refine congrArg x1 ?_
    funext a; fin_cases a <;> apply Fin.ext <;> simp [ix2]

/-- Window 0's block at a point. -/
theorem index0 (t : Fin (cfgA (F := Ideal) T).N) : ((cfgA (F := Ideal) T).win (0 : Fin 5)).index t
    = ![min (t.val / 12) (T.tot - 1), 0] := by
  show cc0_transform_0 inb_S1_S1_0 numel1_S1 (pfN (F := Ideal) T) (grid0.coords t) = _
  rw [tr0, crd0]

/-- Window 1's block at a point. -/
theorem index1 (t : Fin (cfgA (F := Ideal) T).N) : ((cfgA (F := Ideal) T).win (1 : Fin 5)).index t
    = ![min (t.val / 12) (T.tot - 1), 0] := by
  show cc0_transform_1 inb_S1_S1_0 numel1_S1 (pfN (F := Ideal) T) (grid0.coords t) = _
  rw [tr1, crd0]

/-- Window 2's block at a point. -/
theorem index2 (t : Fin (cfgA (F := Ideal) T).N) : ((cfgA (F := Ideal) T).win (2 : Fin 5)).index t
    = ![T.exp (grid0.coords t 0), 0, if t.val / 12 < T.tot then t.val % 12 else 11] := by
  show cc0_transform_2 k0_off1_inb numel1_S1 inb_S1_S1_0 (pfN (F := Ideal) T) (grid0.coords t) = _
  rw [tr2, crd0, crd1]

/-- Window 3's block at a point. -/
theorem index3 (t : Fin (cfgA (F := Ideal) T).N) : ((cfgA (F := Ideal) T).win (3 : Fin 5)).index t
    = ![T.exp (grid0.coords t 0), 0, if t.val / 12 < T.tot then t.val % 12 else 11] := by
  show cc0_transform_3 k0_off1_inb numel1_S1 inb_S1_S1_0 (pfN (F := Ideal) T) (grid0.coords t) = _
  rw [tr3, crd0, crd1]

/-- The expert of row `r`. -/
def Tab.rowExp (T : Tab) (r : Fin 5120) : Fin 4 := ⟨T.exp ⟨r.val / 512, by omega⟩, T.exp_lt _⟩

/-- What the result holds at an index of a live block. -/
def G (c : Dev nD) (i : S5120x6144.Idx) : EReal :=
  down (m ((c : Thread nD τ).loc main_arg2)) (m ((c : Thread nD τ).loc main_arg3)) (m ((c : Thread nD τ).loc main_arg4))
    (m ((c : Thread nD τ).loc main_arg5)) (T.rowExp (i 0)) (i 0) (i 1)

theorem G_congr (c : Dev nD) (i j : S5120x6144.Idx) (h0 : (i 0).val = (j 0).val) (h1 : (i 1).val = (j 1).val) :
    G T m c i = G T m c j := by
  have : i = j := by
    funext a; fin_cases a
    · exact Fin.ext h0
    · exact Fin.ext h1
  rw [this]

/-- A live point's block, entry by entry. -/
theorem outAt_apply (c : Dev nD) (t : Fin (cfgA (F := Ideal) T).N) (hl : t.val < 12 * T.tot) (r n : Fin 512) :
    (outAt T m ρ c t (ix2 r n) : EReal)
      = G T m c (ix2 ⟨t.val / 12 * 512 + r.val, by have : t.val < 120 := t.isLt; omega⟩ ⟨t.val % 12 * 512 + n.val, by omega⟩) := by
  have ht : t.val < 120 := t.isLt
  have hb : t.val / 12 < T.tot := by omega
  have e0 := index0 T t
  have e1 := index1 T t
  have e2 := index2 T t
  have e3 := index3 T t
  rw [if_pos hb] at e2 e3
  have hx : T.exp (grid0.coords t 0) = T.exp ⟨t.val / 12, by omega⟩ := by
    congr 1; exact Fin.ext (crd0 t)
  rw [hx] at e2 e3
  unfold outAt G down
  have hr : T.rowExp ⟨t.val / 12 * 512 + r.val, by omega⟩ = ⟨T.exp ⟨t.val / 12, by omega⟩, T.exp_lt _⟩ := by
    unfold Tab.rowExp
    apply Fin.ext
    show T.exp _ = T.exp _
    congr 1
    apply Fin.ext
    show (t.val / 12 * 512 + r.val) / 512 = t.val / 12
    omega
  refine (outv_apply _ _ _ _ r n).trans ?_
  show _ = (∑ k : Fin 9216, _) * _ * _
  have q0 : ∀ k : Fin 9216, iblk T m ρ c (0 : Fin 5) t (ix2 r k)
      = m ((c : Thread nD τ).loc main_arg2) (ix2 ⟨t.val / 12 * 512 + r.val, by omega⟩ k) := fun k => by
    blk_point [iblk, e0]
  have q1 : iblk T m ρ c (1 : Fin 5) t (ix2 r 0)
      = m ((c : Thread nD τ).loc main_arg3) (ix2 ⟨t.val / 12 * 512 + r.val, by omega⟩ 0) := by
    blk_point [iblk, e1]
  have q2 : ∀ k : Fin 4608, iblk T m ρ c (2 : Fin 5) t (ix3 0 k n)
      = m ((c : Thread nD τ).loc main_arg4) (ix3 ⟨T.exp ⟨t.val / 12, by omega⟩, T.exp_lt _⟩ k ⟨t.val % 12 * 512 + n.val, by omega⟩) := fun k => by
    blk_point [iblk, e2]
  have q3 : iblk T m ρ c (3 : Fin 5) t (ix3 0 0 n)
      = m ((c : Thread nD τ).loc main_arg5) (ix3 ⟨T.exp ⟨t.val / 12, by omega⟩, T.exp_lt _⟩ 0 ⟨t.val % 12 * 512 + n.val, by omega⟩) := by
    blk_point [iblk, e3]
  refine congrArg₂ (fun a b : EReal => a * b) (congrArg₂ (fun a b : EReal => a * b) (Finset.sum_congr rfl fun k _ => ?_) q1) ?_
  · refine congrArg₂ (fun (a : EReal) (b : BitVec 8) => a * (FloatOps.sitofp .bf16 (nib b k.val) : Ideal .bf16)) (q0 k) ?_
    rw [q2]
    exact congrArg (fun e => m ((c : Thread nD τ).loc main_arg4) (ix3 e _ _)) hr.symm
  · rw [q3]
    exact congrArg (fun e => m ((c : Thread nD τ).loc main_arg5) (ix3 e _ _)) hr.symm

/-- The written-back blocks are those of the live blocks of rows. -/
theorem covers : ((cfgA (F := Ideal) T).win (4 : Fin 5)).CoversWhere (fun β => β (0 : Fin 2) < T.tot) := by
  have ht := T.tot_pos
  refine ⟨fun a => by fin_cases a <;> exact (by decide : 0 < 512), fun t hf => ⟨?_, fun a => .inl ?_⟩, fun β hβ => ?_⟩
  · rw [index4]; show min _ _ < _; omega
  · rfl
  · have h0 : (β (0 : Fin 2)).val < 10 := Nat.lt_of_lt_of_eq (β (0 : Fin 2)).isLt (show (5120 + 512 - 1) / 512 = 10 from rfl)
    have h1 : (β (1 : Fin 2)).val < 12 := Nat.lt_of_lt_of_eq (β (1 : Fin 2)).isLt (show (6144 + 512 - 1) / 512 = 12 from rfl)
    have hβ' : (β (0 : Fin 2)).val < T.tot := hβ
    by_cases hlast : 12 * (β (0 : Fin 2)).val + (β (1 : Fin 2)).val + 1 < 12 * T.tot
    · refine ⟨⟨12 * (β (0 : Fin 2)).val + (β (1 : Fin 2)).val, by show _ < 120; omega⟩, fun a => ?_, ?_⟩
      · rw [index4]
        fin_cases a
        · show min _ _ = _; simp only; show _ = (β (0 : Fin 2)).val; omega
        · show (if _ then _ else _) = _; simp only; rw [if_pos (by omega)]; show _ = (β (1 : Fin 2)).val; omega
      · rw [flush4]; simp only [decide_eq_true_eq]; omega
    · refine ⟨⟨119, by show _ < 120; omega⟩, fun a => ?_, ?_⟩
      · rw [index4]
        fin_cases a
        · show min (119 / 12) (T.tot - 1) = (β (0 : Fin 2)).val; omega
        · show (if 119 / 12 < T.tot then 119 % 12 else 11) = (β (1 : Fin 2)).val; split <;> omega
      · rw [flush4]; simp

/-- The result after the run: in the live blocks, the reference's entries. -/
theorem final (c : Dev nD) (i : S5120x6144.Idx) (hi : (i 0).val / 512 < T.tot) :
    ((dats T m ρ 0 c).arrAt (4 : Fin 5) (cfgA (F := Ideal) T).N i : EReal) = G T m c i := by
  have ht := T.tot_pos
  refine ((dats T m ρ 0 c).arrAt_apply_of_coversWhere (4 : Fin 5) (G T m c) (P := fun i : S5120x6144.Idx => (i 0).val / 512 < T.tot)
    (fun β => β (0 : Fin 2) < T.tot) (covers T) (fun t hf y => ?_) (fun j => Iff.rfl) i).trans (if_pos hi)
  rw [flush4] at hf
  have hf' : t.val + 1 = 120 ∨ t.val + 1 < 12 * T.tot := by simpa using hf
  have hN : t.val < 120 := t.isLt
  have hs : (lastLive T t).val = min t.val (12 * T.tot - 1) := rfl
  have e4 := index4 T t
  have key := outAt_apply T m ρ c (lastLive T t) (by omega) (y 0) (y 1)
  have hy : y = ix2 (y 0) (y 1) := by funext a; fin_cases a <;> rfl
  blk_simp
  rw [after0_4]
  refine ((congrArg (outAt T m ρ c (lastLive T t)) hy).trans key).trans (G_congr T m c _ _ ?_ ?_)
  · show (lastLive T t).val / 12 * 512 + (y 0).val = _
    blk_simp
    rw [e4]
    show _ = min (t.val / 12) (T.tot - 1) * 512 + (y 0).val
    omega
  · show (lastLive T t).val % 12 * 512 + (y 1).val = _
    blk_simp
    rw [e4]
    show _ = (if t.val / 12 < T.tot then t.val % 12 else 11) * 512 + (y 1).val
    split <;> omega

end Cert.DownIdeal.Hand

end
-- ==== Proof.DownAlgebraic.lean ====
/- The second feed-forward kernel against its reference: equal on every row of a live block. -/
module

public import proofs.«01_k».proof.Proof.DownIdeal.Admit
public import proofs.«01_k».proof.Proof.DownIdeal.Value
public import proofs.«01_k».proof.Proof.DownRefIdeal.Point
public import proofs.«01_k».proof.Proof.Gen.DownRefIdeal

@[expose] public section

set_option maxRecDepth 16384

noncomputable section

namespace Cert.Hand

open Idealize.ShloMosaic Idealize.ShloMosaic.TcCoe Idealize.SL.Sem

/-- The claim: both programs run, keep their arguments, and agree wherever the mask says so. -/
theorem down_algebraic : Cert.algebraic_DownIdeal_DownRefIdeal_on_on2 := by
  intro m ρ m' ρ' hpre hag
  obtain ⟨T, hT⟩ := Cert.DownIdeal.Hand.exists_tab m hpre
  refine ⟨fun c => Cert.DownRefIdeal.Value.res_main_v120 m' c, ?_, ?_⟩
  · refine (θ_run Cert.DownIdeal.defs _ _).mono (fun r hz c => ?_) (θ_run_and (Cert.DownIdeal.Hand.run_main T m ρ hT) (Cert.DownIdeal.Hand.frame T m ρ hT))
    refine ⟨fun i hi => ?_, hz.2.1 c⟩
    obtain ⟨r0, n, rfl⟩ : ∃ (r0 : Fin 5120) (n : Fin 6144), i = ix2 r0 n := ⟨i 0, i 1, by funext a; fin_cases a <;> rfl⟩
    have h0 : T.T0 = m' ((c : Thread Cert.DownRefIdeal.nD Cert.DownRefIdeal.τ).loc Cert.DownRefIdeal.main_arg0) :=
      (hT.1 c).symm.trans (hag c).1.symm
    have h1 := hT.2 c
    have hlive : r0.val / 512 < T.tot := by
      have := on2_live r0 n (fun x => by rw [h1]; exact ⟨T.h1 x, T.h2 x⟩) hi
      rw [h1] at this
      exact Nat.lt_of_lt_of_eq this (congrArg (fun j => (T.T1 j).toNat) (Cert.DownIdeal.Hand.idx1_eq (ix1 0)))
    have he : (m' ((c : Thread Cert.DownRefIdeal.nD Cert.DownRefIdeal.τ).loc Cert.DownRefIdeal.main_arg0) (ix1 ⟨r0.val / 512, by omega⟩)).toNat < 4 := by
      rw [← h0]; exact T.h0 _
    refine (congrFun ((hz.1.1 c).1 (4 : Fin 5)) (ix2 r0 n)).trans ?_
    refine (Cert.DownIdeal.Hand.final T m ρ c (ix2 r0 n) hlive).trans ?_
    refine Eq.trans ?_ (Cert.DownRefIdeal.Hand.ref_apply m' c r0 n he).symm
    have hx : T.rowExp r0 = ⟨_, he⟩ := by
      apply Fin.ext
      show (T.T0 (Cert.DownIdeal.Hand.ix10 ⟨r0.val / 512, _⟩)).toNat = _
      rw [h0]
      refine congrArg (fun j => (m' ((c : Thread Cert.DownRefIdeal.nD Cert.DownRefIdeal.τ).loc Cert.DownRefIdeal.main_arg0) j).toNat) ?_
      funext a; fin_cases a; rfl
    unfold Cert.DownIdeal.Hand.G
    rw [← (hag c).2.2.1, ← (hag c).2.2.2.1, ← (hag c).2.2.2.2.1, ← (hag c).2.2.2.2.2]
    exact congrArg (fun e => down _ _ _ _ e r0 n) hx
  · exact (θ_run Cert.DownRefIdeal.defs _ _).mono (fun r h c => ⟨fun i _ => congrFun (h c).1 i, (h c).2⟩) (Cert.DownRefIdeal.Value.run m' ρ')

end Cert.Hand

end
-- ==== Proof.RefFrames.lean ====
/- The frames of the references of the projections and of the first normalisation, which declare no semaphore. -/
module

public import proofs.«01_k».proof.Defs
public import proofs.«01_k».proof.Proof.Gen.NormRefIdeal.Run
public import proofs.«01_k».proof.Proof.Gen.GatedRefIdeal.Run
public import proofs.«01_k».proof.Proof.Gen.QkvRefIdeal.Run
public import proofs.«01_k».proof.Proof.Gen.GateRefIdeal.Run
public import proofs.«01_k».proof.Proof.Gen.OutRefIdeal.Run
public import Idealize.ShloMosaic.Lib.Quiescent

@[expose] public section

set_option maxRecDepth 16384

noncomputable section

namespace Cert.Hand

open Idealize.ShloMosaic Idealize.ShloMosaic.TcCoe Idealize.SL.Sem

/-- The normalisation: the reference runs, its arguments end unchanged and every semaphore counter at zero. -/
theorem norm_ref_frame : Cert.quiescent_NormRefIdeal := fun m ρ _ =>
  (θ_run Cert.NormRefIdeal.defs _ _).mono (fun r h => ⟨fun c => (h c).2.2.2.2.2, sem_eq_zero_of_no_sems (by decide) r.2⟩) (Cert.NormRefIdeal.Value.run m ρ)

/-- The query, key and value projections: the reference runs, its arguments end unchanged and every semaphore counter at zero. -/
theorem qkv_ref_frame : Cert.quiescent_QkvRefIdeal := fun m ρ _ =>
  (θ_run Cert.QkvRefIdeal.defs _ _).mono (fun r h => ⟨fun c => (h c).2, sem_eq_zero_of_no_sems (by decide) r.2⟩) (Cert.QkvRefIdeal.Value.run m ρ)

/-- The output gate's projection: the reference runs, its arguments end unchanged and every semaphore counter at zero. -/
theorem gate_ref_frame : Cert.quiescent_GateRefIdeal := fun m ρ _ =>
  (θ_run Cert.GateRefIdeal.defs _ _).mono (fun r h => ⟨fun c => (h c).2, sem_eq_zero_of_no_sems (by decide) r.2⟩) (Cert.GateRefIdeal.Value.run m ρ)

/-- The output projection: the reference runs, its arguments end unchanged and every semaphore counter at zero. -/
theorem out_ref_frame : Cert.quiescent_OutRefIdeal := fun m ρ _ =>
  (θ_run Cert.OutRefIdeal.defs _ _).mono (fun r h => ⟨fun c => (h c).2, sem_eq_zero_of_no_sems (by decide) r.2⟩) (Cert.OutRefIdeal.Value.run m ρ)

/-- The gate: the reference runs, its arguments end unchanged and every semaphore counter at zero. -/
theorem gated_ref_frame : Cert.quiescent_GatedRefIdeal := fun m ρ _ =>
  (θ_run Cert.GatedRefIdeal.defs _ _).mono (fun r h => ⟨fun c => (h c).2.2.2.2, sem_eq_zero_of_no_sems (by decide) r.2⟩) (Cert.GatedRefIdeal.Value.run m ρ)

end Cert.Hand

end
-- ==== Proof.RowCodes.lean ====
/- A row normalised, its scale and its int8 codes, as functions of the row's real values. -/
module

public import Idealize.ShloMosaic.Lib.Pipeline.ValueKit

@[expose] public section

set_option maxRecDepth 16384

noncomputable section

namespace Cert.Hand

open Idealize.ShloMosaic

/-- The row's root mean square. -/
def den (v : Fin 6144 → EReal) : EReal :=
  Ideal.sqrt (Ideal.div (∑ k, v k * v k) (Ideal.ofBits .f32 0x45C00000#32) + Ideal.ofBits .f32 0x3727C5AC#32)

/-- The normalised row, weighted. -/
def nrm (v w : Fin 6144 → EReal) (k : Fin 6144) : EReal := Ideal.div (v k) (den v) * w k

/-- Its largest magnitude. -/
def amax (v w : Fin 6144 → EReal) : EReal :=
  Finset.fold max (Ideal.ofBits .f32 0xFF800000#32) (fun k => (FloatOps.absf (F := Ideal) (φ := .f32) (nrm v w k) : EReal)) Finset.univ

/-- Its scale: the largest magnitude over 127, or 1 for a row of zeros. -/
def scale (v w : Fin 6144 → EReal) : EReal :=
  if amax v w = 0 then 1 else Ideal.div (amax v w) (Ideal.ofBits .f32 0x42FE0000#32)

/-- Its codes, as real values: rounded to the even integer, and kept within 127. -/
def code (v w : Fin 6144 → EReal) (k : Fin 6144) : EReal :=
  min (Ideal.ofBits .f32 0x42FE0000#32) (max (Ideal.ofBits .f32 0xC2FE0000#32)
    (Ideal.liftRound Ideal.roundHalfEven (Ideal.div (nrm v w k) (scale v w))))

end Cert.Hand

end
-- ==== Proof.NormIdeal.Rows.lean ====
/- What a grid point of the first normalisation computes of its block, row by row. -/
module

public import proofs.«01_k».proof.Proof.Gen.NormIdeal.Skeleton
public import proofs.«01_k».proof.Proof.RowCodes

@[expose] public section

set_option maxRecDepth 16384

noncomputable section

namespace Cert.NormIdeal.Hand

open Cert.NormIdeal Cert.NormIdeal.Gen Cert.Hand
open Idealize.ShloMosaic
open Idealize.ShloMosaic.TcCoe Idealize.ShloMosaic.Tactic

variable (x : FVec Ideal S128x6144 .bf16) (w : FVec Ideal S1x6144 .f32) (r : Fin 128) (n : Fin 6144)

/-- A row of the block. -/
abbrev row : Fin 6144 → EReal := fun k => x (ix2 r k)

/-- The weights. -/
abbrev wrow : Fin 6144 → EReal := fun k => w (ix2 0 k)

theorem pay3_eq : k0_pay3 (F := Ideal) x (ix2 r 0) = den (row x r) := by
  unfold den
  pointwise [k0_pay3, k0_pay2]

theorem pay4_eq : k0_pay4 (F := Ideal) x w (ix2 r n) = nrm (row x r) (wrow w) n := by
  unfold nrm
  rw [← pay3_eq]
  pointwise [k0_pay4, k0_pay2]

theorem pay5_eq : k0_pay5 (F := Ideal) x w (ix2 r 0) = scale (row x r) (wrow w) := by
  unfold scale amax
  simp only [← pay4_eq]
  pointwise [k0_pay5]

theorem pay6_eq : k0_pay6 (F := Ideal) x w (ix2 r n) = code (row x r) (wrow w) n := by
  unfold code
  rw [← pay4_eq, ← pay5_eq]
  pointwise [k0_pay6]

theorem pay7_eq : k0_pay7 (F := Ideal) x w (ix2 r n) = FloatOps.fptosi (F := Ideal) (φ := .f32) 8 (code (row x r) (wrow w) n) := by
  rw [← pay6_eq]
  pointwise [k0_pay7]

theorem pay8_eq : k0_pay8 (F := Ideal) x w (ix2 r n) = code (row x r) (wrow w) n := by
  rw [← pay6_eq]
  pointwise [k0_pay8]

theorem pay1_eq : k0_pay1 (k0_pay9 (F := Ideal) x w) (ix3 0 0 r) = scale (row x r) (wrow w) := by
  rw [← pay5_eq]
  pointwise [k0_pay1, k0_pay9]

end Cert.NormIdeal.Hand

end
-- ==== Proof.NormIdeal.Value.lean ====
/- The first normalisation: its five arrays after the run, entry by entry. -/
module

public import proofs.«01_k».proof.Proof.Gen.NormIdeal.Value
public import proofs.«01_k».proof.Proof.NormIdeal.Rows

@[expose] public section

set_option maxRecDepth 16384

noncomputable section

namespace Cert.NormIdeal.Hand

open Cert.NormIdeal Cert.NormIdeal.Gen Cert.Hand
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- Every window's block at every point. -/
theorem idx : ∀ t : Fin cfg0.N, win0_0.index t = ![t.val, 0]
    ∧ win0_1.index t = ![0, 0]
    ∧ win0_2.index t = ![t.val, 0]
    ∧ win0_3.index t = ![t.val, 0]
    ∧ win0_4.index t = ![t.val, 0]
    ∧ win0_5.index t = ![t.val, 0, 0]
    ∧ win0_6.index t = ![t.val, 0] :=
  (by decide +kernel : ∀ t : Fin grid0.N, _)

section

variable (X : FVec Ideal S1792x6144 .bf16) (W : FVec Ideal S1x6144 .f32)

/-- A row of the input. -/
def arow (r : Fin 1792) : Fin 6144 → EReal := fun k => X (ix2 r k)

/-- The weights. -/
def aw : Fin 6144 → EReal := fun k => W (ix2 0 k)

/-- The int8 codes. -/
def G2 (i : S1792x6144.Idx) : BitVec 8 := FloatOps.fptosi (F := Ideal) (φ := .f32) 8 (code (arow X (i 0)) (aw W) (i 1))

/-- The codes as floats. -/
def G3 (i : S1792x6144.Idx) : EReal := code (arow X (i 0)) (aw W) (i 1)

/-- The scales. -/
def G4 (i : S1792x1.Idx) : EReal := scale (arow X (i 0)) (aw W)

/-- The scales again, 128 to a row. -/
def G5 (i : S14x1x128.Idx) : EReal :=
  scale (arow X ⟨(i 0).val * 128 + (i 2).val, by
    have h0 : (i 0).val < 14 := (i 0).isLt
    have h2 : (i 2).val < 128 := (i 2).isLt
    omega⟩) (aw W)

/-- The root mean squares. -/
def G6 (i : S1792x1.Idx) : EReal := den (arow X (i 0))

end

/-- A row of a point's block is a row of the input. -/
theorem row_iblk (c : Dev nD) (t : Fin cfg0.N) (r : Fin 128) (h : t.val * 128 + r.val < 1792) :
    row (iblk m c 0 t) r = arow (m ((c : Thread nD τ).loc main_arg0)) ⟨t.val * 128 + r.val, h⟩ := by
  funext k
  unfold row arow
  blk_point [iblk, V, idx t]

/-- The weights are whole in every block. -/
theorem wrow_iblk (c : Dev nD) (t : Fin cfg0.N) : wrow (iblk m c 1 t) = aw (m ((c : Thread nD τ).loc main_arg1)) := by
  funext k
  unfold wrow aw
  blk_point [iblk, V, idx t]

/-- A point's row is within the array. -/
theorem row_lt (t : Fin cfg0.N) (r : Fin 128) : t.val * 128 + r.val < 1792 := by
  have : t.val < 14 := t.isLt
  omega

/-- What a point stores in window 2. -/
theorem point2 (c : Dev nD) (t : Fin cfg0.N) (y : S128x6144.Idx) :
    (k0_pay7 (F := Ideal) (iblk m c 0 t) (iblk m c 1 t) y : BitVec 8) = G2 (m ((c : Thread nD τ).loc main_arg0)) (m ((c : Thread nD τ).loc main_arg1)) (((cfg0.win 2).blk t).view.emb y) := by
  obtain ⟨r, n, rfl⟩ : ∃ (r : Fin 128) (n : Fin 6144), y = ix2 r n := ⟨y 0, y 1, by funext a; fin_cases a <;> rfl⟩
  have he : ((cfg0.win 2).blk t).view.emb (ix2 r n) = ix2 (⟨t.val * 128 + r.val, row_lt t r⟩ : Fin 1792) n := by
    blk_ext [idx t]
  rw [he]
  refine (pay7_eq (iblk m c 0 t) (iblk m c 1 t) r n).trans ?_
  rw [row_iblk m c t r (row_lt t r), wrow_iblk m c t]
  rfl

/-- Window 2's array after the run. -/
theorem final2 (c : Dev nD) : (dats m 0 c).arrAt 2 cfg0.N = G2 (m ((c : Thread nD τ).loc main_arg0)) (m ((c : Thread nD τ).loc main_arg1)) := by
  refine (dats m 0 c).arrAt_eq_of_covers 2 (G2 (m ((c : Thread nD τ).loc main_arg0)) (m ((c : Thread nD τ).loc main_arg1))) (by decide +kernel) fun t hf y => ?_
  blk_simp; rw [after0_2]; frame_out
  exact point2 m c t y

/-- What a point stores in window 3. -/
theorem point3 (c : Dev nD) (t : Fin cfg0.N) (y : S128x6144.Idx) :
    (k0_pay8 (F := Ideal) (iblk m c 0 t) (iblk m c 1 t) y : EReal) = G3 (m ((c : Thread nD τ).loc main_arg0)) (m ((c : Thread nD τ).loc main_arg1)) (((cfg0.win 3).blk t).view.emb y) := by
  obtain ⟨r, n, rfl⟩ : ∃ (r : Fin 128) (n : Fin 6144), y = ix2 r n := ⟨y 0, y 1, by funext a; fin_cases a <;> rfl⟩
  have he : ((cfg0.win 3).blk t).view.emb (ix2 r n) = ix2 (⟨t.val * 128 + r.val, row_lt t r⟩ : Fin 1792) n := by
    blk_ext [idx t]
  rw [he]
  refine (pay8_eq (iblk m c 0 t) (iblk m c 1 t) r n).trans ?_
  rw [row_iblk m c t r (row_lt t r), wrow_iblk m c t]
  rfl

/-- Window 3's array after the run. -/
theorem final3 (c : Dev nD) : (dats m 0 c).arrAt 3 cfg0.N = G3 (m ((c : Thread nD τ).loc main_arg0)) (m ((c : Thread nD τ).loc main_arg1)) := by
  refine (dats m 0 c).arrAt_eq_of_covers 3 (G3 (m ((c : Thread nD τ).loc main_arg0)) (m ((c : Thread nD τ).loc main_arg1))) (by decide +kernel) fun t hf y => ?_
  blk_simp; rw [after0_3]; frame_out
  exact point3 m c t y

/-- What a point stores in window 4. -/
theorem point4 (c : Dev nD) (t : Fin cfg0.N) (y : S128x1.Idx) :
    (k0_pay5 (F := Ideal) (iblk m c 0 t) (iblk m c 1 t) y : EReal) = G4 (m ((c : Thread nD τ).loc main_arg0)) (m ((c : Thread nD τ).loc main_arg1)) (((cfg0.win 4).blk t).view.emb y) := by
  obtain ⟨r, rfl⟩ : ∃ r : Fin 128, y = ix2 r 0 := ⟨y 0, by funext a; fin_cases a; exacts [rfl, Subsingleton.elim (α := Fin 1) _ _]⟩
  have he : ((cfg0.win 4).blk t).view.emb (ix2 r 0) = ix2 (⟨t.val * 128 + r.val, row_lt t r⟩ : Fin 1792) 0 := by
    blk_ext [idx t]
  rw [he]
  refine (pay5_eq (iblk m c 0 t) (iblk m c 1 t) r).trans ?_
  rw [row_iblk m c t r (row_lt t r), wrow_iblk m c t]
  rfl

/-- Window 4's array after the run. -/
theorem final4 (c : Dev nD) : (dats m 0 c).arrAt 4 cfg0.N = G4 (m ((c : Thread nD τ).loc main_arg0)) (m ((c : Thread nD τ).loc main_arg1)) := by
  refine (dats m 0 c).arrAt_eq_of_covers 4 (G4 (m ((c : Thread nD τ).loc main_arg0)) (m ((c : Thread nD τ).loc main_arg1))) (by decide +kernel) fun t hf y => ?_
  blk_simp; rw [after0_4]; frame_out
  exact point4 m c t y

/-- What a point stores in window 5. -/
theorem point5 (c : Dev nD) (t : Fin cfg0.N) (y : S1x1x128.Idx) :
    (k0_pay1 (k0_pay9 (F := Ideal) (iblk m c 0 t) (iblk m c 1 t)) y : EReal) = G5 (m ((c : Thread nD τ).loc main_arg0)) (m ((c : Thread nD τ).loc main_arg1)) (((cfg0.win 5).blk t).view.emb y) := by
  obtain ⟨r, rfl⟩ : ∃ r : Fin 128, y = ix3 0 0 r := ⟨y 2, by funext a; fin_cases a; exacts [Subsingleton.elim (α := Fin 1) _ _, Subsingleton.elim (α := Fin 1) _ _, rfl]⟩
  have he : ((cfg0.win 5).blk t).view.emb (ix3 0 0 r) = ix3 (⟨t.val, t.isLt⟩ : Fin 14) 0 r := by
    blk_ext [idx t]
  rw [he]
  refine (pay1_eq (iblk m c 0 t) (iblk m c 1 t) r).trans ?_
  rw [row_iblk m c t r (row_lt t r), wrow_iblk m c t]
  rfl

/-- Window 5's array after the run. -/
theorem final5 (c : Dev nD) : (dats m 0 c).arrAt 5 cfg0.N = G5 (m ((c : Thread nD τ).loc main_arg0)) (m ((c : Thread nD τ).loc main_arg1)) := by
  refine (dats m 0 c).arrAt_eq_of_covers 5 (G5 (m ((c : Thread nD τ).loc main_arg0)) (m ((c : Thread nD τ).loc main_arg1))) (by decide +kernel) fun t hf y => ?_
  blk_simp; rw [after0_5]; frame_out
  exact point5 m c t y

/-- What a point stores in window 6. -/
theorem point6 (c : Dev nD) (t : Fin cfg0.N) (y : S128x1.Idx) :
    (k0_pay3 (F := Ideal) (iblk m c 0 t) y : EReal) = G6 (m ((c : Thread nD τ).loc main_arg0)) (((cfg0.win 6).blk t).view.emb y) := by
  obtain ⟨r, rfl⟩ : ∃ r : Fin 128, y = ix2 r 0 := ⟨y 0, by funext a; fin_cases a; exacts [rfl, Subsingleton.elim (α := Fin 1) _ _]⟩
  have he : ((cfg0.win 6).blk t).view.emb (ix2 r 0) = ix2 (⟨t.val * 128 + r.val, row_lt t r⟩ : Fin 1792) 0 := by
    blk_ext [idx t]
  rw [he]
  refine (pay3_eq (iblk m c 0 t) r).trans ?_
  rw [row_iblk m c t r (row_lt t r)]
  rfl

/-- Window 6's array after the run. -/
theorem final6 (c : Dev nD) : (dats m 0 c).arrAt 6 cfg0.N = G6 (m ((c : Thread nD τ).loc main_arg0)) := by
  refine (dats m 0 c).arrAt_eq_of_covers 6 (G6 (m ((c : Thread nD τ).loc main_arg0))) (by decide +kernel) fun t hf y => ?_
  blk_simp; rw [after0_6]; frame_out
  exact point6 m c t y

end Cert.NormIdeal.Hand

end
-- ==== Proof.NormRefIdeal.Rows.lean ====
/- The reference's normalisation, entry by entry. -/
module

public import proofs.«01_k».proof.Proof.Gen.NormRefIdeal.Run
public import proofs.«01_k».proof.Proof.NormIdeal.Value

@[expose] public section

set_option maxRecDepth 16384

noncomputable section

namespace Cert.NormRefIdeal.Hand

open Cert.NormRefIdeal Cert.NormRefIdeal.Gen Cert.Hand
open Cert.NormIdeal.Hand (arow aw)
open Idealize.ShloMosaic
open Idealize.ShloMosaic.TcCoe Idealize.ShloMosaic.Tactic

variable (X : FVec Ideal S1792x6144 .bf16) (W : FVec Ideal S1x6144 .f32)

/-- The rows' root mean squares. -/
def denT : FVec Ideal S1792x1 .f32 :=
  Host.sqrt (addf (Host.divf (broadcastInDim S1792x1 ![0] bcast_S1792_S1792x1_0 (Host.reduceAdd (mulf (extf .f32 X bitsLt_bf16_f32) (extf .f32 X bitsLt_bf16_f32)) (constant S_ .f32 0x00000000#32) reducesTo_S1792x6144_S1792_d1 h_S_)) (broadcastInDim S1792x1 ![] bcast_S_S1792x1 (constant S_ .f32 0x45C00000#32))) (broadcastInDim S1792x1 ![] bcast_S_S1792x1 (constant S_ .f32 0x3727C5AC#32)))

/-- The normalised rows. -/
def nrmT : FVec Ideal S1792x6144 .f32 :=
  mulf (Host.divf (extf .f32 X bitsLt_bf16_f32) (broadcastInDim S1792x6144 ![0, 1] bcast_S1792x1_S1792x6144_0_1 (denT X))) (broadcastInDim S1792x6144 ![0, 1] bcast_S1x6144_S1792x6144_0_1 W)

/-- The scales. -/
def scaleT : FVec Ideal S1792x1 .f32 :=
  select (cmpf .oeq (broadcastInDim S1792x1 ![0] bcast_S1792_S1792x1_0 (Host.reduce FloatOps.maximumf (Host.absf (nrmT X W)) (constant S_ .f32 0xFF800000#32) reducesTo_S1792x6144_S1792_d1 h_S_)) (broadcastInDim S1792x1 ![] bcast_S_S1792x1 (constant S_ .f32 0x00000000#32))) (broadcastInDim S1792x1 ![] bcast_S_S1792x1 (id (constant S_ .f32 0x3F800000#32))) (Host.divf (broadcastInDim S1792x1 ![0] bcast_S1792_S1792x1_0 (Host.reduce FloatOps.maximumf (Host.absf (nrmT X W)) (constant S_ .f32 0xFF800000#32) reducesTo_S1792x6144_S1792_d1 h_S_)) (broadcastInDim S1792x1 ![] bcast_S_S1792x1 (constant S_ .f32 0x42FE0000#32)))

/-- The codes. -/
def codeT : FVec Ideal S1792x6144 .f32 :=
  minimumf (broadcastInDim S1792x6144 ![] bcast_S_S1792x6144 (id (constant S_ .f32 0x42FE0000#32))) (maximumf (broadcastInDim S1792x6144 ![] bcast_S_S1792x6144 (id (constant S_ .f32 0xC2FE0000#32))) (Host.roundeven (Host.divf (nrmT X W) (broadcastInDim S1792x6144 ![0, 1] bcast_S1792x1_S1792x6144_0_1 (scaleT X W)))))

theorem denT_eq (r : Fin 1792) : denT X (ix2 r 0) = den (arow X r) := by
  unfold den arow
  pointwise [denT]

/-- An entry of a row divided by its norm, and weighted. -/
theorem nrmT_at (D : FVec Ideal S1792x1 .f32) (r : Fin 1792) (n : Fin 6144) :
    mulf (Host.divf (extf .f32 X bitsLt_bf16_f32) (broadcastInDim S1792x6144 ![0, 1] bcast_S1792x1_S1792x6144_0_1 D)) (broadcastInDim S1792x6144 ![0, 1] bcast_S1x6144_S1792x6144_0_1 W) (ix2 r n)
      = Ideal.div (X (ix2 r n)) (D (ix2 r 0)) * W (ix2 0 n) := by
  pointwise []

/-- The largest magnitude of a row. -/
theorem amaxT_at (N : FVec Ideal S1792x6144 .f32) (r : Fin 1792) :
    broadcastInDim S1792x1 ![0] bcast_S1792_S1792x1_0 (Host.reduce FloatOps.maximumf (Host.absf N) (constant S_ .f32 0xFF800000#32) reducesTo_S1792x6144_S1792_d1 h_S_) (ix2 r 0)
      = Finset.fold max (Ideal.ofBits .f32 0xFF800000#32) (fun k => (FloatOps.absf (F := Ideal) (φ := .f32) (N (ix2 r k)) : EReal)) Finset.univ := by
  pointwise []

/-- The scale of a row from its largest magnitude. -/
theorem scaleT_at (A : FVec Ideal S1792x1 .f32) (r : Fin 1792) :
    select (cmpf .oeq A (broadcastInDim S1792x1 ![] bcast_S_S1792x1 (constant S_ .f32 0x00000000#32))) (broadcastInDim S1792x1 ![] bcast_S_S1792x1 (id (constant S_ .f32 0x3F800000#32))) (Host.divf A (broadcastInDim S1792x1 ![] bcast_S_S1792x1 (constant S_ .f32 0x42FE0000#32))) (ix2 r 0)
      = if A (ix2 r 0) = (0 : EReal) then (1 : EReal) else Ideal.div (A (ix2 r 0)) (Ideal.ofBits .f32 0x42FE0000#32) := by
  pointwise [id_eq]

/-- The code of an entry from its value and its row's scale. -/
theorem codeT_at (N : FVec Ideal S1792x6144 .f32) (A : FVec Ideal S1792x1 .f32) (r : Fin 1792) (n : Fin 6144) :
    minimumf (broadcastInDim S1792x6144 ![] bcast_S_S1792x6144 (id (constant S_ .f32 0x42FE0000#32))) (maximumf (broadcastInDim S1792x6144 ![] bcast_S_S1792x6144 (id (constant S_ .f32 0xC2FE0000#32))) (Host.roundeven (Host.divf N (broadcastInDim S1792x6144 ![0, 1] bcast_S1792x1_S1792x6144_0_1 A)))) (ix2 r n)
      = min (Ideal.ofBits .f32 0x42FE0000#32) (max (Ideal.ofBits .f32 0xC2FE0000#32) (Ideal.liftRound Ideal.roundHalfEven (Ideal.div (N (ix2 r n)) (A (ix2 r 0))))) := by
  pointwise [id_eq]

theorem nrmT_eq (r : Fin 1792) (n : Fin 6144) : nrmT X W (ix2 r n) = nrm (arow X r) (aw W) n := by
  refine (nrmT_at X W (denT X) r n).trans ?_
  rw [denT_eq]
  rfl

theorem scaleT_eq (r : Fin 1792) : scaleT X W (ix2 r 0) = scale (arow X r) (aw W) := by
  refine (scaleT_at _ r).trans ?_
  rw [amaxT_at]
  simp only [nrmT_eq]
  rfl

theorem codeT_eq (r : Fin 1792) (n : Fin 6144) : codeT X W (ix2 r n) = code (arow X r) (aw W) n := by
  refine (codeT_at _ _ r n).trans ?_
  rw [nrmT_eq, scaleT_eq]
  rfl

end Cert.NormRefIdeal.Hand

end
-- ==== Proof.CodeCast.lean ====
/- A code within 127 converted to int8 directly, and by way of int32, is the same byte. -/
module

public import Idealize.ShloMosaic.Lib.Pipeline.ValueKit

@[expose] public section

set_option maxRecDepth 16384

noncomputable section

namespace Cert.Hand

open Idealize.ShloMosaic

/-- The greatest code. -/
theorem bits_127 : Ideal.ofBits .f32 0x42FE0000#32 = ((127 : ℝ) : EReal) := by
  simp [Ideal.ofBits, Ideal.ieee]
  rw [← EReal.coe_mul]; norm_num

/-- The least code. -/
theorem bits_neg127 : Ideal.ofBits .f32 0xC2FE0000#32 = ((-127 : ℝ) : EReal) := by
  simp [Ideal.ofBits, Ideal.ieee]
  rw [← EReal.coe_mul]; norm_num

/-- A value kept within 127 is a real one. -/
theorem clip_real (z : EReal) : ∃ r : ℝ, -127 ≤ r ∧ r ≤ 127
    ∧ min (Ideal.ofBits .f32 0x42FE0000#32) (max (Ideal.ofBits .f32 0xC2FE0000#32) z) = (r : EReal) := by
  rw [bits_127, bits_neg127]
  induction z using EReal.rec with
  | bot => exact ⟨-127, le_refl _, by norm_num, by rw [max_eq_left bot_le]; exact min_eq_right (EReal.coe_le_coe_iff.2 (by norm_num))⟩
  | top => exact ⟨127, by norm_num, le_refl _, by rw [max_eq_right le_top]; exact min_eq_left le_top⟩
  | coe a =>
    refine ⟨min 127 (max (-127) a), le_min (by norm_num) (le_max_left _ _), min_le_left _ _, ?_⟩
    rw [EReal.coe_strictMono.monotone.map_min, EReal.coe_strictMono.monotone.map_max]

/-- The two conversions agree. -/
theorem fptosi_clip (z : EReal) :
    (FloatOps.fptosi (F := Ideal) (φ := .f32) 32 (min (Ideal.ofBits .f32 0x42FE0000#32) (max (Ideal.ofBits .f32 0xC2FE0000#32) z))).setWidth 8
      = FloatOps.fptosi (F := Ideal) (φ := .f32) 8 (min (Ideal.ofBits .f32 0x42FE0000#32) (max (Ideal.ofBits .f32 0xC2FE0000#32) z)) := by
  obtain ⟨r, h1, h2, h⟩ := clip_real z
  rw [h]
  show (Ideal.fptosi 32 (r : EReal)).setWidth 8 = Ideal.fptosi 8 (r : EReal)
  rw [Ideal.fptosi, Ideal.fptosi, Ideal.toIntClamped_coe, Ideal.toIntClamped_coe]
  have hk : ∃ k : Int, -127 ≤ k ∧ k ≤ 127 ∧ (if 0 ≤ r then ⌊r⌋ else ⌈r⌉) = k := by
    refine ⟨_, ?_, ?_, rfl⟩
    · split
      · exact Int.le_floor.2 (by push_cast; linarith)
      · have : (-127 : Int) ≤ ⌈r⌉ := by
          have := Int.le_ceil r
          have h3 : ((-127 : Int) : ℝ) ≤ (⌈r⌉ : ℝ) := by push_cast; linarith
          exact_mod_cast h3
        exact this
    · split
      · have := Int.floor_le r
        have h3 : (⌊r⌋ : ℝ) ≤ ((127 : Int) : ℝ) := by push_cast; linarith
        exact_mod_cast h3
      · exact Int.ceil_le.2 (by push_cast; linarith)
  obtain ⟨k, k1, k2, hk⟩ := hk
  rw [hk]
  rw [show max (-((2 ^ (32 - 1) : Nat) : Int)) (min (((2 ^ (32 - 1) : Nat) : Int) - 1) k) = k by norm_num; omega]
  rw [show max (-((2 ^ (8 - 1) : Nat) : Int)) (min (((2 ^ (8 - 1) : Nat) : Int) - 1) k) = k by norm_num; omega]
  apply BitVec.eq_of_toInt_eq
  rw [BitVec.toInt_setWidth, BitVec.toInt_ofInt, BitVec.toNat_ofInt]
  simp only [Int.bmod]
  omega

end Cert.Hand

end
-- ==== Proof.NormAlgebraic.lean ====
/- The first normalisation against its reference: its five results are equal. -/
module

public import proofs.«01_k».proof.Proof.NormIdeal.Value
public import proofs.«01_k».proof.Proof.NormRefIdeal.Rows
public import proofs.«01_k».proof.Proof.CodeCast
public import proofs.«01_k».proof.Proof.Gen.NormIdeal
public import proofs.«01_k».proof.Proof.Gen.NormRefIdeal
public import proofs.«01_k».proof.Defs

@[expose] public section

set_option maxRecDepth 16384

noncomputable section

namespace Cert.Hand

open Cert.NormRefIdeal Cert.NormRefIdeal.Gen Cert.NormRefIdeal.Hand
open Cert.NormIdeal.Hand (arow aw G2 G3 G4 G5 G6)
open Idealize.ShloMosaic Idealize.ShloMosaic.TcCoe Idealize.SL.Sem Idealize.ShloMosaic.Tactic

variable (X : FVec Ideal S1792x6144 .bf16) (W : FVec Ideal S1x6144 .f32)

/-- The reference's int8 codes are the kernel's. -/
theorem norm_ref2 : trunci 8 (fptosi 32 (codeT X W)) natLt_8_32 = G2 X W := by
  funext i
  obtain ⟨r, n, rfl⟩ : ∃ (r : Fin 1792) (n : Fin 6144), i = ix2 r n := ⟨i 0, i 1, by funext a; fin_cases a <;> rfl⟩
  show (FloatOps.fptosi (F := Ideal) (φ := .f32) 32 (codeT X W (ix2 r n))).setWidth 8 = _
  rw [codeT_eq]
  exact fptosi_clip _

/-- Its codes as floats. -/
theorem norm_ref3 : truncf .bf16 (codeT X W) bitsLt_bf16_f32 = G3 X W := by
  funext i
  obtain ⟨r, n, rfl⟩ : ∃ (r : Fin 1792) (n : Fin 6144), i = ix2 r n := ⟨i 0, i 1, by funext a; fin_cases a <;> rfl⟩
  exact codeT_eq X W r n

/-- Its scales. -/
theorem norm_ref4 : scaleT X W = G4 X W := by
  funext i
  obtain ⟨r, rfl⟩ : ∃ r : Fin 1792, i = ix2 r 0 := ⟨i 0, by funext a; fin_cases a; exacts [rfl, Subsingleton.elim (α := Fin 1) _ _]⟩
  exact scaleT_eq X W r

/-- Its scales, 128 to a row. -/
theorem norm_ref5 : shapeCast S14x1x128 (scaleT X W) shapeCasts_S1792x1_S14x1x128 = G5 X W := by
  funext i
  obtain ⟨b, r, rfl⟩ : ∃ (b : Fin 14) (r : Fin 128), i = ix3 b 0 r := ⟨i 0, i 2, by funext a; fin_cases a; exacts [rfl, Subsingleton.elim (α := Fin 1) _ _, rfl]⟩
  refine Eq.trans ?_ (scaleT_eq X W ⟨b.val * 128 + r.val, by omega⟩)
  pointwise []

/-- Its root mean squares. -/
theorem norm_ref6 : denT X = G6 X := by
  funext i
  obtain ⟨r, rfl⟩ : ∃ r : Fin 1792, i = ix2 r 0 := ⟨i 0, by funext a; fin_cases a; exacts [rfl, Subsingleton.elim (α := Fin 1) _ _]⟩
  exact denT_eq X r

/-- The claim: both programs run, keep their arguments, and agree. -/
theorem norm_algebraic : Cert.algebraic_NormIdeal_NormRefIdeal := by
  intro m ρ m' ρ' _ hag
  refine ⟨fun c => G2 (m ((c : Thread Cert.NormIdeal.nD Cert.NormIdeal.τ).loc Cert.NormIdeal.main_arg0)) (m ((c : Thread Cert.NormIdeal.nD Cert.NormIdeal.τ).loc Cert.NormIdeal.main_arg1)), fun c => G3 (m ((c : Thread Cert.NormIdeal.nD Cert.NormIdeal.τ).loc Cert.NormIdeal.main_arg0)) (m ((c : Thread Cert.NormIdeal.nD Cert.NormIdeal.τ).loc Cert.NormIdeal.main_arg1)), fun c => G4 (m ((c : Thread Cert.NormIdeal.nD Cert.NormIdeal.τ).loc Cert.NormIdeal.main_arg0)) (m ((c : Thread Cert.NormIdeal.nD Cert.NormIdeal.τ).loc Cert.NormIdeal.main_arg1)), fun c => G5 (m ((c : Thread Cert.NormIdeal.nD Cert.NormIdeal.τ).loc Cert.NormIdeal.main_arg0)) (m ((c : Thread Cert.NormIdeal.nD Cert.NormIdeal.τ).loc Cert.NormIdeal.main_arg1)), fun c => G6 (m ((c : Thread Cert.NormIdeal.nD Cert.NormIdeal.τ).loc Cert.NormIdeal.main_arg0)), ?_, ?_⟩
  · exact (θ_run Cert.NormIdeal.defs _ _).mono (fun r h c => ⟨(h c).1.trans (Cert.NormIdeal.Hand.final2 m c), (h c).2.1.trans (Cert.NormIdeal.Hand.final3 m c),
      (h c).2.2.1.trans (Cert.NormIdeal.Hand.final4 m c), (h c).2.2.2.1.trans (Cert.NormIdeal.Hand.final5 m c), (h c).2.2.2.2.1.trans (Cert.NormIdeal.Hand.final6 m c), (h c).2.2.2.2.2⟩) (Cert.NormIdeal.Value.run_blocks m ρ)
  · refine (θ_run Cert.NormRefIdeal.defs _ _).mono (fun r h c => ?_) (Cert.NormRefIdeal.Value.run m' ρ')
    have h' := h c
    rw [(hag c).1, (hag c).2] at h'
    refine ⟨h'.1.trans (norm_ref2 _ _), h'.2.1.trans (norm_ref3 _ _), h'.2.2.1.trans (norm_ref4 _ _), h'.2.2.2.1.trans (norm_ref5 _ _), h'.2.2.2.2.1.trans (norm_ref6 _), (h c).2.2.2.2.2⟩

end Cert.Hand

end
-- ==== Proof.QkvIdeal.Value.lean ====
/- The query, key and value projections: the array after the run is, entry by entry, the scaled product with the int8 weights, through the silu. -/
module

public import proofs.«01_k».proof.Proof.Gen.QkvIdeal.Value
public import proofs.«01_k».proof.Proof.Gen.QkvRefIdeal.Run
public import Idealize.ShloMosaic.Lib.Pipeline.ValueKit

@[expose] public section

set_option maxRecDepth 16384

noncomputable section

namespace Cert.QkvIdeal.Hand

open Cert.QkvIdeal Cert.QkvIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- Every window's block at every point. -/
theorem idx : ∀ t : Fin cfg0.N, win0_0.index t = ![0, 0]
    ∧ win0_1.index t = ![0, t.val]
    ∧ win0_2.index t = ![0, 0]
    ∧ win0_3.index t = ![0, t.val]
    ∧ win0_4.index t = ![0, t.val] :=
  (by decide +kernel : ∀ t : Fin grid0.N, _)

/-- The product of a row of codes and a column of weights, scaled. -/
def lin (X : FVec Ideal S1792x6144 .bf16) (W : IVec S6144x32x3x128 8) (A : FVec Ideal S1792x1 .f32) (S : FVec Ideal S32x3x128 .f32)
    (r : Fin 1792) (h : Fin 32) (p : Fin 3) (d : Fin 128) : EReal :=
  (∑ k : Fin 6144, X (ix2 r k) * (FloatOps.sitofp .bf16 (W (ix4 k h p d)) : Ideal .bf16)) * A (ix2 r 0) * S (ix3 h p d)

/-- The projections, entry by entry: column `j` is part `j / 4096`, head `j / 128 % 32`, feature `j % 128`. -/
def G (X : FVec Ideal S1792x6144 .bf16) (W : IVec S6144x32x3x128 8) (A : FVec Ideal S1792x1 .f32) (S : FVec Ideal S32x3x128 .f32)
    (i : S1792x12288.Idx) : EReal :=
  let z := lin X W A S (i 0) ⟨(i 1).val / 128 % 32, by omega⟩ ⟨(i 1).val / 4096, by have := (i 1).isLt; change (i 1).val < 12288 at this; omega⟩ ⟨(i 1).val % 128, by omega⟩
  z * Ideal.logistic z

/-- A block's column of the product, scaled. -/
def col (X : FVec Ideal S1792x6144 .bf16) (W : IVec S6144x512 8) (A : FVec Ideal S1792x1 .f32) (S : FVec Ideal S1x512 .f32) (y : S1792x512.Idx) : EReal :=
  (∑ k : Fin 6144, X (ix2 (y 0) k) * (FloatOps.sitofp .bf16 (W (ix2 k (y 1))) : Ideal .bf16)) * A (ix2 (y 0) 0) * S (ix2 0 (y 1))

/-- What a point's column of the product is, before the silu. -/
theorem point_lin (c : Dev nD) (t : Fin cfg0.N) (y : S1792x512.Idx) (h0 : t.val < 24) (h1 : (y 1).val < 512) :
    col (iblk m c 0 t) (iblk m c 1 t) (iblk m c 2 t) (iblk m c 3 t) y
      = lin (m ((c : Thread nD τ).loc main_arg0)) (m ((c : Thread nD τ).loc main_arg1)) (m ((c : Thread nD τ).loc main_arg2)) (m ((c : Thread nD τ).loc main_arg3)) (y 0)
          ⟨(t.val * 512 + (y 1).val) / 128 % 32, by omega⟩ ⟨(t.val * 512 + (y 1).val) / 4096, by omega⟩ ⟨(t.val * 512 + (y 1).val) % 128, by omega⟩ := by
  unfold col lin
  blk_point [iblk, V, idx t]

/-- What a point stores. -/
theorem point (c : Dev nD) (t : Fin cfg0.N) (y : S1792x512.Idx) :
    k0_pay1 (F := Ideal) (iblk m c 0 t) (iblk m c 1 t) (iblk m c 2 t) (iblk m c 3 t) y
      = G (m ((c : Thread nD τ).loc main_arg0)) (m ((c : Thread nD τ).loc main_arg1)) (m ((c : Thread nD τ).loc main_arg2)) (m ((c : Thread nD τ).loc main_arg3))
          (((cfg0.win 4).blk t).view.emb y) := by
  have h0 : t.val < 24 := t.isLt
  have h1 : (y 1).val < 512 := (y 1).isLt
  have hz := point_lin m c t y h0 h1
  have he0 : (((cfg0.win 4).blk t).view.emb y 0 : Fin 1792) = y 0 := by
    apply Fin.ext; blk_point [iblk, V, idx t]
  have he1 : (((cfg0.win 4).blk t).view.emb y 1 : Fin 12288).val = t.val * 512 + (y 1).val := by blk_point [iblk, V, idx t]
  have hR : G (m ((c : Thread nD τ).loc main_arg0)) (m ((c : Thread nD τ).loc main_arg1)) (m ((c : Thread nD τ).loc main_arg2)) (m ((c : Thread nD τ).loc main_arg3)) (((cfg0.win 4).blk t).view.emb y) = (fun z : EReal => z * Ideal.logistic z) (lin (m ((c : Thread nD τ).loc main_arg0)) (m ((c : Thread nD τ).loc main_arg1)) (m ((c : Thread nD τ).loc main_arg2)) (m ((c : Thread nD τ).loc main_arg3)) (y 0)
          ⟨(t.val * 512 + (y 1).val) / 128 % 32, by omega⟩ ⟨(t.val * 512 + (y 1).val) / 4096, by omega⟩ ⟨(t.val * 512 + (y 1).val) % 128, by omega⟩) := by
    unfold G
    rw [he0]
    simp only [he1]
  rw [hR, ← hz]
  unfold col
  pointwise [k0_pay1]

/-- The array after the run. -/
theorem final (c : Dev nD) (i : S1792x12288.Idx) : ((dats m 0 c).arrAt 4 cfg0.N i : EReal)
    = G (m ((c : Thread nD τ).loc main_arg0)) (m ((c : Thread nD τ).loc main_arg1)) (m ((c : Thread nD τ).loc main_arg2)) (m ((c : Thread nD τ).loc main_arg3)) i := by
  refine congrFun ((dats m 0 c).arrAt_eq_of_covers 4 (fun i => G (m ((c : Thread nD τ).loc main_arg0)) (m ((c : Thread nD τ).loc main_arg1)) (m ((c : Thread nD τ).loc main_arg2)) (m ((c : Thread nD τ).loc main_arg3)) i) (by decide +kernel) fun t hf y => ?_) i
  blk_simp; rw [after0_4]; frame_out
  exact point m c t y

end Cert.QkvIdeal.Hand

end
-- ==== Proof.IntCast.lean ====
/- An int8 converted to a float directly, and by way of int32, is the same float. -/
module

public import Idealize.ShloMosaic.Lib.Pipeline.ValueKit

@[expose] public section

set_option maxRecDepth 16384

noncomputable section

namespace Cert.Hand

open Idealize.ShloMosaic

/-- Widening first changes nothing. -/
theorem sitofp_signExtend (b : BitVec 8) (φ : FTy) : (FloatOps.sitofp φ (b.signExtend 32) : Ideal φ) = FloatOps.sitofp φ b := by
  show (((b.signExtend 32).toInt : ℝ) : EReal) = ((b.toInt : ℝ) : EReal)
  rw [BitVec.toInt_signExtend_of_le (by decide)]

end Cert.Hand

end
-- ==== Proof.QkvAlgebraic.lean ====
/- The query, key and value projections against their reference: equal at every entry. -/
module

public import proofs.«01_k».proof.Proof.QkvIdeal.Value
public import proofs.«01_k».proof.Proof.Gen.QkvIdeal
public import proofs.«01_k».proof.Proof.Gen.QkvRefIdeal
public import proofs.«01_k».proof.Proof.IntCast
public import proofs.«01_k».proof.Defs

@[expose] public section

set_option maxRecDepth 16384

noncomputable section

namespace Cert.Hand

open Idealize.ShloMosaic Idealize.ShloMosaic.TcCoe Idealize.SL.Sem Idealize.ShloMosaic.Tactic

/-- A part read at two equal columns. -/
theorem part_at (P : FVec Ideal Cert.QkvRefIdeal.S1792x4096 .bf16) (r : Fin 1792) (a b : Nat) (ha : a < 4096) (hb : b < 4096) (h : a = b) :
    P (ix2 r ⟨a, ha⟩) = P (ix2 r ⟨b, hb⟩) := by subst h; rfl

/-- Three parts side by side, read at a column. -/
theorem cat3 (P0 P1 P2 : FVec Ideal Cert.QkvRefIdeal.S1792x4096 .bf16) (h) (r : Fin 1792) (n : Fin 12288) :
    concatenate Cert.QkvRefIdeal.S1792x12288 1 [⟨Cert.QkvRefIdeal.S1792x4096, P0⟩, ⟨Cert.QkvRefIdeal.S1792x4096, P1⟩, ⟨Cert.QkvRefIdeal.S1792x4096, P2⟩] h (ix2 r n)
      = (if n.val < 4096 then P0 (ix2 r ⟨n.val % 4096, by omega⟩) else if n.val < 8192 then P1 (ix2 r ⟨n.val % 4096, by omega⟩) else P2 (ix2 r ⟨n.val % 4096, by omega⟩) : EReal) := by
  pointwise []
  have hn : n.val < 12288 := n.isLt
  split
  · exact part_at P0 r n.val (n.val % 4096) (by omega) (by omega) (by omega)
  · split
    · rw [if_pos (show n.val < 8192 by omega)]
      exact part_at P1 r (n.val - 4096) (n.val % 4096) (by omega) (by omega) (by omega)
    · rw [if_neg (show ¬ n.val < 8192 by omega)]
      exact part_at P2 r (n.val - 4096 - 4096) (n.val % 4096) (by omega) (by omega) (by omega)

/-- An entry of the projections by its part, and its column in the part. -/
theorem qkv_part (X : FVec Ideal Cert.QkvIdeal.S1792x6144 .bf16) (W : IVec Cert.QkvIdeal.S6144x32x3x128 8) (A : FVec Ideal Cert.QkvIdeal.S1792x1 .f32)
    (S : FVec Ideal Cert.QkvIdeal.S32x3x128 .f32) (r : Fin 1792) (n : Fin 12288) (p : Fin 3) (h : n.val / 4096 = p.val) :
    Cert.QkvIdeal.Hand.G X W A S (ix2 r n)
      = (fun z : EReal => z * Ideal.div 1 (1 + Ideal.exp (-z))) (Cert.QkvIdeal.Hand.lin X W A S r ⟨n.val % 4096 / 128, by omega⟩ p ⟨n.val % 4096 % 128, by omega⟩) := by
  have hn : n.val < 12288 := n.isLt
  obtain ⟨p, hp⟩ := p
  change n.val / 4096 = p at h
  subst h
  have e1 : (⟨n.val / 128 % 32, by omega⟩ : Fin 32) = ⟨n.val % 4096 / 128, by omega⟩ := Fin.ext (by show n.val / 128 % 32 = n.val % 4096 / 128; omega)
  have e3 : (⟨n.val % 128, by omega⟩ : Fin 128) = ⟨n.val % 4096 % 128, by omega⟩ := Fin.ext (by show n.val % 128 = n.val % 4096 % 128; omega)
  rw [← e1, ← e3]
  rfl

/-- The reference's composed term, entry by entry. -/
theorem qkv_ref (m : (ℓ : Loc Cert.QkvRefIdeal.nD Cert.QkvRefIdeal.τ Cert.QkvRefIdeal.sig) → Buf (Elt Ideal) ℓ) (c : Dev Cert.QkvRefIdeal.nD) (r : Fin 1792) (n : Fin 12288) :
    (Cert.QkvRefIdeal.Value.res_main_v48 m c : FVec Ideal Cert.QkvRefIdeal.S1792x12288 .bf16) (ix2 r n) = Cert.QkvIdeal.Hand.G (m ((c : Thread Cert.QkvRefIdeal.nD Cert.QkvRefIdeal.τ).loc Cert.QkvRefIdeal.main_arg0)) (m ((c : Thread Cert.QkvRefIdeal.nD Cert.QkvRefIdeal.τ).loc Cert.QkvRefIdeal.main_arg1)) (m ((c : Thread Cert.QkvRefIdeal.nD Cert.QkvRefIdeal.τ).loc Cert.QkvRefIdeal.main_arg2)) (m ((c : Thread Cert.QkvRefIdeal.nD Cert.QkvRefIdeal.τ).loc Cert.QkvRefIdeal.main_arg3)) (ix2 r n) := by
  unfold Cert.QkvRefIdeal.Value.res_main_v48
  refine (cat3 _ _ _ _ r n).trans ?_
  have hn : n.val < 12288 := n.isLt
  split
  · rw [qkv_part _ _ _ _ r n 0 (by show n.val / 4096 = 0; omega)]
    unfold Cert.QkvIdeal.Hand.lin
    pointwise []
    simp only [sitofp_signExtend]
  · split
    · rw [qkv_part _ _ _ _ r n 1 (by show n.val / 4096 = 1; omega)]
      unfold Cert.QkvIdeal.Hand.lin
      pointwise []
      simp only [sitofp_signExtend]
    · rw [qkv_part _ _ _ _ r n 2 (by show n.val / 4096 = 2; omega)]
      unfold Cert.QkvIdeal.Hand.lin
      pointwise []
      simp only [sitofp_signExtend]

/-- The claim: both programs run, keep their arguments, and agree. -/
theorem qkv_algebraic : Cert.algebraic_QkvIdeal_QkvRefIdeal := by
  intro m ρ m' ρ' _ hag
  refine ⟨fun c => Cert.QkvIdeal.Hand.G (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)), ?_, ?_⟩
  · exact (θ_run Cert.QkvIdeal.defs _ _).mono (fun r h c => ⟨(h c).1.trans (funext fun i => Cert.QkvIdeal.Hand.final m c i), (h c).2⟩) (Cert.QkvIdeal.Value.run_blocks m ρ)
  · refine (θ_run Cert.QkvRefIdeal.defs _ _).mono (fun r h c => ⟨(h c).1.trans (funext fun i => ?_), (h c).2⟩) (Cert.QkvRefIdeal.Value.run m' ρ')
    show _ = Cert.QkvIdeal.Hand.G (m ((c : Thread Cert.QkvIdeal.nD Cert.QkvIdeal.τ).loc Cert.QkvIdeal.main_arg0)) (m ((c : Thread Cert.QkvIdeal.nD Cert.QkvIdeal.τ).loc Cert.QkvIdeal.main_arg1)) (m ((c : Thread Cert.QkvIdeal.nD Cert.QkvIdeal.τ).loc Cert.QkvIdeal.main_arg2)) (m ((c : Thread Cert.QkvIdeal.nD Cert.QkvIdeal.τ).loc Cert.QkvIdeal.main_arg3)) i
    rw [← (hag c).1, ← (hag c).2.1, ← (hag c).2.2.1, ← (hag c).2.2.2]
    obtain ⟨r0, n, rfl⟩ : ∃ (r0 : Fin 1792) (n : Fin 12288), i = ix2 r0 n := ⟨i 0, i 1, by funext a; fin_cases a <;> rfl⟩
    exact qkv_ref m' c r0 n

end Cert.Hand

end
-- ==== Proof.GateIdeal.Value.lean ====
/- The output gate's projection: the array after the run is, entry by entry, the product with the int8 weights, scaled. -/
module

public import proofs.«01_k».proof.Proof.Gen.GateIdeal.Value
public import proofs.«01_k».proof.Proof.Gen.GateRefIdeal.Run
public import Idealize.ShloMosaic.Lib.Pipeline.ValueKit

@[expose] public section

set_option maxRecDepth 16384

noncomputable section

namespace Cert.GateIdeal.Hand

open Cert.GateIdeal Cert.GateIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- Every window's block at every point. -/
theorem idx : ∀ t : Fin cfg0.N, win0_0.index t = ![0, 0]
    ∧ win0_1.index t = ![0, t.val]
    ∧ win0_2.index t = ![0, 0]
    ∧ win0_3.index t = ![0, t.val]
    ∧ win0_4.index t = ![0, t.val] :=
  (by decide +kernel : ∀ t : Fin grid0.N, _)

/-- The projection, entry by entry. -/
def G (X : FVec Ideal S1792x6144 .bf16) (W : IVec S6144x4096 8) (A : FVec Ideal S1792x1 .f32) (S : FVec Ideal ⟨1, ![4096]⟩ .f32) (i : S1792x4096.Idx) : EReal :=
  (∑ k : Fin 6144, X (ix2 (i 0) k) * (FloatOps.sitofp .bf16 (W (ix2 k (i 1))) : Ideal .bf16)) * A (ix2 (i 0) 0) * S (ix1 (i 1))

/-- What a point stores. -/
theorem point (c : Dev nD) (t : Fin cfg0.N) (y) :
    k0_pay1 (F := Ideal) (iblk m c 0 t) (iblk m c 1 t) (iblk m c 2 t) (iblk m c 3 t) y
      = G (m ((c : Thread nD τ).loc main_arg0)) (m ((c : Thread nD τ).loc main_arg1)) (m ((c : Thread nD τ).loc main_arg2)) (m ((c : Thread nD τ).loc main_arg3))
          (((cfg0.win 4).blk t).view.emb y) := by
  unfold G
  pointwise [k0_pay1]
  blk_point [iblk, V, idx t]

/-- The array after the run. -/
theorem final (c : Dev nD) (i : S1792x4096.Idx) : ((dats m 0 c).arrAt 4 cfg0.N i : EReal)
    = G (m ((c : Thread nD τ).loc main_arg0)) (m ((c : Thread nD τ).loc main_arg1)) (m ((c : Thread nD τ).loc main_arg2)) (m ((c : Thread nD τ).loc main_arg3)) i := by
  refine congrFun ((dats m 0 c).arrAt_eq_of_covers 4 (fun i => G (m ((c : Thread nD τ).loc main_arg0)) (m ((c : Thread nD τ).loc main_arg1)) (m ((c : Thread nD τ).loc main_arg2)) (m ((c : Thread nD τ).loc main_arg3)) i) (by decide +kernel) fun t hf y => ?_) i
  blk_simp; rw [after0_4]; frame_out
  exact point m c t y

end Cert.GateIdeal.Hand

end
-- ==== Proof.GateAlgebraic.lean ====
/- The output gate's projection against its reference: equal at every entry. -/
module

public import proofs.«01_k».proof.Proof.GateIdeal.Value
public import proofs.«01_k».proof.Proof.Gen.GateIdeal
public import proofs.«01_k».proof.Proof.Gen.GateRefIdeal
public import proofs.«01_k».proof.Proof.IntCast
public import proofs.«01_k».proof.Defs

@[expose] public section

set_option maxRecDepth 16384

noncomputable section

namespace Cert.Hand

open Idealize.ShloMosaic Idealize.ShloMosaic.TcCoe Idealize.SL.Sem Idealize.ShloMosaic.Tactic

/-- The claim: both programs run, keep their arguments, and agree. -/
theorem gate_algebraic : Cert.algebraic_GateIdeal_GateRefIdeal := by
  intro m ρ m' ρ' _ hag
  refine ⟨fun c => Cert.GateIdeal.Hand.G (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)), ?_, ?_⟩
  · exact (θ_run Cert.GateIdeal.defs _ _).mono (fun r h c => ⟨(h c).1.trans (funext fun i => Cert.GateIdeal.Hand.final m c i), (h c).2⟩) (Cert.GateIdeal.Value.run_blocks m ρ)
  · refine (θ_run Cert.GateRefIdeal.defs _ _).mono (fun r h c => ⟨(h c).1.trans (funext fun i => ?_), (h c).2⟩) (Cert.GateRefIdeal.Value.run m' ρ')
    show _ = Cert.GateIdeal.Hand.G (m ((c : Thread Cert.GateIdeal.nD Cert.GateIdeal.τ).loc Cert.GateIdeal.main_arg0)) (m ((c : Thread Cert.GateIdeal.nD Cert.GateIdeal.τ).loc Cert.GateIdeal.main_arg1)) (m ((c : Thread Cert.GateIdeal.nD Cert.GateIdeal.τ).loc Cert.GateIdeal.main_arg2)) (m ((c : Thread Cert.GateIdeal.nD Cert.GateIdeal.τ).loc Cert.GateIdeal.main_arg3)) i
    rw [← (hag c).1, ← (hag c).2.1, ← (hag c).2.2.1, ← (hag c).2.2.2]
    unfold Cert.GateIdeal.Hand.G
    pointwise []
    simp only [sitofp_signExtend]

end Cert.Hand

end
-- ==== Proof.OutIdeal.Value.lean ====
/- The output projection: the array after the run is, entry by entry, the scaled product with the int8 weights plus the weighted normalised input. -/
module

public import proofs.«01_k».proof.Proof.Gen.OutIdeal.Value
public import proofs.«01_k».proof.Proof.Gen.OutRefIdeal.Run
public import Idealize.ShloMosaic.Lib.Pipeline.ValueKit

@[expose] public section

set_option maxRecDepth 16384

noncomputable section

namespace Cert.OutIdeal.Hand

open Cert.OutIdeal Cert.OutIdeal.Gen
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- Every window's block at every point. -/
theorem idx : ∀ t : Fin cfg0.N, win0_0.index t = ![0, 0]
    ∧ win0_1.index t = ![0, t.val]
    ∧ win0_2.index t = ![0, 0]
    ∧ win0_3.index t = ![0, t.val]
    ∧ win0_4.index t = ![0, t.val]
    ∧ win0_5.index t = ![0, 0]
    ∧ win0_6.index t = ![0, t.val]
    ∧ win0_7.index t = ![0, t.val] :=
  (by decide +kernel : ∀ t : Fin grid0.N, _)

/-- The second residual, entry by entry. -/
def G (U : FVec Ideal S1792x4096 .bf16) (W : IVec S4096x6144 8) (A : FVec Ideal S1792x1 .f32) (S : FVec Ideal S6144 .f32)
    (X : FVec Ideal S1792x6144 .bf16) (D : FVec Ideal S1792x1 .f32) (N : FVec Ideal S1x6144 .f32) (i : S1792x6144.Idx) : EReal :=
  Ideal.ofBits .f32 0x40639EA9#32 * (Ideal.div (X i) (D (ix2 (i 0) 0)) * N (ix2 0 (i 1)))
    + Ideal.ofBits .f32 0x3F800000#32 * ((∑ k : Fin 4096, U (ix2 (i 0) k) * (FloatOps.sitofp .bf16 (W (ix2 k (i 1))) : Ideal .bf16)) * A (ix2 (i 0) 0) * S (ix1 (i 1)))

/-- What a point stores. -/
theorem point (c : Dev nD) (t : Fin cfg0.N) (y) :
    k0_pay1 (F := Ideal) (iblk m c 0 t) (iblk m c 1 t) (iblk m c 2 t) (iblk m c 3 t) (iblk m c 4 t) (iblk m c 5 t) (iblk m c 6 t) y
      = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
          (((cfg0.win 7).blk t).view.emb y) := by
  unfold G
  pointwise [k0_pay1]
  blk_point [iblk, V, idx t]

/-- The array after the run. -/
theorem final (c : Dev nD) (i : S1792x6144.Idx) : ((dats m 0 c).arrAt 7 cfg0.N i : EReal)
    = G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i := by
  refine congrFun ((dats m 0 c).arrAt_eq_of_covers 7 (fun i => G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) i) (by decide +kernel) fun t hf y => ?_) i
  blk_simp; rw [after0_7]; frame_out
  exact point m c t y

end Cert.OutIdeal.Hand

end
-- ==== Proof.OutAlgebraic.lean ====
/- The output projection against its reference: equal at every entry. -/
module

public import proofs.«01_k».proof.Proof.OutIdeal.Value
public import proofs.«01_k».proof.Proof.Gen.OutIdeal
public import proofs.«01_k».proof.Proof.Gen.OutRefIdeal
public import proofs.«01_k».proof.Proof.IntCast
public import proofs.«01_k».proof.Defs

@[expose] public section

set_option maxRecDepth 16384

noncomputable section

namespace Cert.Hand

open Idealize.ShloMosaic Idealize.ShloMosaic.TcCoe Idealize.SL.Sem Idealize.ShloMosaic.Tactic

/-- The claim: both programs run, keep their arguments, and agree. -/
theorem out_algebraic : Cert.algebraic_OutIdeal_OutRefIdeal := by
  intro m ρ m' ρ' _ hag
  refine ⟨fun c => Cert.OutIdeal.Hand.G (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)), ?_, ?_⟩
  · exact (θ_run Cert.OutIdeal.defs _ _).mono (fun r h c => ⟨(h c).1.trans (funext fun i => Cert.OutIdeal.Hand.final m c i), (h c).2⟩) (Cert.OutIdeal.Value.run_blocks m ρ)
  · refine (θ_run Cert.OutRefIdeal.defs _ _).mono (fun r h c => ⟨(h c).1.trans (funext fun i => ?_), (h c).2⟩) (Cert.OutRefIdeal.Value.run m' ρ')
    show _ = Cert.OutIdeal.Hand.G (m ((c : Thread Cert.OutIdeal.nD Cert.OutIdeal.τ).loc Cert.OutIdeal.main_arg0)) (m ((c : Thread Cert.OutIdeal.nD Cert.OutIdeal.τ).loc Cert.OutIdeal.main_arg1)) (m ((c : Thread Cert.OutIdeal.nD Cert.OutIdeal.τ).loc Cert.OutIdeal.main_arg2)) (m ((c : Thread Cert.OutIdeal.nD Cert.OutIdeal.τ).loc Cert.OutIdeal.main_arg3)) (m ((c : Thread Cert.OutIdeal.nD Cert.OutIdeal.τ).loc Cert.OutIdeal.main_arg4)) (m ((c : Thread Cert.OutIdeal.nD Cert.OutIdeal.τ).loc Cert.OutIdeal.main_arg5)) (m ((c : Thread Cert.OutIdeal.nD Cert.OutIdeal.τ).loc Cert.OutIdeal.main_arg6)) i
    rw [← (hag c).1, ← (hag c).2.1, ← (hag c).2.2.1, ← (hag c).2.2.2.1, ← (hag c).2.2.2.2.1, ← (hag c).2.2.2.2.2.1, ← (hag c).2.2.2.2.2.2]
    unfold Cert.OutIdeal.Hand.G
    pointwise []
    simp only [sitofp_signExtend]

end Cert.Hand

end
-- ==== Proof.GatedCodes.lean ====
/- A row normalised, weighted and gated, its scale and its int8 codes, as functions of the real values of the row, the gate's row and the weights. -/
module

public import Idealize.ShloMosaic.Lib.Pipeline.ValueKit

@[expose] public section

set_option maxRecDepth 16384

noncomputable section

namespace Cert.Hand.Gated

open Idealize.ShloMosaic

/-- The row's root mean square. -/
def den (v : Fin 4096 → EReal) : EReal :=
  Ideal.sqrt (Ideal.div (∑ k, v k * v k) (Ideal.ofBits .f32 0x45800000#32) + Ideal.ofBits .f32 0x3727C5AC#32)

/-- The normalised row, weighted, times the logistic function of the gate. -/
def nrm (v g w : Fin 4096 → EReal) (k : Fin 4096) : EReal := Ideal.div (v k) (den v) * w k * Ideal.div 1 (1 + Ideal.exp (-(g k)))

/-- Its largest magnitude. -/
def amax (v g w : Fin 4096 → EReal) : EReal :=
  Finset.fold max (Ideal.ofBits .f32 0xFF800000#32) (fun k => (FloatOps.absf (F := Ideal) (φ := .f32) (nrm v g w k) : EReal)) Finset.univ

/-- Its scale: the largest magnitude over 127, or 1 for a row of zeros. -/
def scale (v g w : Fin 4096 → EReal) : EReal :=
  if amax v g w = 0 then 1 else Ideal.div (amax v g w) (Ideal.ofBits .f32 0x42FE0000#32)

/-- Its codes, as real values: rounded to the even integer, and kept within 127. -/
def code (v g w : Fin 4096 → EReal) (k : Fin 4096) : EReal :=
  min (Ideal.ofBits .f32 0x42FE0000#32) (max (Ideal.ofBits .f32 0xC2FE0000#32)
    (Ideal.liftRound Ideal.roundHalfEven (Ideal.div (nrm v g w k) (scale v g w))))

end Cert.Hand.Gated

end
-- ==== Proof.GatedIdeal.Rows.lean ====
/- What a grid point of the gate computes of its block, row by row. -/
module

public import proofs.«01_k».proof.Proof.Gen.GatedIdeal.Skeleton
public import proofs.«01_k».proof.Proof.GatedCodes

@[expose] public section

set_option maxRecDepth 16384

noncomputable section

namespace Cert.GatedIdeal.Hand

open Cert.GatedIdeal Cert.GatedIdeal.Gen Cert.Hand.Gated
open Idealize.ShloMosaic
open Idealize.ShloMosaic.TcCoe Idealize.ShloMosaic.Tactic

variable (x : FVec Ideal S128x4096 .f32) (w : FVec Ideal S1x4096 .f32) (g : FVec Ideal S128x4096 .f32) (r : Fin 128) (n : Fin 4096)

/-- A row of the block. -/
abbrev row : Fin 4096 → EReal := fun k => x (ix2 r k)

/-- The weights. -/
abbrev wrow : Fin 4096 → EReal := fun k => w (ix2 0 k)

theorem pay2_eq : k0_pay2 (F := Ideal) x w g (ix2 r n) = nrm (row x r) (row g r) (wrow w) n := by
  unfold nrm den
  pointwise [k0_pay2]
  rfl

theorem pay3_eq : k0_pay3 (F := Ideal) x w g (ix2 r 0) = scale (row x r) (row g r) (wrow w) := by
  unfold scale amax
  simp only [← pay2_eq]
  pointwise [k0_pay3]

theorem pay4_eq : k0_pay4 (F := Ideal) x w g (ix2 r n) = code (row x r) (row g r) (wrow w) n := by
  unfold code
  rw [← pay2_eq, ← pay3_eq]
  pointwise [k0_pay4]

theorem pay5_eq : k0_pay5 (F := Ideal) x w g (ix2 r n) = FloatOps.fptosi (F := Ideal) (φ := .f32) 8 (code (row x r) (row g r) (wrow w) n) := by
  rw [← pay4_eq]
  pointwise [k0_pay5]

theorem pay6_eq : k0_pay6 (F := Ideal) x w g (ix2 r n) = code (row x r) (row g r) (wrow w) n := by
  rw [← pay4_eq]
  pointwise [k0_pay6]

theorem pay1_eq : k0_pay1 (k0_pay3 (F := Ideal) x w g) (ix3 0 0 r) = scale (row x r) (row g r) (wrow w) := by
  rw [← pay3_eq]
  pointwise [k0_pay1]

end Cert.GatedIdeal.Hand

end
-- ==== Proof.GatedIdeal.Value.lean ====
/- The gate: its four arrays after the run, entry by entry. -/
module

public import proofs.«01_k».proof.Proof.Gen.GatedIdeal.Value
public import proofs.«01_k».proof.Proof.GatedIdeal.Rows

@[expose] public section

set_option maxRecDepth 16384

noncomputable section

namespace Cert.GatedIdeal.Hand

open Cert.GatedIdeal Cert.GatedIdeal.Gen Cert.Hand.Gated
open Idealize.ShloMosaic
open Idealize.ShloMosaic.TcCoe Idealize.ShloMosaic.Tactic
open Idealize.ShloMosaic.Pipeline (Dat Cfg Window)

variable (m : (ℓ : Loc nD τ sig) → Buf (Elt Ideal) ℓ)

/-- Every window's block at every point. -/
theorem idx : ∀ t : Fin cfg0.N, win0_0.index t = ![t.val, 0]
    ∧ win0_1.index t = ![t.val, 0]
    ∧ win0_2.index t = ![0, 0]
    ∧ win0_3.index t = ![t.val, 0]
    ∧ win0_4.index t = ![t.val, 0]
    ∧ win0_5.index t = ![t.val, 0]
    ∧ win0_6.index t = ![t.val, 0, 0] :=
  (by decide +kernel : ∀ t : Fin grid0.N, _)

section

variable (X : FVec Ideal S1792x4096 .f32) (G : FVec Ideal S1792x4096 .f32) (W : FVec Ideal S1x4096 .f32)

/-- A row of the input. -/
def arow (r : Fin 1792) : Fin 4096 → EReal := fun k => X (ix2 r k)

/-- The weights. -/
def aw : Fin 4096 → EReal := fun k => W (ix2 0 k)

/-- The int8 codes. -/
def G3 (i : S1792x4096.Idx) : BitVec 8 := FloatOps.fptosi (F := Ideal) (φ := .f32) 8 (code (arow X (i 0)) (arow G (i 0)) (aw W) (i 1))

/-- The codes as floats. -/
def G4 (i : S1792x4096.Idx) : EReal := code (arow X (i 0)) (arow G (i 0)) (aw W) (i 1)

/-- The scales. -/
def G5 (i : S1792x1.Idx) : EReal := scale (arow X (i 0)) (arow G (i 0)) (aw W)

/-- The scales again, 128 to a row. -/
def G6 (i : S14x1x128.Idx) : EReal :=
  scale (arow X ⟨(i 0).val * 128 + (i 2).val, by
    have h0 : (i 0).val < 14 := (i 0).isLt
    have h2 : (i 2).val < 128 := (i 2).isLt
    omega⟩) (arow G ⟨(i 0).val * 128 + (i 2).val, by
    have h0 : (i 0).val < 14 := (i 0).isLt
    have h2 : (i 2).val < 128 := (i 2).isLt
    omega⟩) (aw W)

end

/-- A row of a point's block is a row of the input. -/
theorem row_iblk (c : Dev nD) (t : Fin cfg0.N) (r : Fin 128) (h : t.val * 128 + r.val < 1792) :
    row (iblk m c 0 t) r = arow (m ((c : Thread nD τ).loc main_arg0)) ⟨t.val * 128 + r.val, h⟩ := by
  funext k
  unfold row arow
  blk_point [iblk, V, idx t]

/-- A row of a point's block of the gate is a row of the gate. -/
theorem grow_iblk (c : Dev nD) (t : Fin cfg0.N) (r : Fin 128) (h : t.val * 128 + r.val < 1792) :
    row (iblk m c 1 t) r = arow (m ((c : Thread nD τ).loc main_arg1)) ⟨t.val * 128 + r.val, h⟩ := by
  funext k
  unfold row arow
  blk_point [iblk, V, idx t]

/-- The weights are whole in every block. -/
theorem wrow_iblk (c : Dev nD) (t : Fin cfg0.N) : wrow (iblk m c 2 t) = aw (m ((c : Thread nD τ).loc main_arg2)) := by
  funext k
  unfold wrow aw
  blk_point [iblk, V, idx t]

/-- A point's row is within the array. -/
theorem row_lt (t : Fin cfg0.N) (r : Fin 128) : t.val * 128 + r.val < 1792 := by
  have : t.val < 14 := t.isLt
  omega

/-- What a point stores in window 3. -/
theorem point3 (c : Dev nD) (t : Fin cfg0.N) (y : S128x4096.Idx) :
    (k0_pay5 (F := Ideal) (iblk m c 0 t) (iblk m c 2 t) (iblk m c 1 t) y : BitVec 8) = G3 (m ((c : Thread nD τ).loc main_arg0)) (m ((c : Thread nD τ).loc main_arg1)) (m ((c : Thread nD τ).loc main_arg2)) (((cfg0.win 3).blk t).view.emb y) := by
  obtain ⟨r, n, rfl⟩ : ∃ (r : Fin 128) (n : Fin 4096), y = ix2 r n := ⟨y 0, y 1, by funext a; fin_cases a <;> rfl⟩
  have he : ((cfg0.win 3).blk t).view.emb (ix2 r n) = ix2 (⟨t.val * 128 + r.val, row_lt t r⟩ : Fin 1792) n := by
    blk_ext [idx t]
  rw [he]
  refine (pay5_eq (iblk m c 0 t) (iblk m c 2 t) (iblk m c 1 t) r n).trans ?_
  rw [row_iblk m c t r (row_lt t r), grow_iblk m c t r (row_lt t r), wrow_iblk m c t]
  rfl

/-- Window 3's array after the run. -/
theorem final3 (c : Dev nD) : (dats m 0 c).arrAt 3 cfg0.N = G3 (m ((c : Thread nD τ).loc main_arg0)) (m ((c : Thread nD τ).loc main_arg1)) (m ((c : Thread nD τ).loc main_arg2)) := by
  refine (dats m 0 c).arrAt_eq_of_covers 3 (G3 (m ((c : Thread nD τ).loc main_arg0)) (m ((c : Thread nD τ).loc main_arg1)) (m ((c : Thread nD τ).loc main_arg2))) (by decide +kernel) fun t hf y => ?_
  blk_simp; rw [after0_3]; frame_out
  exact point3 m c t y

/-- What a point stores in window 4. -/
theorem point4 (c : Dev nD) (t : Fin cfg0.N) (y : S128x4096.Idx) :
    (k0_pay6 (F := Ideal) (iblk m c 0 t) (iblk m c 2 t) (iblk m c 1 t) y : EReal) = G4 (m ((c : Thread nD τ).loc main_arg0)) (m ((c : Thread nD τ).loc main_arg1)) (m ((c : Thread nD τ).loc main_arg2)) (((cfg0.win 4).blk t).view.emb y) := by
  obtain ⟨r, n, rfl⟩ : ∃ (r : Fin 128) (n : Fin 4096), y = ix2 r n := ⟨y 0, y 1, by funext a; fin_cases a <;> rfl⟩
  have he : ((cfg0.win 4).blk t).view.emb (ix2 r n) = ix2 (⟨t.val * 128 + r.val, row_lt t r⟩ : Fin 1792) n := by
    blk_ext [idx t]
  rw [he]
  refine (pay6_eq (iblk m c 0 t) (iblk m c 2 t) (iblk m c 1 t) r n).trans ?_
  rw [row_iblk m c t r (row_lt t r), grow_iblk m c t r (row_lt t r), wrow_iblk m c t]
  rfl

/-- Window 4's array after the run. -/
theorem final4 (c : Dev nD) : (dats m 0 c).arrAt 4 cfg0.N = G4 (m ((c : Thread nD τ).loc main_arg0)) (m ((c : Thread nD τ).loc main_arg1)) (m ((c : Thread nD τ).loc main_arg2)) := by
  refine (dats m 0 c).arrAt_eq_of_covers 4 (G4 (m ((c : Thread nD τ).loc main_arg0)) (m ((c : Thread nD τ).loc main_arg1)) (m ((c : Thread nD τ).loc main_arg2))) (by decide +kernel) fun t hf y => ?_
  blk_simp; rw [after0_4]; frame_out
  exact point4 m c t y

/-- The scales' block, read off the whole blocks. -/
theorem pay7_eq (x g : FVec Ideal S128x4096 .f32) (w : FVec Ideal S1x4096 .f32) : k0_pay7 (F := Ideal) x g w = k0_pay3 x w g := by
  unfold k0_pay7
  frame_out

/-- What a point stores in window 5. -/
theorem point5 (c : Dev nD) (t : Fin cfg0.N) (y : S128x1.Idx) :
    (k0_pay3 (F := Ideal) (iblk m c 0 t) (iblk m c 2 t) (iblk m c 1 t) y : EReal) = G5 (m ((c : Thread nD τ).loc main_arg0)) (m ((c : Thread nD τ).loc main_arg1)) (m ((c : Thread nD τ).loc main_arg2)) (((cfg0.win 5).blk t).view.emb y) := by
  obtain ⟨r, rfl⟩ : ∃ r : Fin 128, y = ix2 r 0 := ⟨y 0, by funext a; fin_cases a; exacts [rfl, Subsingleton.elim (α := Fin 1) _ _]⟩
  have he : ((cfg0.win 5).blk t).view.emb (ix2 r 0) = ix2 (⟨t.val * 128 + r.val, row_lt t r⟩ : Fin 1792) 0 := by
    blk_ext [idx t]
  rw [he]
  refine (pay3_eq (iblk m c 0 t) (iblk m c 2 t) (iblk m c 1 t) r).trans ?_
  rw [row_iblk m c t r (row_lt t r), grow_iblk m c t r (row_lt t r), wrow_iblk m c t]
  rfl

/-- Window 5's array after the run. -/
theorem final5 (c : Dev nD) : (dats m 0 c).arrAt 5 cfg0.N = G5 (m ((c : Thread nD τ).loc main_arg0)) (m ((c : Thread nD τ).loc main_arg1)) (m ((c : Thread nD τ).loc main_arg2)) := by
  refine (dats m 0 c).arrAt_eq_of_covers 5 (G5 (m ((c : Thread nD τ).loc main_arg0)) (m ((c : Thread nD τ).loc main_arg1)) (m ((c : Thread nD τ).loc main_arg2))) (by decide +kernel) fun t hf y => ?_
  blk_simp; rw [after0_5]; frame_out
  rw [pay7_eq]
  exact point5 m c t y

/-- What a point stores in window 6. -/
theorem point6 (c : Dev nD) (t : Fin cfg0.N) (y : S1x1x128.Idx) :
    (k0_pay1 (k0_pay3 (F := Ideal) (iblk m c 0 t) (iblk m c 2 t) (iblk m c 1 t)) y : EReal) = G6 (m ((c : Thread nD τ).loc main_arg0)) (m ((c : Thread nD τ).loc main_arg1)) (m ((c : Thread nD τ).loc main_arg2)) (((cfg0.win 6).blk t).view.emb y) := by
  obtain ⟨r, rfl⟩ : ∃ r : Fin 128, y = ix3 0 0 r := ⟨y 2, by funext a; fin_cases a; exacts [Subsingleton.elim (α := Fin 1) _ _, Subsingleton.elim (α := Fin 1) _ _, rfl]⟩
  have he : ((cfg0.win 6).blk t).view.emb (ix3 0 0 r) = ix3 (⟨t.val, t.isLt⟩ : Fin 14) 0 r := by
    blk_ext [idx t]
  rw [he]
  refine (pay1_eq (iblk m c 0 t) (iblk m c 2 t) (iblk m c 1 t) r).trans ?_
  rw [row_iblk m c t r (row_lt t r), grow_iblk m c t r (row_lt t r), wrow_iblk m c t]
  rfl

/-- Window 6's array after the run. -/
theorem final6 (c : Dev nD) : (dats m 0 c).arrAt 6 cfg0.N = G6 (m ((c : Thread nD τ).loc main_arg0)) (m ((c : Thread nD τ).loc main_arg1)) (m ((c : Thread nD τ).loc main_arg2)) := by
  refine (dats m 0 c).arrAt_eq_of_covers 6 (G6 (m ((c : Thread nD τ).loc main_arg0)) (m ((c : Thread nD τ).loc main_arg1)) (m ((c : Thread nD τ).loc main_arg2))) (by decide +kernel) fun t hf y => ?_
  blk_simp; rw [after0_6]; frame_out
  rw [pay7_eq]
  exact point6 m c t y

end Cert.GatedIdeal.Hand

end
-- ==== Proof.GatedRefIdeal.Rows.lean ====
/- The reference's gate, entry by entry. -/
module

public import proofs.«01_k».proof.Proof.Gen.GatedRefIdeal.Run
public import proofs.«01_k».proof.Proof.GatedIdeal.Value

@[expose] public section

set_option maxRecDepth 16384

noncomputable section

namespace Cert.GatedRefIdeal.Hand

open Cert.GatedRefIdeal Cert.GatedRefIdeal.Gen Cert.Hand.Gated
open Cert.GatedIdeal.Hand (arow aw)
open Idealize.ShloMosaic
open Idealize.ShloMosaic.TcCoe Idealize.ShloMosaic.Tactic

variable (X : FVec Ideal S1792x4096 .f32) (G : FVec Ideal S1792x4096 .f32) (W : FVec Ideal S1x4096 .f32)

/-- The rows' root mean squares. -/
def denT : FVec Ideal S1792x1 .f32 :=
  Host.sqrt (addf (Host.divf (broadcastInDim S1792x1 ![0] bcast_S1792_S1792x1_0 (Host.reduceAdd (mulf X X) (constant S_ .f32 0x00000000#32) reducesTo_S1792x4096_S1792_d1 h_S_)) (broadcastInDim S1792x1 ![] bcast_S_S1792x1 (constant S_ .f32 0x45800000#32))) (broadcastInDim S1792x1 ![] bcast_S_S1792x1 (constant S_ .f32 0x3727C5AC#32)))

/-- The normalised rows, weighted and gated. -/
def nrmT : FVec Ideal S1792x4096 .f32 :=
  mulf (mulf (Host.divf X (broadcastInDim S1792x4096 ![0, 1] bcast_S1792x1_S1792x4096_0_1 (denT X))) (broadcastInDim S1792x4096 ![0, 1] bcast_S1x4096_S1792x4096_0_1 W)) (Host.divf (broadcastInDim S1792x4096 ![] bcast_S_S1792x4096 (constant S_ .f32 0x3F800000#32)) (addf (broadcastInDim S1792x4096 ![] bcast_S_S1792x4096 (constant S_ .f32 0x3F800000#32)) (Host.exp (Host.negf G))))

/-- The scales. -/
def scaleT : FVec Ideal S1792x1 .f32 :=
  select (cmpf .oeq (broadcastInDim S1792x1 ![0] bcast_S1792_S1792x1_0 (Host.reduce FloatOps.maximumf (Host.absf (nrmT X G W)) (constant S_ .f32 0xFF800000#32) reducesTo_S1792x4096_S1792_d1 h_S_)) (broadcastInDim S1792x1 ![] bcast_S_S1792x1 (constant S_ .f32 0x00000000#32))) (broadcastInDim S1792x1 ![] bcast_S_S1792x1 (id (constant S_ .f32 0x3F800000#32))) (Host.divf (broadcastInDim S1792x1 ![0] bcast_S1792_S1792x1_0 (Host.reduce FloatOps.maximumf (Host.absf (nrmT X G W)) (constant S_ .f32 0xFF800000#32) reducesTo_S1792x4096_S1792_d1 h_S_)) (broadcastInDim S1792x1 ![] bcast_S_S1792x1 (constant S_ .f32 0x42FE0000#32)))

/-- The codes. -/
def codeT : FVec Ideal S1792x4096 .f32 :=
  minimumf (broadcastInDim S1792x4096 ![] bcast_S_S1792x4096 (id (constant S_ .f32 0x42FE0000#32))) (maximumf (broadcastInDim S1792x4096 ![] bcast_S_S1792x4096 (id (constant S_ .f32 0xC2FE0000#32))) (Host.roundeven (Host.divf (nrmT X G W) (broadcastInDim S1792x4096 ![0, 1] bcast_S1792x1_S1792x4096_0_1 (scaleT X G W)))))

theorem denT_eq (r : Fin 1792) : denT X (ix2 r 0) = den (arow X r) := by
  unfold den arow
  pointwise [denT]

/-- An entry of a row divided by its norm, weighted, and gated. -/
theorem nrmT_at (D : FVec Ideal S1792x1 .f32) (r : Fin 1792) (n : Fin 4096) :
    mulf (mulf (Host.divf X (broadcastInDim S1792x4096 ![0, 1] bcast_S1792x1_S1792x4096_0_1 D)) (broadcastInDim S1792x4096 ![0, 1] bcast_S1x4096_S1792x4096_0_1 W)) (Host.divf (broadcastInDim S1792x4096 ![] bcast_S_S1792x4096 (constant S_ .f32 0x3F800000#32)) (addf (broadcastInDim S1792x4096 ![] bcast_S_S1792x4096 (constant S_ .f32 0x3F800000#32)) (Host.exp (Host.negf G)))) (ix2 r n)
      = Ideal.div (X (ix2 r n)) (D (ix2 r 0)) * W (ix2 0 n) * Ideal.div 1 (1 + Ideal.exp (-(G (ix2 r n)))) := by
  pointwise []

/-- The largest magnitude of a row. -/
theorem amaxT_at (N : FVec Ideal S1792x4096 .f32) (r : Fin 1792) :
    broadcastInDim S1792x1 ![0] bcast_S1792_S1792x1_0 (Host.reduce FloatOps.maximumf (Host.absf N) (constant S_ .f32 0xFF800000#32) reducesTo_S1792x4096_S1792_d1 h_S_) (ix2 r 0)
      = Finset.fold max (Ideal.ofBits .f32 0xFF800000#32) (fun k => (FloatOps.absf (F := Ideal) (φ := .f32) (N (ix2 r k)) : EReal)) Finset.univ := by
  pointwise []

/-- The scale of a row from its largest magnitude. -/
theorem scaleT_at (A : FVec Ideal S1792x1 .f32) (r : Fin 1792) :
    select (cmpf .oeq A (broadcastInDim S1792x1 ![] bcast_S_S1792x1 (constant S_ .f32 0x00000000#32))) (broadcastInDim S1792x1 ![] bcast_S_S1792x1 (id (constant S_ .f32 0x3F800000#32))) (Host.divf A (broadcastInDim S1792x1 ![] bcast_S_S1792x1 (constant S_ .f32 0x42FE0000#32))) (ix2 r 0)
      = if A (ix2 r 0) = (0 : EReal) then (1 : EReal) else Ideal.div (A (ix2 r 0)) (Ideal.ofBits .f32 0x42FE0000#32) := by
  pointwise [id_eq]

/-- The code of an entry from its value and its row's scale. -/
theorem codeT_at (N : FVec Ideal S1792x4096 .f32) (A : FVec Ideal S1792x1 .f32) (r : Fin 1792) (n : Fin 4096) :
    minimumf (broadcastInDim S1792x4096 ![] bcast_S_S1792x4096 (id (constant S_ .f32 0x42FE0000#32))) (maximumf (broadcastInDim S1792x4096 ![] bcast_S_S1792x4096 (id (constant S_ .f32 0xC2FE0000#32))) (Host.roundeven (Host.divf N (broadcastInDim S1792x4096 ![0, 1] bcast_S1792x1_S1792x4096_0_1 A)))) (ix2 r n)
      = min (Ideal.ofBits .f32 0x42FE0000#32) (max (Ideal.ofBits .f32 0xC2FE0000#32) (Ideal.liftRound Ideal.roundHalfEven (Ideal.div (N (ix2 r n)) (A (ix2 r 0))))) := by
  pointwise [id_eq]

theorem nrmT_eq (r : Fin 1792) (n : Fin 4096) : nrmT X G W (ix2 r n) = nrm (arow X r) (arow G r) (aw W) n := by
  refine (nrmT_at X G W (denT X) r n).trans ?_
  rw [denT_eq]
  rfl

theorem scaleT_eq (r : Fin 1792) : scaleT X G W (ix2 r 0) = scale (arow X r) (arow G r) (aw W) := by
  refine (scaleT_at _ r).trans ?_
  rw [amaxT_at]
  simp only [nrmT_eq]
  rfl

theorem codeT_eq (r : Fin 1792) (n : Fin 4096) : codeT X G W (ix2 r n) = code (arow X r) (arow G r) (aw W) n := by
  refine (codeT_at _ _ r n).trans ?_
  rw [nrmT_eq, scaleT_eq]
  rfl

end Cert.GatedRefIdeal.Hand

end
-- ==== Proof.GatedAlgebraic.lean ====
/- The gate against its reference: its four results are equal. -/
module

public import proofs.«01_k».proof.Proof.GatedIdeal.Value
public import proofs.«01_k».proof.Proof.GatedRefIdeal.Rows
public import proofs.«01_k».proof.Proof.CodeCast
public import proofs.«01_k».proof.Proof.Gen.GatedIdeal
public import proofs.«01_k».proof.Proof.Gen.GatedRefIdeal
public import proofs.«01_k».proof.Defs

@[expose] public section

set_option maxRecDepth 16384

noncomputable section

namespace Cert.Hand

open Cert.GatedRefIdeal Cert.GatedRefIdeal.Gen Cert.GatedRefIdeal.Hand
open Cert.GatedIdeal.Hand (arow aw G3 G4 G5 G6)
open Idealize.ShloMosaic Idealize.ShloMosaic.TcCoe Idealize.SL.Sem Idealize.ShloMosaic.Tactic

variable (X : FVec Ideal S1792x4096 .f32) (G : FVec Ideal S1792x4096 .f32) (W : FVec Ideal S1x4096 .f32)

/-- The reference's int8 codes are the kernel's. -/
theorem gated_ref3 : trunci 8 (fptosi 32 (codeT X G W)) natLt_8_32 = G3 X G W := by
  funext i
  obtain ⟨r, n, rfl⟩ : ∃ (r : Fin 1792) (n : Fin 4096), i = ix2 r n := ⟨i 0, i 1, by funext a; fin_cases a <;> rfl⟩
  show (FloatOps.fptosi (F := Ideal) (φ := .f32) 32 (codeT X G W (ix2 r n))).setWidth 8 = _
  rw [codeT_eq]
  exact fptosi_clip _

/-- Its codes as floats. -/
theorem gated_ref4 : truncf .bf16 (codeT X G W) bitsLt_bf16_f32 = G4 X G W := by
  funext i
  obtain ⟨r, n, rfl⟩ : ∃ (r : Fin 1792) (n : Fin 4096), i = ix2 r n := ⟨i 0, i 1, by funext a; fin_cases a <;> rfl⟩
  exact codeT_eq X G W r n

/-- Its scales. -/
theorem gated_ref5 : scaleT X G W = G5 X G W := by
  funext i
  obtain ⟨r, rfl⟩ : ∃ r : Fin 1792, i = ix2 r 0 := ⟨i 0, by funext a; fin_cases a; exacts [rfl, Subsingleton.elim (α := Fin 1) _ _]⟩
  exact scaleT_eq X G W r

/-- Its scales, 128 to a row. -/
theorem gated_ref6 : shapeCast S14x1x128 (scaleT X G W) shapeCasts_S1792x1_S14x1x128 = G6 X G W := by
  funext i
  obtain ⟨b, r, rfl⟩ : ∃ (b : Fin 14) (r : Fin 128), i = ix3 b 0 r := ⟨i 0, i 2, by funext a; fin_cases a; exacts [rfl, Subsingleton.elim (α := Fin 1) _ _, rfl]⟩
  refine Eq.trans ?_ (scaleT_eq X G W ⟨b.val * 128 + r.val, by omega⟩)
  pointwise []

/-- The claim: both programs run, keep their arguments, and agree. -/
theorem gated_algebraic : Cert.algebraic_GatedIdeal_GatedRefIdeal := by
  intro m ρ m' ρ' _ hag
  refine ⟨fun c => G3 (m ((c : Thread Cert.GatedIdeal.nD Cert.GatedIdeal.τ).loc Cert.GatedIdeal.main_arg0)) (m ((c : Thread Cert.GatedIdeal.nD Cert.GatedIdeal.τ).loc Cert.GatedIdeal.main_arg1)) (m ((c : Thread Cert.GatedIdeal.nD Cert.GatedIdeal.τ).loc Cert.GatedIdeal.main_arg2)), fun c => G4 (m ((c : Thread Cert.GatedIdeal.nD Cert.GatedIdeal.τ).loc Cert.GatedIdeal.main_arg0)) (m ((c : Thread Cert.GatedIdeal.nD Cert.GatedIdeal.τ).loc Cert.GatedIdeal.main_arg1)) (m ((c : Thread Cert.GatedIdeal.nD Cert.GatedIdeal.τ).loc Cert.GatedIdeal.main_arg2)), fun c => G5 (m ((c : Thread Cert.GatedIdeal.nD Cert.GatedIdeal.τ).loc Cert.GatedIdeal.main_arg0)) (m ((c : Thread Cert.GatedIdeal.nD Cert.GatedIdeal.τ).loc Cert.GatedIdeal.main_arg1)) (m ((c : Thread Cert.GatedIdeal.nD Cert.GatedIdeal.τ).loc Cert.GatedIdeal.main_arg2)), fun c => G6 (m ((c : Thread Cert.GatedIdeal.nD Cert.GatedIdeal.τ).loc Cert.GatedIdeal.main_arg0)) (m ((c : Thread Cert.GatedIdeal.nD Cert.GatedIdeal.τ).loc Cert.GatedIdeal.main_arg1)) (m ((c : Thread Cert.GatedIdeal.nD Cert.GatedIdeal.τ).loc Cert.GatedIdeal.main_arg2)), ?_, ?_⟩
  · exact (θ_run Cert.GatedIdeal.defs _ _).mono (fun r h c => ⟨(h c).1.trans (Cert.GatedIdeal.Hand.final3 m c), (h c).2.1.trans (Cert.GatedIdeal.Hand.final4 m c),
      (h c).2.2.1.trans (Cert.GatedIdeal.Hand.final5 m c), (h c).2.2.2.1.trans (Cert.GatedIdeal.Hand.final6 m c), (h c).2.2.2.2⟩) (Cert.GatedIdeal.Value.run_blocks m ρ)
  · refine (θ_run Cert.GatedRefIdeal.defs _ _).mono (fun r h c => ?_) (Cert.GatedRefIdeal.Value.run m' ρ')
    have h' := h c
    rw [(hag c).1, (hag c).2.1, (hag c).2.2] at h'
    refine ⟨h'.1.trans (gated_ref3 _ _ _), h'.2.1.trans (gated_ref4 _ _ _), h'.2.2.1.trans (gated_ref5 _ _ _), h'.2.2.2.1.trans (gated_ref6 _ _ _), (h c).2.2.2.2⟩

end Cert.Hand

end
-- ==== Proof.lean ====
/- The proof of the certificate's claim. The frames of the two feed-forward kernels are in `Proof/<Program>/Admit.lean`, those
   of the other kernels are generated, those of the references are in `Proof/<Program>/Frame.lean` and `Proof/RefFrames.lean`;
   the value claims are in `Proof/<Program>Algebraic.lean`. The kernels are idealized without a rewrite, so `preserves` is
   trivial. -/
module

public import proofs.«01_k».proof.Defs
public import proofs.«01_k».proof.Proof.Gen.Up
public import proofs.«01_k».proof.Proof.Gen.Up.Skeleton
public import proofs.«01_k».proof.Proof.Gen.Up.Launch
public import proofs.«01_k».proof.Proof.Up.Launch
public import proofs.«01_k».proof.Proof.Gen.UpIdeal
public import proofs.«01_k».proof.Proof.Gen.UpIdeal.Skeleton
public import proofs.«01_k».proof.Proof.Gen.UpIdeal.Launch
public import proofs.«01_k».proof.Proof.UpIdeal.Launch
public import proofs.«01_k».proof.Proof.Gen.UpRefIdeal
public import proofs.«01_k».proof.Proof.Gen.Down
public import proofs.«01_k».proof.Proof.Gen.Down.Skeleton
public import proofs.«01_k».proof.Proof.Gen.Down.Launch
public import proofs.«01_k».proof.Proof.Down.Launch
public import proofs.«01_k».proof.Proof.Gen.DownIdeal
public import proofs.«01_k».proof.Proof.Gen.DownIdeal.Skeleton
public import proofs.«01_k».proof.Proof.Gen.DownIdeal.Launch
public import proofs.«01_k».proof.Proof.DownIdeal.Launch
public import proofs.«01_k».proof.Proof.Gen.DownRefIdeal
public import proofs.«01_k».proof.Proof.Gen.DownRefIdeal.Run
public import proofs.«01_k».proof.Proof.Gen.UpRefIdeal.Run
public import proofs.«01_k».proof.Proof.Gen.Pre_pre1
public import proofs.«01_k».proof.Proof.Gen.Pre_pre2
public import proofs.«01_k».proof.Proof.Gen.On_on1
public import proofs.«01_k».proof.Proof.Gen.On_on2
public import proofs.«01_k».proof.Proof.Gen.NormIdeal.Value
public import proofs.«01_k».proof.Proof.Gen.NormRefIdeal.Run
public import proofs.«01_k».proof.Proof.Gen.QkvIdeal.Value
public import proofs.«01_k».proof.Proof.Gen.QkvRefIdeal.Run
public import proofs.«01_k».proof.Proof.Gen.GateIdeal.Value
public import proofs.«01_k».proof.Proof.Gen.GateRefIdeal.Run
public import proofs.«01_k».proof.Proof.Gen.OutIdeal.Value
public import proofs.«01_k».proof.Proof.Gen.OutRefIdeal.Run
public import proofs.«01_k».proof.Proof.Up.Admit
public import proofs.«01_k».proof.Proof.UpIdeal.Admit
public import proofs.«01_k».proof.Proof.Down.Admit
public import proofs.«01_k».proof.Proof.DownIdeal.Admit
public import proofs.«01_k».proof.Proof.UpRefIdeal.Frame
public import proofs.«01_k».proof.Proof.DownRefIdeal.Frame
public import proofs.«01_k».proof.Proof.UpAlgebraic
public import proofs.«01_k».proof.Proof.DownAlgebraic
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormRefIdeal
public import proofs.«01_k».proof.Proof.Gen.Qkv
public import proofs.«01_k».proof.Proof.Gen.Qkv.Frame
public import proofs.«01_k».proof.Proof.Gen.QkvIdeal
public import proofs.«01_k».proof.Proof.Gen.QkvIdeal.Frame
public import proofs.«01_k».proof.Proof.Gen.QkvRefIdeal
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateRefIdeal
public import proofs.«01_k».proof.Proof.Gen.Out
public import proofs.«01_k».proof.Proof.Gen.Out.Frame
public import proofs.«01_k».proof.Proof.Gen.OutIdeal
public import proofs.«01_k».proof.Proof.Gen.OutIdeal.Frame
public import proofs.«01_k».proof.Proof.Gen.OutRefIdeal
public import proofs.«01_k».proof.Proof.RefFrames
public import proofs.«01_k».proof.Proof.Gen.GatedIdeal.Value
public import proofs.«01_k».proof.Proof.Gen.GatedRefIdeal.Run
public import proofs.«01_k».proof.Proof.Gen.AttnIdeal.Value
public import proofs.«01_k».proof.Proof.Gen.Attn.Frame
public import proofs.«01_k».proof.Proof.Gen.Gated.Frame
public import proofs.«01_k».proof.Proof.Gen.Gated
public import proofs.«01_k».proof.Proof.Gen.GatedIdeal
public import proofs.«01_k».proof.Proof.Gen.GatedIdeal.Frame
public import proofs.«01_k».proof.Proof.Gen.GatedRefIdeal
public import proofs.«01_k».proof.Proof.Gen.Attn
public import proofs.«01_k».proof.Proof.Gen.AttnIdeal
public import proofs.«01_k».proof.Proof.Gen.AttnIdeal.Frame
public import proofs.«01_k».proof.Proof.NormAlgebraic
public import proofs.«01_k».proof.Proof.QkvAlgebraic
public import proofs.«01_k».proof.Proof.GateAlgebraic
public import proofs.«01_k».proof.Proof.OutAlgebraic
public import proofs.«01_k».proof.Proof.GatedAlgebraic
public import Idealize.ShloMosaic.Adequacy
public import Idealize.ShloMosaic.Init

@[expose] public section

noncomputable section

namespace Cert.Proof

open Idealize.ShloMosaic Idealize.SL.Sem Cert.Up

/-- Everything the certificate claims. -/
theorem claim : Cert.Claim := ⟨Cert.Up.Gen.facts, Cert.UpIdeal.Gen.facts, Cert.UpRefIdeal.Gen.facts, Cert.Down.Gen.facts, Cert.DownIdeal.Gen.facts, Cert.DownRefIdeal.Gen.facts,
  Cert.Norm.Gen.facts, Cert.NormIdeal.Gen.facts, Cert.NormRefIdeal.Gen.facts, Cert.Qkv.Gen.facts, Cert.QkvIdeal.Gen.facts, Cert.QkvRefIdeal.Gen.facts,
  Cert.Gate.Gen.facts, Cert.GateIdeal.Gen.facts, Cert.GateRefIdeal.Gen.facts, Cert.Out.Gen.facts, Cert.OutIdeal.Gen.facts, Cert.OutRefIdeal.Gen.facts,
  Cert.Gated.Gen.facts, Cert.GatedIdeal.Gen.facts, Cert.GatedRefIdeal.Gen.facts, Cert.Attn.Gen.facts, Cert.AttnIdeal.Gen.facts,
  Cert.Pre_pre1.Gen.facts, Cert.Pre_pre2.Gen.facts, Cert.On_on1.Gen.facts, Cert.On_on2.Gen.facts,
  Cert.Up.Hand.quiescent, Cert.UpIdeal.Hand.quiescent, Cert.UpRefIdeal.Hand.quiescent,
  fun m ρ _ => Cert.UpRefIdeal.Hand.quiescent m ρ trivial,
  Cert.Down.Hand.quiescent, Cert.DownIdeal.Hand.quiescent, Cert.DownRefIdeal.Hand.quiescent,
  fun m ρ _ => Cert.DownRefIdeal.Hand.quiescent m ρ trivial,
  fun m ρ _ => Cert.Norm.Gen.frame m ρ, fun m ρ _ => Cert.NormIdeal.Gen.frame m ρ, Cert.Hand.norm_ref_frame,
  fun m ρ _ => Cert.Qkv.Gen.frame m ρ, fun m ρ _ => Cert.QkvIdeal.Gen.frame m ρ, Cert.Hand.qkv_ref_frame,
  fun m ρ _ => Cert.Gate.Gen.frame m ρ, fun m ρ _ => Cert.GateIdeal.Gen.frame m ρ, Cert.Hand.gate_ref_frame,
  fun m ρ _ => Cert.Out.Gen.frame m ρ, fun m ρ _ => Cert.OutIdeal.Gen.frame m ρ, Cert.Hand.out_ref_frame,
  fun m ρ _ => Cert.Gated.Gen.frame m ρ, fun m ρ _ => Cert.GatedIdeal.Gen.frame m ρ, Cert.Hand.gated_ref_frame,
  fun m ρ _ => Cert.Attn.Gen.frame m ρ, fun m ρ _ => Cert.AttnIdeal.Gen.frame m ρ,
  trivial, Cert.Hand.up_algebraic, trivial, Cert.Hand.down_algebraic,
  trivial, Cert.Hand.norm_algebraic, trivial, Cert.Hand.qkv_algebraic, trivial, Cert.Hand.gate_algebraic, trivial, Cert.Hand.out_algebraic,
  trivial, Cert.Hand.gated_algebraic, trivial⟩

end Cert.Proof

end
